-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_inputs_in_range [hPre_inputs_in_range : Cert.Pre_inputs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_inputs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_inputs_in_range [hPre_inputs_in_range : Cert.Pre_inputs_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_inputs_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_inputs_in_range [hKernelIdeal : Cert.KernelIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_inputs_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_inputs_in_range [hReferenceIdeal : Cert.ReferenceIdeal.Facts] [hPre_inputs_in_range : Cert.Pre_inputs_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_inputs_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_inputs_in_range [hKernelIdeal : Cert.KernelIdeal.Facts] [hReferenceIdeal : Cert.ReferenceIdeal.Facts] [hPre_inputs_in_range : Cert.Pre_inputs_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_inputs_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)) (v4 : (c : Dev Cert.KernelIdeal.nD) → Buf (Elt Ideal) ((c.tc : Thread Cert.KernelIdeal.nD Cert.KernelIdeal.τ).loc Cert.KernelIdeal.main_v0_4)) (v5 : (c : Dev Cert.KernelIdeal.nD) → Buf (Elt Ideal) ((c.tc : Thread Cert.KernelIdeal.nD Cert.KernelIdeal.τ).loc Cert.KernelIdeal.main_v0_5)) (v6 : (c : Dev Cert.KernelIdeal.nD) → Buf (Elt Ideal) ((c.tc : Thread Cert.KernelIdeal.nD Cert.KernelIdeal.τ).loc Cert.KernelIdeal.main_v0_6)) (v7 : (c : Dev Cert.KernelIdeal.nD) → Buf (Elt Ideal) ((c.tc : Thread Cert.KernelIdeal.nD Cert.KernelIdeal.τ).loc Cert.KernelIdeal.main_v0_7)) (v8 : (c : Dev Cert.KernelIdeal.nD) → Buf (Elt Ideal) ((c.tc : Thread Cert.KernelIdeal.nD Cert.KernelIdeal.τ).loc Cert.KernelIdeal.main_v0_8)) (v9 : (c : Dev Cert.KernelIdeal.nD) → Buf (Elt Ideal) ((c.tc : Thread Cert.KernelIdeal.nD Cert.KernelIdeal.τ).loc Cert.KernelIdeal.main_v0_9)) (v10 : (c : Dev Cert.KernelIdeal.nD) → Buf (Elt Ideal) ((c.tc : Thread Cert.KernelIdeal.nD Cert.KernelIdeal.τ).loc Cert.KernelIdeal.main_v0_10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_v0_4) = v4 c
          ∧ r.2.mem ((c.tc : Thread Cert.KernelIdeal.nD Cert.KernelIdeal.τ).loc Cert.KernelIdeal.main_v0_5) = v5 c
          ∧ r.2.mem ((c.tc : Thread Cert.KernelIdeal.nD Cert.KernelIdeal.τ).loc Cert.KernelIdeal.main_v0_6) = v6 c
          ∧ r.2.mem ((c.tc : Thread Cert.KernelIdeal.nD Cert.KernelIdeal.τ).loc Cert.KernelIdeal.main_v0_7) = v7 c
          ∧ r.2.mem ((c.tc : Thread Cert.KernelIdeal.nD Cert.KernelIdeal.τ).loc Cert.KernelIdeal.main_v0_8) = v8 c
          ∧ r.2.mem ((c.tc : Thread Cert.KernelIdeal.nD Cert.KernelIdeal.τ).loc Cert.KernelIdeal.main_v0_9) = v9 c
          ∧ r.2.mem ((c.tc : Thread Cert.KernelIdeal.nD Cert.KernelIdeal.τ).loc Cert.KernelIdeal.main_v0_10) = v10 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v184) = v0 c
          ∧ r.2.mem ((c.tc : Thread Cert.ReferenceIdeal.nD Cert.ReferenceIdeal.τ).loc Cert.ReferenceIdeal.main_v188) = v1 c
          ∧ r.2.mem ((c.tc : Thread Cert.ReferenceIdeal.nD Cert.ReferenceIdeal.τ).loc Cert.ReferenceIdeal.main_v192) = v2 c
          ∧ r.2.mem ((c.tc : Thread Cert.ReferenceIdeal.nD Cert.ReferenceIdeal.τ).loc Cert.ReferenceIdeal.main_v194) = v3 c
          ∧ r.2.mem ((c.tc : Thread Cert.ReferenceIdeal.nD Cert.ReferenceIdeal.τ).loc Cert.ReferenceIdeal.main_v44) = v4 c
          ∧ r.2.mem ((c.tc : Thread Cert.ReferenceIdeal.nD Cert.ReferenceIdeal.τ).loc Cert.ReferenceIdeal.main_v196) = v5 c
          ∧ r.2.mem ((c.tc : Thread Cert.ReferenceIdeal.nD Cert.ReferenceIdeal.τ).loc Cert.ReferenceIdeal.main_v69) = v6 c
          ∧ r.2.mem ((c.tc : Thread Cert.ReferenceIdeal.nD Cert.ReferenceIdeal.τ).loc Cert.ReferenceIdeal.main_v198) = v7 c
          ∧ r.2.mem ((c.tc : Thread Cert.ReferenceIdeal.nD Cert.ReferenceIdeal.τ).loc Cert.ReferenceIdeal.main_v94) = v8 c
          ∧ r.2.mem ((c.tc : Thread Cert.ReferenceIdeal.nD Cert.ReferenceIdeal.τ).loc Cert.ReferenceIdeal.main_v26) = v9 c
          ∧ r.2.mem ((c.tc : Thread Cert.ReferenceIdeal.nD Cert.ReferenceIdeal.τ).loc Cert.ReferenceIdeal.main_v17) = v10 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_inputs_in_range : Cert.Pre_inputs_in_range.Facts),
    quiescent_Kernel (hKernel := hKernel)
    ∧ quiescent_KernelIdeal (hKernelIdeal := hKernelIdeal)
    ∧ quiescent_KernelIdeal_pre_inputs_in_range (hKernelIdeal := hKernelIdeal) (hPre_inputs_in_range := hPre_inputs_in_range)
    ∧ quiescent_ReferenceIdeal (hReferenceIdeal := hReferenceIdeal)
    ∧ quiescent_ReferenceIdeal_pre_inputs_in_range (hReferenceIdeal := hReferenceIdeal) (hPre_inputs_in_range := hPre_inputs_in_range)
    ∧ preserves_Kernel_KernelIdeal
    ∧ algebraic_KernelIdeal_ReferenceIdeal_pre_inputs_in_range (hKernelIdeal := hKernelIdeal) (hReferenceIdeal := hReferenceIdeal) (hPre_inputs_in_range := hPre_inputs_in_range)
-- ==== Pre_inputs_in_range.lean ====
abbrev S8x2048x2048 : Shape := ⟨3, ![8, 2048, 2048]⟩
abbrev S8x2048x512 : Shape := ⟨3, ![8, 2048, 512]⟩
abbrev S8x2048x16x128 : Shape := ⟨4, ![8, 2048, 16, 128]⟩
abbrev S_ : Shape := ⟨0, ![]⟩
abbrev S8x16 : Shape := ⟨2, ![8, 16]⟩
abbrev S8x2048x4x128 : Shape := ⟨4, ![8, 2048, 4, 128]⟩
abbrev S8x4 : Shape := ⟨2, ![8, 4]⟩

class Facts : Prop where
  bitsLt_bf16_f32 : FTy.bits .bf16 < FTy.bits .f32
  shapeCasts_S8x2048x2048_S8x2048x16x128 : S8x2048x2048.ShapeCasts S8x2048x16x128
  reducesTo_S8x2048x16x128_S8x16_d1_3 : S8x2048x16x128.ReducesTo [1, 3] S8x16
  h_S_ : 0 < S_.numel
  bcast_S_S8x16 : S_.BroadcastsInDim S8x16 (![] : Fin 0 → Fin S8x16.rank)
  reducesTo_S8x16_S_d0_1 : S8x16.ReducesTo [0, 1] S_
  shapeCasts_S8x2048x512_S8x2048x4x128 : S8x2048x512.ShapeCasts S8x2048x4x128
  reducesTo_S8x2048x4x128_S8x4_d1_3 : S8x2048x4x128.ReducesTo [1, 3] S8x4
  bcast_S_S8x4 : S_.BroadcastsInDim S8x4 (![] : Fin 0 → Fin S8x4.rank)
  reducesTo_S8x4_S_d0_1 : S8x4.ReducesTo [0, 1] S_

variable [Facts]

def fn_part3 {F : FTy → Type} [FloatOps F] (main_v40 : IVec S_ 1) (main_v52 : IVec S8x16 1) : IVec S_ 1 :=
  let main_c_17 : IVec S_ 1 := constantI S_ 1 1#1
  let main_v53 : IVec S_ 1 := (fun x v => Host.reduce IntOp.andi x v reducesTo_S8x16_S_d0_1 h_S_) main_v52 main_c_17
  let main_v54 : IVec S_ 1 := andi main_v40 main_v53
  main_v54

def fn_part2 {F : FTy → Type} [FloatOps F] (main_arg3 : FVec F S8x2048x2048 .bf16) (main_v26 : IVec S_ 1) (main_v30 : FVec F S8x4 .f32) (main_v32 : IVec S8x4 1) (main_v34 : IVec S8x4 1) : IVec S_ 1 :=
  let main_cst_11 : FVec F S_ .f32 := constant S_ .f32 0x7F7F0000#32
  let main_v35 : FVec F S8x4 .f32 := broadcastInDim S8x4 ![] bcast_S_S8x4 main_cst_11
  let main_v36 : IVec S8x4 1 := cmpf .ole main_v30 main_v35
  let main_v37 : IVec S8x4 1 := andi main_v34 main_v36
  let main_v38 : IVec S8x4 1 := ori main_v32 main_v37
  let main_c_12 : IVec S_ 1 := constantI S_ 1 1#1
  let main_v39 : IVec S_ 1 := (fun x v => Host.reduce IntOp.andi x v reducesTo_S8x4_S_d0_1 h_S_) main_v38 main_c_12
  let main_v40 : IVec S_ 1 := andi main_v26 main_v39
  let main_v41 : FVec F S8x2048x2048 .f32 := (extf .f32 · bitsLt_bf16_f32) main_arg3
  let main_v42 : FVec F S8x2048x16x128 .f32 := shapeCast S8x2048x16x128 main_v41 shapeCasts_S8x2048x2048_S8x2048x16x128
  let main_v43 : FVec F S8x2048x16x128 .f32 := Host.absf main_v42
  let main_cst_13 : FVec F S_ .f32 := constant S_ .f32 0xFF800000#32
  let main_v44 : FVec F S8x16 .f32 := (fun x v => Host.reduce FloatOps.maximumf x v reducesTo_S8x2048x16x128_S8x16_d1_3 h_S_) main_v43 main_cst_13
  let main_cst_14 : FVec F S_ .f32 := constant S_ .f32 0x00000000#32
  let main_v45 : FVec F S8x16 .f32 := broadcastInDim S8x16 ![] bcast_S_S8x16 main_cst_14
  let main_v46 : IVec S8x16 1 := cmpf .oeq main_v44 main_v45
  let main_cst_15 : FVec F S_ .f32 := constant S_ .f32 0x08800000#32
  let main_v47 : FVec F S8x16 .f32 := broadcastInDim S8x16 ![] bcast_S_S8x16 main_cst_15
  let main_v48 : IVec S8x16 1 := cmpf .oge main_v44 main_v47
  let main_cst_16 : FVec F S_ .f32 := constant S_ .f32 0x7F7F0000#32
  let main_v49 : FVec F S8x16 .f32 := broadcastInDim S8x16 ![] bcast_S_S8x16 main_cst_16
  let main_v50 : IVec S8x16 1 := cmpf .ole main_v44 main_v49
  let main_v51 : IVec S8x16 1 := andi main_v48 main_v50
  let main_v52 : IVec S8x16 1 := ori main_v46 main_v51
  fn_part3 (F := F) main_v40 main_v52

def fn_part1 {F : FTy → Type} [FloatOps F] (main_arg2 : FVec F S8x2048x512 .bf16) (main_arg3 : FVec F S8x2048x2048 .bf16) (main_v12 : IVec S_ 1) (main_v16 : FVec F S8x4 .f32) (main_cst_4 : FVec F S_ .f32) : IVec S_ 1 :=
  let main_v17 : FVec F S8x4 .f32 := broadcastInDim S8x4 ![] bcast_S_S8x4 main_cst_4
  let main_v18 : IVec S8x4 1 := cmpf .oeq main_v16 main_v17
  let main_cst_5 : FVec F S_ .f32 := constant S_ .f32 0x05000000#32
  let main_v19 : FVec F S8x4 .f32 := broadcastInDim S8x4 ![] bcast_S_S8x4 main_cst_5
  let main_v20 : IVec S8x4 1 := cmpf .oge main_v16 main_v19
  let main_cst_6 : FVec F S_ .f32 := constant S_ .f32 0x7F7F0000#32
  let main_v21 : FVec F S8x4 .f32 := broadcastInDim S8x4 ![] bcast_S_S8x4 main_cst_6
  let main_v22 : IVec S8x4 1 := cmpf .ole main_v16 main_v21
  let main_v23 : IVec S8x4 1 := andi main_v20 main_v22
  let main_v24 : IVec S8x4 1 := ori main_v18 main_v23
  let main_c_7 : IVec S_ 1 := constantI S_ 1 1#1
  let main_v25 : IVec S_ 1 := (fun x v => Host.reduce IntOp.andi x v reducesTo_S8x4_S_d0_1 h_S_) main_v24 main_c_7
  let main_v26 : IVec S_ 1 := andi main_v12 main_v25
  let main_v27 : FVec F S8x2048x512 .f32 := (extf .f32 · bitsLt_bf16_f32) main_arg2
  let main_v28 : FVec F S8x2048x4x128 .f32 := shapeCast S8x2048x4x128 main_v27 shapeCasts_S8x2048x512_S8x2048x4x128
  let main_v29 : FVec F S8x2048x4x128 .f32 := Host.absf main_v28
  let main_cst_8 : FVec F S_ .f32 := constant S_ .f32 0xFF800000#32
  let main_v30 : FVec F S8x4 .f32 := (fun x v => Host.reduce FloatOps.maximumf x v reducesTo_S8x2048x4x128_S8x4_d1_3 h_S_) main_v29 main_cst_8
  let main_cst_9 : FVec F S_ .f32 := constant S_ .f32 0x00000000#32
  let main_v31 : FVec F S8x4 .f32 := broadcastInDim S8x4 ![] bcast_S_S8x4 main_cst_9
  let main_v32 : IVec S8x4 1 := cmpf .oeq main_v30 main_v31
  let main_cst_10 : FVec F S_ .f32 := constant S_ .f32 0x05000000#32
  let main_v33 : FVec F S8x4 .f32 := broadcastInDim S8x4 ![] bcast_S_S8x4 main_cst_10
  let main_v34 : IVec S8x4 1 := cmpf .oge main_v30 main_v33
  fn_part2 (F := F) main_arg3 main_v26 main_v30 main_v32 main_v34

def fn {F : FTy → Type} [FloatOps F] (main_arg0 : FVec F S8x2048x2048 .bf16) (main_arg1 : FVec F S8x2048x512 .bf16) (main_arg2 : FVec F S8x2048x512 .bf16) (main_arg3 : FVec F S8x2048x2048 .bf16) : IVec S_ 1 :=
  let main_v0 : FVec F S8x2048x2048 .f32 := (extf .f32 · bitsLt_bf16_f32) main_arg0
  let main_v1 : FVec F S8x2048x16x128 .f32 := shapeCast S8x2048x16x128 main_v0 shapeCasts_S8x2048x2048_S8x2048x16x128
  let main_v2 : FVec F S8x2048x16x128 .f32 := Host.absf main_v1
  let main_cst : FVec F S_ .f32 := constant S_ .f32 0xFF800000#32
  let main_v3 : FVec F S8x16 .f32 := (fun x v => Host.reduce FloatOps.maximumf x v reducesTo_S8x2048x16x128_S8x16_d1_3 h_S_) main_v2 main_cst
  let main_cst_0 : FVec F S_ .f32 := constant S_ .f32 0x00000000#32
  let main_v4 : FVec F S8x16 .f32 := broadcastInDim S8x16 ![] bcast_S_S8x16 main_cst_0
  let main_v5 : IVec S8x16 1 := cmpf .oeq main_v3 main_v4
  let main_cst_1 : FVec F S_ .f32 := constant S_ .f32 0x05000000#32
  let main_v6 : FVec F S8x16 .f32 := broadcastInDim S8x16 ![] bcast_S_S8x16 main_cst_1
  let main_v7 : IVec S8x16 1 := cmpf .oge main_v3 main_v6
  let main_cst_2 : FVec F S_ .f32 := constant S_ .f32 0x7F7F0000#32
  let main_v8 : FVec F S8x16 .f32 := broadcastInDim S8x16 ![] bcast_S_S8x16 main_cst_2
  let main_v9 : IVec S8x16 1 := cmpf .ole main_v3 main_v8
  let main_v10 : IVec S8x16 1 := andi main_v7 main_v9
  let main_v11 : IVec S8x16 1 := ori main_v5 main_v10
  let main_c : IVec S_ 1 := constantI S_ 1 1#1
  let main_v12 : IVec S_ 1 := (fun x v => Host.reduce IntOp.andi x v reducesTo_S8x16_S_d0_1 h_S_) main_v11 main_c
  let main_v13 : FVec F S8x2048x512 .f32 := (extf .f32 · bitsLt_bf16_f32) main_arg1
  let main_v14 : FVec F S8x2048x4x128 .f32 := shapeCast S8x2048x4x128 main_v13 shapeCasts_S8x2048x512_S8x2048x4x128
  let main_v15 : FVec F S8x2048x4x128 .f32 := Host.absf main_v14
  let main_cst_3 : FVec F S_ .f32 := constant S_ .f32 0xFF800000#32
  let main_v16 : FVec F S8x4 .f32 := (fun x v => Host.reduce FloatOps.maximumf x v reducesTo_S8x2048x4x128_S8x4_d1_3 h_S_) main_v15 main_cst_3
  let main_cst_4 : FVec F S_ .f32 := constant S_ .f32 0x00000000#32
  fn_part1 (F := F) main_arg2 main_arg3 main_v12 main_v16 main_cst_4
-- ==== Kernel.lean ====
abbrev S8x2048x2048 : Shape := ⟨3, ![8, 2048, 2048]⟩
abbrev S8x2048x512 : Shape := ⟨3, ![8, 2048, 512]⟩
abbrev S8x16 : Shape := ⟨2, ![8, 16]⟩
abbrev S8x4 : Shape := ⟨2, ![8, 4]⟩
abbrev S1x2048x128 : Shape := ⟨3, ![1, 2048, 128]⟩
abbrev S2x2048x256 : Shape := ⟨3, ![2, 2048, 256]⟩
abbrev S2048x2048 : Shape := ⟨2, ![2048, 2048]⟩
abbrev S128x2048 : Shape := ⟨2, ![128, 2048]⟩
abbrev S16x128 : Shape := ⟨2, ![16, 128]⟩
abbrev S2048x128 : Shape := ⟨2, ![2048, 128]⟩
abbrev S128 : Shape := ⟨1, ![128]⟩
abbrev S1x128 : Shape := ⟨2, ![1, 128]⟩
abbrev S1 : Shape := ⟨1, ![1]⟩
abbrev S1x1 : Shape := ⟨2, ![1, 1]⟩
abbrev S8x128 : Shape := ⟨2, ![8, 128]⟩
abbrev S1x1x1 : Shape := ⟨3, ![1, 1, 1]⟩
abbrev S256x256 : Shape := ⟨2, ![256, 256]⟩
abbrev S1x256x128 : Shape := ⟨3, ![1, 256, 128]⟩
abbrev S256x128 : Shape := ⟨2, ![256, 128]⟩
abbrev S1x256x256 : Shape := ⟨3, ![1, 256, 256]⟩
abbrev S256 : Shape := ⟨1, ![256]⟩
abbrev S1x256 : Shape := ⟨2, ![1, 256]⟩
abbrev S128x128 : Shape := ⟨2, ![128, 128]⟩
abbrev S128x256 : Shape := ⟨2, ![128, 256]⟩
abbrev S2048x256 : Shape := ⟨2, ![2048, 256]⟩
abbrev S128x1792 : Shape := ⟨2, ![128, 1792]⟩
abbrev S1792x256 : Shape := ⟨2, ![1792, 256]⟩
abbrev S128x512 : Shape := ⟨2, ![128, 512]⟩
abbrev S256x512 : Shape := ⟨2, ![256, 512]⟩
abbrev S128x1536 : Shape := ⟨2, ![128, 1536]⟩
abbrev S1536x256 : Shape := ⟨2, ![1536, 256]⟩
abbrev S128x768 : Shape := ⟨2, ![128, 768]⟩
abbrev S256x768 : Shape := ⟨2, ![256, 768]⟩
abbrev S128x1280 : Shape := ⟨2, ![128, 1280]⟩
abbrev S1280x256 : Shape := ⟨2, ![1280, 256]⟩
abbrev S128x1024 : Shape := ⟨2, ![128, 1024]⟩
abbrev S256x1024 : Shape := ⟨2, ![256, 1024]⟩
abbrev S1024x256 : Shape := ⟨2, ![1024, 256]⟩
abbrev S256x1280 : Shape := ⟨2, ![256, 1280]⟩
abbrev S768x256 : Shape := ⟨2, ![768, 256]⟩
abbrev S256x1536 : Shape := ⟨2, ![256, 1536]⟩
abbrev S512x256 : Shape := ⟨2, ![512, 256]⟩
abbrev S256x1792 : Shape := ⟨2, ![256, 1792]⟩
abbrev S256x2048 : Shape := ⟨2, ![256, 2048]⟩

abbrev nBuf : Space → Nat
  | .hbm => 15
  | .vmem => 32
  | .smem => 4
  | _ => 0

abbrev bufTy : (tb : Table) → Fin (tcTables nBuf tb) → BufTy
  | .hbm, ⟨0, _⟩ => ⟨S8x2048x2048, .bf16⟩
  | .hbm, ⟨1, _⟩ => ⟨S8x2048x512, .bf16⟩
  | .hbm, ⟨2, _⟩ => ⟨S8x2048x512, .bf16⟩
  | .hbm, ⟨3, _⟩ => ⟨S8x2048x2048, .bf16⟩
  | .hbm, ⟨4, _⟩ => ⟨S8x2048x2048, .bf16⟩
  | .hbm, ⟨5, _⟩ => ⟨S8x2048x512, .bf16⟩
  | .hbm, ⟨6, _⟩ => ⟨S8x2048x512, .bf16⟩
  | .hbm, ⟨7, _⟩ => ⟨S8x2048x2048, .fp8e4m3⟩
  | .hbm, ⟨8, _⟩ => ⟨S8x16, .f32⟩
  | .hbm, ⟨9, _⟩ => ⟨S8x2048x512, .fp8e4m3⟩
  | .hbm, ⟨10, _⟩ => ⟨S8x4, .f32⟩
  | .hbm, ⟨11, _⟩ => ⟨S8x2048x512, .fp8e4m3⟩
  | .hbm, ⟨12, _⟩ => ⟨S8x4, .f32⟩
  | .hbm, ⟨13, _⟩ => ⟨S8x2048x2048, .fp8e5m2⟩
  | .hbm, ⟨14, _⟩ => ⟨S8x16, .f32⟩
  | .local _ .vmem, ⟨0, _⟩ => ⟨S1x2048x128, .bf16⟩
  | .local _ .vmem, ⟨1, _⟩ => ⟨S1x2048x128, .bf16⟩
  | .local _ .vmem, ⟨2, _⟩ => ⟨S1x2048x128, .bf16⟩
  | .local _ .vmem, ⟨3, _⟩ => ⟨S1x2048x128, .bf16⟩
  | .local _ .vmem, ⟨4, _⟩ => ⟨S1x2048x128, .bf16⟩
  | .local _ .vmem, ⟨5, _⟩ => ⟨S1x2048x128, .bf16⟩
  | .local _ .vmem, ⟨6, _⟩ => ⟨S1x2048x128, .bf16⟩
  | .local _ .vmem, ⟨7, _⟩ => ⟨S1x2048x128, .bf16⟩
  | .local _ .vmem, ⟨8, _⟩ => ⟨S1x2048x128, .bf16⟩
  | .local _ .vmem, ⟨9, _⟩ => ⟨S1x2048x128, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x2048x128, .bf16⟩
  | .local _ .vmem, ⟨13, _⟩ => ⟨S1x2048x128, .bf16⟩
  | .local _ .vmem, ⟨14, _⟩ => ⟨S1x2048x128, .fp8e4m3⟩
  | .local _ .vmem, ⟨15, _⟩ => ⟨S1x2048x128, .fp8e4m3⟩
  | .local _ .vmem, ⟨16, _⟩ => ⟨S1x2048x128, .fp8e4m3⟩
  | .local _ .vmem, ⟨17, _⟩ => ⟨S1x2048x128, .fp8e4m3⟩
  | .local _ .vmem, ⟨18, _⟩ => ⟨S1x2048x128, .fp8e4m3⟩
  | .local _ .vmem, ⟨19, _⟩ => ⟨S1x2048x128, .fp8e4m3⟩
  | .local _ .vmem, ⟨20, _⟩ => ⟨S1x2048x128, .fp8e5m2⟩
  | .local _ .vmem, ⟨21, _⟩ => ⟨S1x2048x128, .fp8e5m2⟩
  | .local _ .vmem, ⟨22, _⟩ => ⟨S2x2048x256, .f32⟩
  | .local _ .vmem, ⟨23, _⟩ => ⟨S2048x2048, .fp8e4m3⟩
  | .local _ .vmem, ⟨24, _⟩ => ⟨S2048x2048, .bf16⟩
  | .local _ .vmem, ⟨25, _⟩ => ⟨S128x2048, .bf16⟩
  | .local _ .vmem, ⟨26, _⟩ => ⟨S128x2048, .fp8e4m3⟩
  | .local _ .vmem, ⟨27, _⟩ => ⟨S128x2048, .bf16⟩
  | .local _ .vmem, ⟨28, _⟩ => ⟨S128x2048, .fp8e5m2⟩
  | .local _ .vmem, ⟨29, _⟩ => ⟨S128x2048, .f32⟩
  | .local _ .vmem, ⟨30, _⟩ => ⟨S128x2048, .f32⟩
  | .local _ .vmem, ⟨31, _⟩ => ⟨S16x128, .f32⟩
  | .local _ .smem, ⟨0, _⟩ => ⟨S8x16, .f32⟩
  | .local _ .smem, ⟨1, _⟩ => ⟨S8x4, .f32⟩
  | .local _ .smem, ⟨2, _⟩ => ⟨S8x4, .f32⟩
  | .local _ .smem, ⟨3, _⟩ => ⟨S8x16, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev main_v0_4 : Ref sig .tc := ⟨.hbm, 8, rfl⟩
abbrev main_v0_5 : Ref sig .tc := ⟨.hbm, 9, rfl⟩
abbrev main_v0_6 : Ref sig .tc := ⟨.hbm, 10, rfl⟩
abbrev main_v0_7 : Ref sig .tc := ⟨.hbm, 11, rfl⟩
abbrev main_v0_8 : Ref sig .tc := ⟨.hbm, 12, rfl⟩
abbrev main_v0_9 : Ref sig .tc := ⟨.hbm, 13, rfl⟩
abbrev main_v0_10 : Ref sig .tc := ⟨.hbm, 14, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg11_0 : Ref sig .tc := ⟨.vmem, 18, rfl⟩
abbrev cc0_stg11_1 : Ref sig .tc := ⟨.vmem, 19, rfl⟩
abbrev cc0_stg13_0 : Ref sig .tc := ⟨.vmem, 20, rfl⟩
abbrev cc0_stg13_1 : Ref sig .tc := ⟨.vmem, 21, rfl⟩
abbrev cc0_scratch0 : Ref sig .tc := ⟨.vmem, 22, rfl⟩
abbrev cc0_scratch1 : Ref sig .tc := ⟨.vmem, 23, rfl⟩
abbrev cc0_scratch2 : Ref sig .tc := ⟨.vmem, 24, rfl⟩
abbrev cc0_scratch3 : Ref sig .tc := ⟨.vmem, 25, rfl⟩
abbrev cc0_scratch4 : Ref sig .tc := ⟨.vmem, 26, rfl⟩
abbrev cc0_scratch5 : Ref sig .tc := ⟨.vmem, 27, rfl⟩
abbrev cc0_scratch6 : Ref sig .tc := ⟨.vmem, 28, rfl⟩
abbrev cc0_scratch7 : Ref sig .tc := ⟨.vmem, 29, rfl⟩
abbrev cc0_scratch8 : Ref sig .tc := ⟨.vmem, 30, rfl⟩
abbrev cc0_scratch9 : Ref sig .tc := ⟨.vmem, 31, rfl⟩
abbrev cc0_stg8_0 : Ref sig .tc := ⟨.smem, 0, rfl⟩
abbrev cc0_stg10_0 : Ref sig .tc := ⟨.smem, 1, rfl⟩
abbrev cc0_stg12_0 : Ref sig .tc := ⟨.smem, 2, rfl⟩
abbrev cc0_stg14_0 : Ref sig .tc := ⟨.smem, 3, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem9_0 : DmaSem sig := 17
abbrev cc0_sem9_1 : DmaSem sig := 18
abbrev cc0_sem10_0 : DmaSem sig := 19
abbrev cc0_sem11_0 : DmaSem sig := 20
abbrev cc0_sem11_1 : DmaSem sig := 21
abbrev cc0_sem12_0 : DmaSem sig := 22
abbrev cc0_sem13_0 : DmaSem sig := 23
abbrev cc0_sem13_1 : DmaSem sig := 24
abbrev cc0_sem14_0 : DmaSem sig := 25

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def k0_off1 (i : grid0.Coords) : Fin 2 → Nat :=
  let arg0 : BitVec 32 := BitVec.ofNat 32 (i 0).val
  let v2911 : Index := Scalar.indexCast arg0
  let arg1 : BitVec 32 := BitVec.ofNat 32 (i 1).val
  let v2912 : Index := Scalar.indexCast arg1
  ![v2911.toNat, v2912.toNat]
def k0_off2 (i : grid0.Coords) : Fin 2 → Nat :=
  let arg0 : BitVec 32 := BitVec.ofNat 32 (i 0).val
  let v116 : Index := Scalar.indexCast arg0
  let arg1 : BitVec 32 := BitVec.ofNat 32 (i 1).val
  let c4_i32 : BitVec 32 := 4#32
  let v5 : BitVec 32 := Scalar.muli arg1 c4_i32
  let arg2 : BitVec 32 := BitVec.ofNat 32 (i 2).val
  let v6 : BitVec 32 := Scalar.addi v5 arg2
  let v117 : Index := Scalar.indexCast v6
  ![v116.toNat, v117.toNat]
def k0_cond2 (i : grid0.Coords) : BitVec 1 :=
  let arg2 : BitVec 32 := BitVec.ofNat 32 (i 2).val
  let c3_i32 : BitVec 32 := 3#32
  let v2799 : BitVec 1 := Scalar.cmpi .eq arg2 c3_i32
  let v2800 : BitVec 32 := Scalar.extui v2799
  let c0_i32_1925 : BitVec 32 := 0#32
  let v2801 : BitVec 1 := Scalar.cmpi .ne v2800 c0_i32_1925
  v2801

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_10 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_12 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let v0 : BitVec 32 := Scalar.muli arg1 c4_i32
  let v1 : BitVec 32 := Scalar.addi v0 arg2
  let c0_i32 : BitVec 32 := 0#32
  let c0_i32_0 : BitVec 32 := 0#32
  ![arg0.toNat, c0_i32.toNat, v1.toNat]

def cc0_transform_14 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x2048x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x2048x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x2048x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x2048x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x2048x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]

abbrev stage0_6 : Fin 2 → Memref sig .tc .vmem S1x2048x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x2048x128 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 1 → Memref sig .tc .smem S8x16 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1x2048x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, false]

abbrev stage0_10 : Fin 1 → Memref sig .tc .smem S8x4 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false, false]

abbrev stage0_11 : Fin 2 → Memref sig .tc .vmem S1x2048x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true, false]

abbrev stage0_12 : Fin 1 → Memref sig .tc .smem S8x4 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false, false]

abbrev stage0_13 : Fin 2 → Memref sig .tc .vmem S1x2048x128 .fp8e5m2 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true, true]

abbrev stage0_14 : Fin 1 → Memref sig .tc .smem S8x16 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false, false]
-- ==== ReferenceIdeal.lean ====
abbrev S8x2048x2048 : Shape := ⟨3, ![8, 2048, 2048]⟩
abbrev S8x2048x512 : Shape := ⟨3, ![8, 2048, 512]⟩
abbrev S8x2048x16x128 : Shape := ⟨4, ![8, 2048, 16, 128]⟩
abbrev S_ : Shape := ⟨0, ![]⟩
abbrev S8x16 : Shape := ⟨2, ![8, 16]⟩
abbrev S8x1x16x1 : Shape := ⟨4, ![8, 1, 16, 1]⟩
abbrev S8x2048x4x128 : Shape := ⟨4, ![8, 2048, 4, 128]⟩
abbrev S8x4 : Shape := ⟨2, ![8, 4]⟩
abbrev S8x1x4x1 : Shape := ⟨4, ![8, 1, 4, 1]⟩
abbrev S8x2048x4x4x128 : Shape := ⟨5, ![8, 2048, 4, 4, 128]⟩
abbrev S8x4x4 : Shape := ⟨3, ![8, 4, 4]⟩
abbrev S2048 : Shape := ⟨1, ![2048]⟩
abbrev S8x4x2048x2048x4 : Shape := ⟨5, ![8, 4, 2048, 2048, 4]⟩
abbrev S8x4x4x2048x2048 : Shape := ⟨5, ![8, 4, 4, 2048, 2048]⟩
abbrev S8x4x4x1x1 : Shape := ⟨5, ![8, 4, 4, 1, 1]⟩
abbrev S8x4x1x1x1 : Shape := ⟨5, ![8, 4, 1, 1, 1]⟩
abbrev S1x2048 : Shape := ⟨2, ![1, 2048]⟩
abbrev S2048x1 : Shape := ⟨2, ![2048, 1]⟩
abbrev S2048x2048 : Shape := ⟨2, ![2048, 2048]⟩
abbrev S8x4x4x2048 : Shape := ⟨4, ![8, 4, 4, 2048]⟩
abbrev S8x4x4x2048x1 : Shape := ⟨5, ![8, 4, 4, 2048, 1]⟩
abbrev S8x4x4x2048x128 : Shape := ⟨5, ![8, 4, 4, 2048, 128]⟩
abbrev S8x1x4x4x1 : Shape := ⟨5, ![8, 1, 4, 4, 1]⟩
abbrev S8x4x2048x128 : Shape := ⟨4, ![8, 4, 2048, 128]⟩

abbrev nBuf : Space → Nat
  | .hbm => 293
  | .vmem => 2
  | .smem => 0
  | _ => 0

abbrev hbmTy0_0 (i : Nat) : BufTy := match i % 128 with
  | 0 => ⟨S8x2048x2048, .bf16⟩
  | 1 => ⟨S8x2048x512, .bf16⟩
  | 2 => ⟨S8x2048x512, .bf16⟩
  | 3 => ⟨S8x2048x2048, .bf16⟩
  | 4 => ⟨S8x2048x16x128, .bf16⟩
  | 5 => ⟨S8x2048x16x128, .f32⟩
  | 6 => ⟨S8x2048x16x128, .f32⟩
  | 7 => ⟨S_, .f32⟩
  | 8 => ⟨S8x16, .f32⟩
  | 9 => ⟨S_, .f32⟩
  | 10 => ⟨S8x16, .f32⟩
  | 11 => ⟨S8x16, .f32⟩
  | 12 => ⟨S8x16, .f32⟩
  | 13 => ⟨S_, .f32⟩
  | 14 => ⟨S_, .f32⟩
  | 15 => ⟨S8x16, .f32⟩
  | 16 => ⟨S8x16, .f32⟩
  | 17 => ⟨S8x16, .f32⟩
  | 18 => ⟨S_, .f32⟩
  | 19 => ⟨S8x16, .f32⟩
  | 20 => ⟨S8x16, .f32⟩
  | 21 => ⟨S_, .f32⟩
  | 22 => ⟨S8x16, .f32⟩
  | 23 => ⟨S8x16, .i1⟩
  | 24 => ⟨S_, .f32⟩
  | 25 => ⟨S_, .f32⟩
  | 26 => ⟨S8x16, .f32⟩
  | 27 => ⟨S8x16, .f32⟩
  | 28 => ⟨S_, .f32⟩
  | 29 => ⟨S8x16, .f32⟩
  | 30 => ⟨S8x16, .f32⟩
  | 31 => ⟨S_, .f32⟩
  | 32 => ⟨S8x16, .f32⟩
  | 33 => ⟨S8x16, .f32⟩
  | 34 => ⟨S8x16, .f32⟩
  | 35 => ⟨S8x1x16x1, .f32⟩
  | 36 => ⟨S8x2048x16x128, .f32⟩
  | 37 => ⟨S8x2048x16x128, .f32⟩
  | 38 => ⟨S_, .f32⟩
  | 39 => ⟨S_, .f32⟩
  | 40 => ⟨S_, .f32⟩
  | 41 => ⟨S8x2048x16x128, .f32⟩
  | 42 => ⟨S8x2048x16x128, .f32⟩
  | 43 => ⟨S_, .f32⟩
  | 44 => ⟨S8x2048x16x128, .f32⟩
  | 45 => ⟨S8x2048x16x128, .f32⟩
  | 46 => ⟨S8x2048x2048, .f32⟩
  | 47 => ⟨S8x2048x2048, .fp8e5m2⟩
  | 48 => ⟨S8x2048x16x128, .bf16⟩
  | 49 => ⟨S8x2048x16x128, .f32⟩
  | 50 => ⟨S8x2048x16x128, .f32⟩
  | 51 => ⟨S_, .f32⟩
  | 52 => ⟨S8x16, .f32⟩
  | 53 => ⟨S_, .f32⟩
  | 54 => ⟨S8x16, .f32⟩
  | 55 => ⟨S8x16, .f32⟩
  | 56 => ⟨S8x16, .f32⟩
  | 57 => ⟨S_, .f32⟩
  | 58 => ⟨S_, .f32⟩
  | 59 => ⟨S8x16, .f32⟩
  | 60 => ⟨S8x16, .f32⟩
  | 61 => ⟨S8x16, .f32⟩
  | 62 => ⟨S_, .f32⟩
  | 63 => ⟨S8x16, .f32⟩
  | 64 => ⟨S8x16, .f32⟩
  | 65 => ⟨S_, .f32⟩
  | 66 => ⟨S8x16, .f32⟩
  | 67 => ⟨S8x16, .i1⟩
  | 68 => ⟨S_, .f32⟩
  | 69 => ⟨S_, .f32⟩
  | 70 => ⟨S8x16, .f32⟩
  | 71 => ⟨S8x16, .f32⟩
  | 72 => ⟨S_, .f32⟩
  | 73 => ⟨S8x16, .f32⟩
  | 74 => ⟨S8x16, .f32⟩
  | 75 => ⟨S_, .f32⟩
  | 76 => ⟨S8x16, .f32⟩
  | 77 => ⟨S8x16, .f32⟩
  | 78 => ⟨S8x16, .f32⟩
  | 79 => ⟨S8x1x16x1, .f32⟩
  | 80 => ⟨S8x2048x16x128, .f32⟩
  | 81 => ⟨S8x2048x16x128, .f32⟩
  | 82 => ⟨S_, .f32⟩
  | 83 => ⟨S_, .f32⟩
  | 84 => ⟨S_, .f32⟩
  | 85 => ⟨S8x2048x16x128, .f32⟩
  | 86 => ⟨S8x2048x16x128, .f32⟩
  | 87 => ⟨S_, .f32⟩
  | 88 => ⟨S8x2048x16x128, .f32⟩
  | 89 => ⟨S8x2048x16x128, .f32⟩
  | 90 => ⟨S8x2048x4x128, .bf16⟩
  | 91 => ⟨S8x2048x4x128, .f32⟩
  | 92 => ⟨S8x2048x4x128, .f32⟩
  | 93 => ⟨S_, .f32⟩
  | 94 => ⟨S8x4, .f32⟩
  | 95 => ⟨S_, .f32⟩
  | 96 => ⟨S8x4, .f32⟩
  | 97 => ⟨S8x4, .f32⟩
  | 98 => ⟨S8x4, .f32⟩
  | 99 => ⟨S_, .f32⟩
  | 100 => ⟨S_, .f32⟩
  | 101 => ⟨S8x4, .f32⟩
  | 102 => ⟨S8x4, .f32⟩
  | 103 => ⟨S8x4, .f32⟩
  | 104 => ⟨S_, .f32⟩
  | 105 => ⟨S8x4, .f32⟩
  | 106 => ⟨S8x4, .f32⟩
  | 107 => ⟨S_, .f32⟩
  | 108 => ⟨S8x4, .f32⟩
  | 109 => ⟨S8x4, .i1⟩
  | 110 => ⟨S_, .f32⟩
  | 111 => ⟨S_, .f32⟩
  | 112 => ⟨S8x4, .f32⟩
  | 113 => ⟨S8x4, .f32⟩
  | 114 => ⟨S_, .f32⟩
  | 115 => ⟨S8x4, .f32⟩
  | 116 => ⟨S8x4, .f32⟩
  | 117 => ⟨S_, .f32⟩
  | 118 => ⟨S8x4, .f32⟩
  | 119 => ⟨S8x4, .f32⟩
  | 120 => ⟨S8x4, .f32⟩
  | 121 => ⟨S8x1x4x1, .f32⟩
  | 122 => ⟨S8x2048x4x128, .f32⟩
  | 123 => ⟨S8x2048x4x128, .f32⟩
  | 124 => ⟨S_, .f32⟩
  | 125 => ⟨S_, .f32⟩
  | 126 => ⟨S_, .f32⟩
  | 127 => ⟨S8x2048x4x128, .f32⟩
  | _ => ⟨S8x2048x2048, .bf16⟩

abbrev hbmTy0_1 (i : Nat) : BufTy := match i % 128 with
  | 0 => ⟨S8x2048x4x128, .f32⟩
  | 1 => ⟨S_, .f32⟩
  | 2 => ⟨S8x2048x4x128, .f32⟩
  | 3 => ⟨S8x2048x4x128, .f32⟩
  | 4 => ⟨S8x2048x4x128, .bf16⟩
  | 5 => ⟨S8x2048x4x128, .f32⟩
  | 6 => ⟨S8x2048x4x128, .f32⟩
  | 7 => ⟨S_, .f32⟩
  | 8 => ⟨S8x4, .f32⟩
  | 9 => ⟨S_, .f32⟩
  | 10 => ⟨S8x4, .f32⟩
  | 11 => ⟨S8x4, .f32⟩
  | 12 => ⟨S8x4, .f32⟩
  | 13 => ⟨S_, .f32⟩
  | 14 => ⟨S_, .f32⟩
  | 15 => ⟨S8x4, .f32⟩
  | 16 => ⟨S8x4, .f32⟩
  | 17 => ⟨S8x4, .f32⟩
  | 18 => ⟨S_, .f32⟩
  | 19 => ⟨S8x4, .f32⟩
  | 20 => ⟨S8x4, .f32⟩
  | 21 => ⟨S_, .f32⟩
  | 22 => ⟨S8x4, .f32⟩
  | 23 => ⟨S8x4, .i1⟩
  | 24 => ⟨S_, .f32⟩
  | 25 => ⟨S_, .f32⟩
  | 26 => ⟨S8x4, .f32⟩
  | 27 => ⟨S8x4, .f32⟩
  | 28 => ⟨S_, .f32⟩
  | 29 => ⟨S8x4, .f32⟩
  | 30 => ⟨S8x4, .f32⟩
  | 31 => ⟨S_, .f32⟩
  | 32 => ⟨S8x4, .f32⟩
  | 33 => ⟨S8x4, .f32⟩
  | 34 => ⟨S8x4, .f32⟩
  | 35 => ⟨S8x1x4x1, .f32⟩
  | 36 => ⟨S8x2048x4x128, .f32⟩
  | 37 => ⟨S8x2048x4x128, .f32⟩
  | 38 => ⟨S_, .f32⟩
  | 39 => ⟨S_, .f32⟩
  | 40 => ⟨S_, .f32⟩
  | 41 => ⟨S8x2048x4x128, .f32⟩
  | 42 => ⟨S8x2048x4x128, .f32⟩
  | 43 => ⟨S_, .f32⟩
  | 44 => ⟨S8x2048x4x128, .f32⟩
  | 45 => ⟨S8x2048x4x128, .f32⟩
  | 46 => ⟨S8x2048x4x4x128, .f32⟩
  | 47 => ⟨S8x2048x4x4x128, .f32⟩
  | 48 => ⟨S8x4x4, .f32⟩
  | 49 => ⟨S8x4x4, .f32⟩
  | 50 => ⟨S2048, .i32⟩
  | 51 => ⟨S8x4x2048x2048x4, .f32⟩
  | 52 => ⟨S8x4x4x2048x2048, .f32⟩
  | 53 => ⟨S8x4x4x1x1, .f32⟩
  | 54 => ⟨S_, .f32⟩
  | 55 => ⟨S8x4, .f32⟩
  | 56 => ⟨S8x4, .f32⟩
  | 57 => ⟨S8x4x1x1x1, .f32⟩
  | 58 => ⟨S8x4x4x1x1, .f32⟩
  | 59 => ⟨S8x4x4x1x1, .f32⟩
  | 60 => ⟨S8x4x4x2048x2048, .f32⟩
  | 61 => ⟨S8x4x4x2048x2048, .f32⟩
  | 62 => ⟨S1x2048, .i32⟩
  | 63 => ⟨S2048x1, .i32⟩
  | 64 => ⟨S2048x2048, .i32⟩
  | 65 => ⟨S2048x2048, .i32⟩
  | 66 => ⟨S2048x2048, .i1⟩
  | 67 => ⟨S_, .f32⟩
  | 68 => ⟨S_, .f32⟩
  | 69 => ⟨S8x4x4x2048x2048, .i1⟩
  | 70 => ⟨S8x4x4x2048x2048, .f32⟩
  | 71 => ⟨S8x4x4x2048x2048, .f32⟩
  | 72 => ⟨S_, .f32⟩
  | 73 => ⟨S8x4x4x2048, .f32⟩
  | 74 => ⟨S8x4x4x2048x1, .f32⟩
  | 75 => ⟨S8x4x4x2048x2048, .f32⟩
  | 76 => ⟨S8x4x4x2048x2048, .f32⟩
  | 77 => ⟨S8x4x4x2048x2048, .f32⟩
  | 78 => ⟨S_, .f32⟩
  | 79 => ⟨S8x4x4x2048, .f32⟩
  | 80 => ⟨S8x4x4x2048x1, .f32⟩
  | 81 => ⟨S8x4x4x2048x1, .f32⟩
  | 82 => ⟨S8x4x4x2048x1, .f32⟩
  | 83 => ⟨S8x4x4x2048x2048, .f32⟩
  | 84 => ⟨S8x4x4x2048x2048, .f32⟩
  | 85 => ⟨S8x4x4x2048x2048, .f32⟩
  | 86 => ⟨S_, .f32⟩
  | 87 => ⟨S8x4x4x2048x2048, .f32⟩
  | 88 => ⟨S8x4x4x2048x2048, .f32⟩
  | 89 => ⟨S_, .f32⟩
  | 90 => ⟨S_, .f32⟩
  | 91 => ⟨S_, .f32⟩
  | 92 => ⟨S8x4x4x2048x2048, .f32⟩
  | 93 => ⟨S8x4x4x2048x2048, .f32⟩
  | 94 => ⟨S_, .f32⟩
  | 95 => ⟨S8x4x4x2048x2048, .f32⟩
  | 96 => ⟨S8x4x4x2048x2048, .f32⟩
  | 97 => ⟨S8x4x4x2048x128, .f32⟩
  | 98 => ⟨S_, .f32⟩
  | 99 => ⟨S8x4, .f32⟩
  | 100 => ⟨S8x4, .f32⟩
  | 101 => ⟨S8x4x1x1x1, .f32⟩
  | 102 => ⟨S8x4x4x2048x128, .f32⟩
  | 103 => ⟨S8x4x4x2048x128, .f32⟩
  | 104 => ⟨S8x1x4x4x1, .f32⟩
  | 105 => ⟨S8x2048x4x4x128, .f32⟩
  | 106 => ⟨S8x2048x4x4x128, .f32⟩
  | 107 => ⟨S8x4x4x2048x128, .f32⟩
  | 108 => ⟨S8x4x4x2048x128, .f32⟩
  | 109 => ⟨S_, .f32⟩
  | 110 => ⟨S8x4x4x2048, .f32⟩
  | 111 => ⟨S8x4x4x2048x1, .f32⟩
  | 112 => ⟨S8x4x2048x2048x4, .f32⟩
  | 113 => ⟨S8x4x4x2048x2048, .f32⟩
  | 114 => ⟨S8x4x4x1x1, .f32⟩
  | 115 => ⟨S8x4x1x1x1, .f32⟩
  | 116 => ⟨S8x4x4x1x1, .f32⟩
  | 117 => ⟨S8x4x4x1x1, .f32⟩
  | 118 => ⟨S8x4x4x2048x2048, .f32⟩
  | 119 => ⟨S8x4x4x2048x2048, .f32⟩
  | 120 => ⟨S8x4x4x2048x2048, .f32⟩
  | 121 => ⟨S8x4x4x2048x2048, .f32⟩
  | 122 => ⟨S8x4x4x2048x2048, .f32⟩
  | 123 => ⟨S8x4x4x2048x2048, .bf16⟩
  | 124 => ⟨S8x4x4x2048x2048, .f32⟩
  | 125 => ⟨S8x4x4x2048x128, .f32⟩
  | 126 => ⟨S_, .f32⟩
  | 127 => ⟨S8x4, .f32⟩
  | _ => ⟨S8x2048x2048, .bf16⟩

abbrev hbmTy0_2 (i : Nat) : BufTy := match i % 128 with
  | 0 => ⟨S8x4, .f32⟩
  | 1 => ⟨S8x4x1x1x1, .f32⟩
  | 2 => ⟨S8x4x4x2048x128, .f32⟩
  | 3 => ⟨S8x4x4x2048x128, .f32⟩
  | 4 => ⟨S8x4x4x2048x128, .f32⟩
  | 5 => ⟨S_, .f32⟩
  | 6 => ⟨S8x4x4, .f32⟩
  | 7 => ⟨S8x4x4, .f32⟩
  | 8 => ⟨S8x4x4x1x1, .f32⟩
  | 9 => ⟨S8x4x4x2048x128, .f32⟩
  | 10 => ⟨S8x4x4x2048x128, .f32⟩
  | 11 => ⟨S8x4x4x2048x128, .f32⟩
  | 12 => ⟨S_, .f32⟩
  | 13 => ⟨S8x4x4, .f32⟩
  | 14 => ⟨S8x4x4, .f32⟩
  | 15 => ⟨S8x4x4x1x1, .f32⟩
  | 16 => ⟨S8x4x4x2048x128, .f32⟩
  | 17 => ⟨S8x4x4x2048x128, .f32⟩
  | 18 => ⟨S8x2048x4x4x128, .f32⟩
  | 19 => ⟨S8x2048x2048, .f32⟩
  | 20 => ⟨S8x2048x2048, .bf16⟩
  | 21 => ⟨S_, .f32⟩
  | 22 => ⟨S8x4x2048x128, .f32⟩
  | 23 => ⟨S8x2048x4x128, .f32⟩
  | 24 => ⟨S8x2048x512, .f32⟩
  | 25 => ⟨S8x2048x512, .bf16⟩
  | 26 => ⟨S_, .f32⟩
  | 27 => ⟨S8x4x2048x128, .f32⟩
  | 28 => ⟨S8x2048x4x128, .f32⟩
  | 29 => ⟨S8x2048x512, .f32⟩
  | 30 => ⟨S8x2048x512, .bf16⟩
  | 31 => ⟨S8x2048x2048, .f32⟩
  | 32 => ⟨S8x2048x2048, .fp8e4m3⟩
  | 33 => ⟨S8x2048x512, .f32⟩
  | 34 => ⟨S8x2048x512, .fp8e4m3⟩
  | 35 => ⟨S8x2048x512, .f32⟩
  | 36 => ⟨S8x2048x512, .fp8e4m3⟩
  | _ => ⟨S8x2048x2048, .bf16⟩

abbrev hbmTy (i : Nat) : BufTy := match i / 128 with
  | 0 => hbmTy0_0 i
  | 1 => hbmTy0_1 i
  | 2 => hbmTy0_2 i
  | _ => ⟨S8x2048x2048, .bf16⟩

abbrev bufTy : (tb : Table) → Fin (tcTables nBuf tb) → BufTy
  | .hbm, ⟨i, _⟩ => hbmTy i
  | .local _ .vmem, ⟨0, _⟩ => ⟨S8x2048x2048, .f32⟩
  | .local _ .vmem, ⟨1, _⟩ => ⟨S8x2048x2048, .fp8e5m2⟩
  | _, _ => ⟨S8x2048x2048, .bf16⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_cst_5 : Ref sig .tc := ⟨.hbm, 28, rfl⟩
abbrev main_v16 : Ref sig .tc := ⟨.hbm, 29, rfl⟩
abbrev main_v17 : Ref sig .tc := ⟨.hbm, 30, rfl⟩
abbrev main_cst_6 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_7 : Ref sig .tc := ⟨.hbm, 38, rfl⟩
abbrev main_cst_8 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_call1_v3 : Ref sig .tc := ⟨.hbm, 43, rfl⟩
abbrev main_call1_v4 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_cst_10 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_cst_11 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_12 : Ref sig .tc := ⟨.hbm, 62, rfl⟩
abbrev main_v38 : Ref sig .tc := ⟨.hbm, 63, rfl⟩
abbrev main_v39 : Ref sig .tc := ⟨.hbm, 64, rfl⟩
abbrev main_cst_13 : Ref sig .tc := ⟨.hbm, 65, rfl⟩
abbrev main_v40 : Ref sig .tc := ⟨.hbm, 66, rfl⟩
abbrev main_v41 : Ref sig .tc := ⟨.hbm, 67, rfl⟩
abbrev main_cst_14 : Ref sig .tc := ⟨.hbm, 68, rfl⟩
abbrev main_call2_v0 : Ref sig .tc := ⟨.hbm, 69, rfl⟩
abbrev main_call2_v1 : Ref sig .tc := ⟨.hbm, 70, rfl⟩
abbrev main_v42 : Ref sig .tc := ⟨.hbm, 71, rfl⟩
abbrev main_cst_15 : Ref sig .tc := ⟨.hbm, 72, rfl⟩
abbrev main_v43 : Ref sig .tc := ⟨.hbm, 73, rfl⟩
abbrev main_v44 : Ref sig .tc := ⟨.hbm, 74, rfl⟩
abbrev main_cst_16 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_cst_17 : Ref sig .tc := ⟨.hbm, 82, rfl⟩
abbrev main_cst_18 : Ref sig .tc := ⟨.hbm, 83, rfl⟩
abbrev main_call3_v0 : Ref sig .tc := ⟨.hbm, 84, rfl⟩
abbrev main_call3_v1 : Ref sig .tc := ⟨.hbm, 85, rfl⟩
abbrev main_call3_v2 : Ref sig .tc := ⟨.hbm, 86, rfl⟩
abbrev main_call3_v3 : Ref sig .tc := ⟨.hbm, 87, rfl⟩
abbrev main_call3_v4 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_cst_19 : Ref sig .tc := ⟨.hbm, 93, rfl⟩
abbrev main_v55 : Ref sig .tc := ⟨.hbm, 94, rfl⟩
abbrev main_cst_20 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_cst_21 : Ref sig .tc := ⟨.hbm, 99, rfl⟩
abbrev main_v59 : Ref sig .tc := ⟨.hbm, 100, rfl⟩
abbrev main_v60 : Ref sig .tc := ⟨.hbm, 101, rfl⟩
abbrev main_v61 : Ref sig .tc := ⟨.hbm, 102, rfl⟩
abbrev main_v62 : Ref sig .tc := ⟨.hbm, 103, rfl⟩
abbrev main_cst_22 : Ref sig .tc := ⟨.hbm, 104, rfl⟩
abbrev main_v63 : Ref sig .tc := ⟨.hbm, 105, rfl⟩
abbrev main_v64 : Ref sig .tc := ⟨.hbm, 106, rfl⟩
abbrev main_cst_23 : Ref sig .tc := ⟨.hbm, 107, rfl⟩
abbrev main_v65 : Ref sig .tc := ⟨.hbm, 108, rfl⟩
abbrev main_v66 : Ref sig .tc := ⟨.hbm, 109, rfl⟩
abbrev main_cst_24 : Ref sig .tc := ⟨.hbm, 110, rfl⟩
abbrev main_call4_v0 : Ref sig .tc := ⟨.hbm, 111, rfl⟩
abbrev main_call4_v1 : Ref sig .tc := ⟨.hbm, 112, rfl⟩
abbrev main_v67 : Ref sig .tc := ⟨.hbm, 113, rfl⟩
abbrev main_cst_25 : Ref sig .tc := ⟨.hbm, 114, rfl⟩
abbrev main_v68 : Ref sig .tc := ⟨.hbm, 115, rfl⟩
abbrev main_v69 : Ref sig .tc := ⟨.hbm, 116, rfl⟩
abbrev main_cst_26 : Ref sig .tc := ⟨.hbm, 117, rfl⟩
abbrev main_v70 : Ref sig .tc := ⟨.hbm, 118, rfl⟩
abbrev main_v71 : Ref sig .tc := ⟨.hbm, 119, rfl⟩
abbrev main_v72 : Ref sig .tc := ⟨.hbm, 120, rfl⟩
abbrev main_v73 : Ref sig .tc := ⟨.hbm, 121, rfl⟩
abbrev main_v74 : Ref sig .tc := ⟨.hbm, 122, rfl⟩
abbrev main_v75 : Ref sig .tc := ⟨.hbm, 123, rfl⟩
abbrev main_cst_27 : Ref sig .tc := ⟨.hbm, 124, rfl⟩
abbrev main_cst_28 : Ref sig .tc := ⟨.hbm, 125, rfl⟩
abbrev main_call5_v0 : Ref sig .tc := ⟨.hbm, 126, rfl⟩
abbrev main_call5_v1 : Ref sig .tc := ⟨.hbm, 127, rfl⟩
abbrev main_call5_v2 : Ref sig .tc := ⟨.hbm, 128, rfl⟩
abbrev main_call5_v3 : Ref sig .tc := ⟨.hbm, 129, rfl⟩
abbrev main_call5_v4 : Ref sig .tc := ⟨.hbm, 130, rfl⟩
abbrev main_v76 : Ref sig .tc := ⟨.hbm, 131, rfl⟩
abbrev main_v77 : Ref sig .tc := ⟨.hbm, 132, rfl⟩
abbrev main_v78 : Ref sig .tc := ⟨.hbm, 133, rfl⟩
abbrev main_v79 : Ref sig .tc := ⟨.hbm, 134, rfl⟩
abbrev main_cst_29 : Ref sig .tc := ⟨.hbm, 135, rfl⟩
abbrev main_v80 : Ref sig .tc := ⟨.hbm, 136, rfl⟩
abbrev main_cst_30 : Ref sig .tc := ⟨.hbm, 137, rfl⟩
abbrev main_v81 : Ref sig .tc := ⟨.hbm, 138, rfl⟩
abbrev main_v82 : Ref sig .tc := ⟨.hbm, 139, rfl⟩
abbrev main_v83 : Ref sig .tc := ⟨.hbm, 140, rfl⟩
abbrev main_cst_31 : Ref sig .tc := ⟨.hbm, 141, rfl⟩
abbrev main_v84 : Ref sig .tc := ⟨.hbm, 142, rfl⟩
abbrev main_v85 : Ref sig .tc := ⟨.hbm, 143, rfl⟩
abbrev main_v86 : Ref sig .tc := ⟨.hbm, 144, rfl⟩
abbrev main_v87 : Ref sig .tc := ⟨.hbm, 145, rfl⟩
abbrev main_cst_32 : Ref sig .tc := ⟨.hbm, 146, rfl⟩
abbrev main_v88 : Ref sig .tc := ⟨.hbm, 147, rfl⟩
abbrev main_v89 : Ref sig .tc := ⟨.hbm, 148, rfl⟩
abbrev main_cst_33 : Ref sig .tc := ⟨.hbm, 149, rfl⟩
abbrev main_v90 : Ref sig .tc := ⟨.hbm, 150, rfl⟩
abbrev main_v91 : Ref sig .tc := ⟨.hbm, 151, rfl⟩
abbrev main_cst_34 : Ref sig .tc := ⟨.hbm, 152, rfl⟩
abbrev main_call6_v0 : Ref sig .tc := ⟨.hbm, 153, rfl⟩
abbrev main_call6_v1 : Ref sig .tc := ⟨.hbm, 154, rfl⟩
abbrev main_v92 : Ref sig .tc := ⟨.hbm, 155, rfl⟩
abbrev main_cst_35 : Ref sig .tc := ⟨.hbm, 156, rfl⟩
abbrev main_v93 : Ref sig .tc := ⟨.hbm, 157, rfl⟩
abbrev main_v94 : Ref sig .tc := ⟨.hbm, 158, rfl⟩
abbrev main_cst_36 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_v98 : Ref sig .tc := ⟨.hbm, 163, rfl⟩
abbrev main_v99 : Ref sig .tc := ⟨.hbm, 164, rfl⟩
abbrev main_v100 : Ref sig .tc := ⟨.hbm, 165, rfl⟩
abbrev main_cst_37 : Ref sig .tc := ⟨.hbm, 166, rfl⟩
abbrev main_cst_38 : Ref sig .tc := ⟨.hbm, 167, rfl⟩
abbrev main_call7_v0 : Ref sig .tc := ⟨.hbm, 168, rfl⟩
abbrev main_call7_v1 : Ref sig .tc := ⟨.hbm, 169, rfl⟩
abbrev main_call7_v2 : Ref sig .tc := ⟨.hbm, 170, rfl⟩
abbrev main_call7_v3 : Ref sig .tc := ⟨.hbm, 171, rfl⟩
abbrev main_call7_v4 : Ref sig .tc := ⟨.hbm, 172, rfl⟩
abbrev main_v101 : Ref sig .tc := ⟨.hbm, 173, rfl⟩
abbrev main_v102 : Ref sig .tc := ⟨.hbm, 174, rfl⟩
abbrev main_v103 : Ref sig .tc := ⟨.hbm, 175, rfl⟩
abbrev main_v104 : Ref sig .tc := ⟨.hbm, 176, rfl⟩
abbrev main_v105 : Ref sig .tc := ⟨.hbm, 177, rfl⟩
abbrev main_v106 : Ref sig .tc := ⟨.hbm, 178, rfl⟩
abbrev main_v107 : Ref sig .tc := ⟨.hbm, 179, rfl⟩
abbrev main_v108 : Ref sig .tc := ⟨.hbm, 180, rfl⟩
abbrev main_v109 : Ref sig .tc := ⟨.hbm, 181, rfl⟩
abbrev main_cst_39 : Ref sig .tc := ⟨.hbm, 182, rfl⟩
abbrev main_v110 : Ref sig .tc := ⟨.hbm, 183, rfl⟩
abbrev main_v111 : Ref sig .tc := ⟨.hbm, 184, rfl⟩
abbrev main_v112 : Ref sig .tc := ⟨.hbm, 185, rfl⟩
abbrev main_v113 : Ref sig .tc := ⟨.hbm, 186, rfl⟩
abbrev main_v114 : Ref sig .tc := ⟨.hbm, 187, rfl⟩
abbrev main_v115 : Ref sig .tc := ⟨.hbm, 188, rfl⟩
abbrev main_v116 : Ref sig .tc := ⟨.hbm, 189, rfl⟩
abbrev main_v117 : Ref sig .tc := ⟨.hbm, 190, rfl⟩
abbrev main_v118 : Ref sig .tc := ⟨.hbm, 191, rfl⟩
abbrev main_v119 : Ref sig .tc := ⟨.hbm, 192, rfl⟩
abbrev main_v120 : Ref sig .tc := ⟨.hbm, 193, rfl⟩
abbrev main_v121 : Ref sig .tc := ⟨.hbm, 194, rfl⟩
abbrev main_cst_40 : Ref sig .tc := ⟨.hbm, 195, rfl⟩
abbrev main_call8_v0 : Ref sig .tc := ⟨.hbm, 196, rfl⟩
abbrev main_call8_v1 : Ref sig .tc := ⟨.hbm, 197, rfl⟩
abbrev main_call8_v2 : Ref sig .tc := ⟨.hbm, 198, rfl⟩
abbrev main_v122 : Ref sig .tc := ⟨.hbm, 199, rfl⟩
abbrev main_cst_41 : Ref sig .tc := ⟨.hbm, 200, rfl⟩
abbrev main_v123 : Ref sig .tc := ⟨.hbm, 201, rfl⟩
abbrev main_v124 : Ref sig .tc := ⟨.hbm, 202, rfl⟩
abbrev main_v125 : Ref sig .tc := ⟨.hbm, 203, rfl⟩
abbrev main_v126 : Ref sig .tc := ⟨.hbm, 204, rfl⟩
abbrev main_v127 : Ref sig .tc := ⟨.hbm, 205, rfl⟩
abbrev main_cst_42 : Ref sig .tc := ⟨.hbm, 206, rfl⟩
abbrev main_v128 : Ref sig .tc := ⟨.hbm, 207, rfl⟩
abbrev main_v129 : Ref sig .tc := ⟨.hbm, 208, rfl⟩
abbrev main_v130 : Ref sig .tc := ⟨.hbm, 209, rfl⟩
abbrev main_v131 : Ref sig .tc := ⟨.hbm, 210, rfl⟩
abbrev main_v132 : Ref sig .tc := ⟨.hbm, 211, rfl⟩
abbrev main_v133 : Ref sig .tc := ⟨.hbm, 212, rfl⟩
abbrev main_v134 : Ref sig .tc := ⟨.hbm, 213, rfl⟩
abbrev main_cst_43 : Ref sig .tc := ⟨.hbm, 214, rfl⟩
abbrev main_v135 : Ref sig .tc := ⟨.hbm, 215, rfl⟩
abbrev main_v136 : Ref sig .tc := ⟨.hbm, 216, rfl⟩
abbrev main_cst_44 : Ref sig .tc := ⟨.hbm, 217, rfl⟩
abbrev main_cst_45 : Ref sig .tc := ⟨.hbm, 218, rfl⟩
abbrev main_call9_v0 : Ref sig .tc := ⟨.hbm, 219, rfl⟩
abbrev main_call9_v1 : Ref sig .tc := ⟨.hbm, 220, rfl⟩
abbrev main_call9_v2 : Ref sig .tc := ⟨.hbm, 221, rfl⟩
abbrev main_call9_v3 : Ref sig .tc := ⟨.hbm, 222, rfl⟩
abbrev main_call9_v4 : Ref sig .tc := ⟨.hbm, 223, rfl⟩
abbrev main_v137 : Ref sig .tc := ⟨.hbm, 224, rfl⟩
abbrev main_v138 : Ref sig .tc := ⟨.hbm, 225, rfl⟩
abbrev main_cst_46 : Ref sig .tc := ⟨.hbm, 226, rfl⟩
abbrev main_v139 : Ref sig .tc := ⟨.hbm, 227, rfl⟩
abbrev main_v140 : Ref sig .tc := ⟨.hbm, 228, rfl⟩
abbrev main_v141 : Ref sig .tc := ⟨.hbm, 229, rfl⟩
abbrev main_v142 : Ref sig .tc := ⟨.hbm, 230, rfl⟩
abbrev main_v143 : Ref sig .tc := ⟨.hbm, 231, rfl⟩
abbrev main_v144 : Ref sig .tc := ⟨.hbm, 232, rfl⟩
abbrev main_v145 : Ref sig .tc := ⟨.hbm, 233, rfl⟩
abbrev main_v146 : Ref sig .tc := ⟨.hbm, 234, rfl⟩
abbrev main_v147 : Ref sig .tc := ⟨.hbm, 235, rfl⟩
abbrev main_v148 : Ref sig .tc := ⟨.hbm, 236, rfl⟩
abbrev main_cst_47 : Ref sig .tc := ⟨.hbm, 237, rfl⟩
abbrev main_v149 : Ref sig .tc := ⟨.hbm, 238, rfl⟩
abbrev main_v150 : Ref sig .tc := ⟨.hbm, 239, rfl⟩
abbrev main_v151 : Ref sig .tc := ⟨.hbm, 240, rfl⟩
abbrev main_v152 : Ref sig .tc := ⟨.hbm, 241, rfl⟩
abbrev main_v153 : Ref sig .tc := ⟨.hbm, 242, rfl⟩
abbrev main_v154 : Ref sig .tc := ⟨.hbm, 243, rfl⟩
abbrev main_v155 : Ref sig .tc := ⟨.hbm, 244, rfl⟩
abbrev main_v156 : Ref sig .tc := ⟨.hbm, 245, rfl⟩
abbrev main_v157 : Ref sig .tc := ⟨.hbm, 246, rfl⟩
abbrev main_v158 : Ref sig .tc := ⟨.hbm, 247, rfl⟩
abbrev main_v159 : Ref sig .tc := ⟨.hbm, 248, rfl⟩
abbrev main_v160 : Ref sig .tc := ⟨.hbm, 249, rfl⟩
abbrev main_v161 : Ref sig .tc := ⟨.hbm, 250, rfl⟩
abbrev main_v162 : Ref sig .tc := ⟨.hbm, 251, rfl⟩
abbrev main_v163 : Ref sig .tc := ⟨.hbm, 252, rfl⟩
abbrev main_v164 : Ref sig .tc := ⟨.hbm, 253, rfl⟩
abbrev main_cst_48 : Ref sig .tc := ⟨.hbm, 254, rfl⟩
abbrev main_v165 : Ref sig .tc := ⟨.hbm, 255, rfl⟩
abbrev main_v166 : Ref sig .tc := ⟨.hbm, 256, rfl⟩
abbrev main_v167 : Ref sig .tc := ⟨.hbm, 257, rfl⟩
abbrev main_v168 : Ref sig .tc := ⟨.hbm, 258, rfl⟩
abbrev main_v169 : Ref sig .tc := ⟨.hbm, 259, rfl⟩
abbrev main_v170 : Ref sig .tc := ⟨.hbm, 260, rfl⟩
abbrev main_cst_49 : Ref sig .tc := ⟨.hbm, 261, rfl⟩
abbrev main_v171 : Ref sig .tc := ⟨.hbm, 262, rfl⟩
abbrev main_v172 : Ref sig .tc := ⟨.hbm, 263, rfl⟩
abbrev main_v173 : Ref sig .tc := ⟨.hbm, 264, rfl⟩
abbrev main_v174 : Ref sig .tc := ⟨.hbm, 265, rfl⟩
abbrev main_v175 : Ref sig .tc := ⟨.hbm, 266, rfl⟩
abbrev main_v176 : Ref sig .tc := ⟨.hbm, 267, rfl⟩
abbrev main_cst_50 : Ref sig .tc := ⟨.hbm, 268, rfl⟩
abbrev main_v177 : Ref sig .tc := ⟨.hbm, 269, rfl⟩
abbrev main_v178 : Ref sig .tc := ⟨.hbm, 270, rfl⟩
abbrev main_v179 : Ref sig .tc := ⟨.hbm, 271, rfl⟩
abbrev main_v180 : Ref sig .tc := ⟨.hbm, 272, rfl⟩
abbrev main_v181 : Ref sig .tc := ⟨.hbm, 273, rfl⟩
abbrev main_v182 : Ref sig .tc := ⟨.hbm, 274, rfl⟩
abbrev main_v183 : Ref sig .tc := ⟨.hbm, 275, rfl⟩
abbrev main_v184 : Ref sig .tc := ⟨.hbm, 276, rfl⟩
abbrev main_cst_51 : Ref sig .tc := ⟨.hbm, 277, rfl⟩
abbrev main_v185 : Ref sig .tc := ⟨.hbm, 278, rfl⟩
abbrev main_v186 : Ref sig .tc := ⟨.hbm, 279, rfl⟩
abbrev main_v187 : Ref sig .tc := ⟨.hbm, 280, rfl⟩
abbrev main_v188 : Ref sig .tc := ⟨.hbm, 281, rfl⟩
abbrev main_cst_52 : Ref sig .tc := ⟨.hbm, 282, rfl⟩
abbrev main_v189 : Ref sig .tc := ⟨.hbm, 283, rfl⟩
abbrev main_v190 : Ref sig .tc := ⟨.hbm, 284, rfl⟩
abbrev main_v191 : Ref sig .tc := ⟨.hbm, 285, rfl⟩
abbrev main_v192 : Ref sig .tc := ⟨.hbm, 286, rfl⟩
abbrev main_v193 : Ref sig .tc := ⟨.hbm, 287, rfl⟩
abbrev main_v194 : Ref sig .tc := ⟨.hbm, 288, rfl⟩
abbrev main_v195 : Ref sig .tc := ⟨.hbm, 289, rfl⟩
abbrev main_v196 : Ref sig .tc := ⟨.hbm, 290, rfl⟩
abbrev main_v197 : Ref sig .tc := ⟨.hbm, 291, rfl⟩
abbrev main_v198 : Ref sig .tc := ⟨.hbm, 292, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := .none

abbrev stage0_0 : Fin 1 → Memref sig .tc .vmem S8x2048x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x2048 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== Proof.KernelRun.lean ====
module

public import proofs.«01_k».proof.Proof.Gen.Kernel
public import Idealize.ShloMosaic.Lib.Tactic
public import Idealize.ShloMosaic.Lib.Pipeline.Kit

/-!
# The body of `Kernel` runs

`bodyRun` executes the printed body symbolically, whatever its 25 buffers hold and whichever of its two conditional
blocks run.
-/

@[expose] public section

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

/-- The contents type of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 0 in
set_option maxRecDepth 100000 in
/-- The body runs without fault from any contents of its buffers, returns the four inputs as they were and every other
    buffer at some contents. -/
theorem bodyRun (c : Dev nD) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .fp8e4m3) (harg10 : arg10.IsWhole) (arg11 : Memref sig .tc .smem S8x16 .f32) (harg11 : arg11.IsWhole) (arg12 : Memref sig .tc .vmem S1x2048x128 .fp8e4m3) (harg12 : arg12.IsWhole) (arg13 : Memref sig .tc .smem S8x4 .f32) (harg13 : arg13.IsWhole) (arg14 : Memref sig .tc .vmem S1x2048x128 .fp8e4m3) (harg14 : arg14.IsWhole) (arg15 : Memref sig .tc .smem S8x4 .f32) (harg15 : arg15.IsWhole) (arg16 : Memref sig .tc .vmem S1x2048x128 .fp8e5m2) (harg16 : arg16.IsWhole) (arg17 : Memref sig .tc .smem S8x16 .f32) (harg17 : arg17.IsWhole) (arg18 : Memref sig .tc .vmem S2x2048x256 .f32) (harg18 : arg18.IsWhole) (arg19 : Memref sig .tc .vmem S2048x2048 .fp8e4m3) (harg19 : arg19.IsWhole) (arg20 : Memref sig .tc .vmem S2048x2048 .bf16) (harg20 : arg20.IsWhole) (arg21 : Memref sig .tc .vmem S128x2048 .bf16) (harg21 : arg21.IsWhole) (arg22 : Memref sig .tc .vmem S128x2048 .fp8e4m3) (harg22 : arg22.IsWhole) (arg23 : Memref sig .tc .vmem S128x2048 .bf16) (harg23 : arg23.IsWhole) (arg24 : Memref sig .tc .vmem S128x2048 .fp8e5m2) (harg24 : arg24.IsWhole) (arg25 : Memref sig .tc .vmem S128x2048 .f32) (harg25 : arg25.IsWhole) (arg26 : Memref sig .tc .vmem S128x2048 .f32) (harg26 : arg26.IsWhole) (arg27 : Memref sig .tc .vmem S16x128 .f32) (harg27 : arg27.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27)
    (Q : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ (iprop(pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f) ∗ (∃ f, pt c arg26 f) ∗ (∃ f, pt c arg27 f)) -∗ Q ⟨⟩))
      ⊢ wp frame (wpE (defs₀ (F := F)) Variants.none c none) Set.univ (cc0_gqa_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q := by
  by_cases h1 : k0_cond1 i = 1#1 <;> by_cases h2 : k0_cond2 i = 1#1 <;>
  · iintro ⟨H3, H4, H5, H6, H7, H8, H9, H10, H11, H12, H13, H14, H15, H16, H17, H18, H19, H20, H21, H22, H23, H24, H25, H26, H27, Hk⟩
    sl_exec!
    sl_step
    iapply Hk
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27

end Cert.Kernel.Body

end
-- ==== Proof.KernelFrame.lean ====
module

public import proofs.«01_k».proof.Proof.KernelRun
public import proofs.«01_k».proof.Proof.Gen.Kernel.Frame
public import Idealize.ShloMosaic.Lib.Tactic
public import Idealize.ShloMosaic.Lib.Pipeline.Kit

/-!
# The frame of `Kernel`

`bodyOwns` is `bodyRun` over what the buffers read.  `rdat` is the pipeline's proof data: the inputs stay what they were,
nothing is said of the outputs.  `frame` is the claim.
-/

@[expose] public section

noncomputable section

namespace Cert.Kernel.Body

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

section Whole

variable (c : Dev nD) {sp : Space} {S : Shape} {e : EltTy} {M : Memref sig .tc sp S e}

/-- A whole memref owned at what it reads is its buffer held. -/
theorem pt_of_owns (h : M.IsWhole) (X : S.Idx → Elt F e) : (owns (c : Thread nD τ) M fullShare X : sProp 𝕄) ⊢ pt c M (h.unread X) := by
  unfold owns; rw [h.set_eq_univ]
  iintro ⟨%f, %hf, H⟩
  rw [h.eq_unread hf]; iexact H

/-- A whole memref's buffer held is the memref owned at what it reads. -/
theorem owns_of_pt (h : M.IsWhole) (X : S.Idx → Elt F e) : (pt c M (h.unread X) : sProp 𝕄) ⊢ owns (c : Thread nD τ) M fullShare X := by
  unfold owns; rw [h.set_eq_univ]
  iintro H; iexists _; isplitr; swap; · iexact H
  ipureintro; exact h.read_unread X

/-- The same at whatever contents. -/
theorem owns_of_pt_any (h : M.IsWhole) : iprop(∃ f, pt c M f : sProp 𝕄) ⊢ iprop(∃ X, owns (c : Thread nD τ) M fullShare X) := by
  unfold owns; rw [h.set_eq_univ]
  iintro ⟨%f, H⟩; iexists M.view.read (Elt F) f; iexists f; isplitr; · ipureintro; rfl
  iexact H

/-- And back. -/
theorem pt_of_owns_any (h : M.IsWhole) : iprop(∃ X, owns (c : Thread nD τ) M fullShare X : sProp 𝕄) ⊢ iprop(∃ f, pt c M f) := by
  iintro ⟨%X, H⟩; iexists h.unread X
  iapply (pt_of_owns c h X); iexact H

end Whole

set_option maxHeartbeats 4000000 in
/-- `bodyRun` over what the buffers read. -/
theorem bodyOwns (c : Dev nD) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .fp8e4m3) (harg10 : arg10.IsWhole) (arg11 : Memref sig .tc .smem S8x16 .f32) (harg11 : arg11.IsWhole) (arg12 : Memref sig .tc .vmem S1x2048x128 .fp8e4m3) (harg12 : arg12.IsWhole) (arg13 : Memref sig .tc .smem S8x4 .f32) (harg13 : arg13.IsWhole) (arg14 : Memref sig .tc .vmem S1x2048x128 .fp8e4m3) (harg14 : arg14.IsWhole) (arg15 : Memref sig .tc .smem S8x4 .f32) (harg15 : arg15.IsWhole) (arg16 : Memref sig .tc .vmem S1x2048x128 .fp8e5m2) (harg16 : arg16.IsWhole) (arg17 : Memref sig .tc .smem S8x16 .f32) (harg17 : arg17.IsWhole) (arg18 : Memref sig .tc .vmem S2x2048x256 .f32) (harg18 : arg18.IsWhole) (arg19 : Memref sig .tc .vmem S2048x2048 .fp8e4m3) (harg19 : arg19.IsWhole) (arg20 : Memref sig .tc .vmem S2048x2048 .bf16) (harg20 : arg20.IsWhole) (arg21 : Memref sig .tc .vmem S128x2048 .bf16) (harg21 : arg21.IsWhole) (arg22 : Memref sig .tc .vmem S128x2048 .fp8e4m3) (harg22 : arg22.IsWhole) (arg23 : Memref sig .tc .vmem S128x2048 .bf16) (harg23 : arg23.IsWhole) (arg24 : Memref sig .tc .vmem S128x2048 .fp8e5m2) (harg24 : arg24.IsWhole) (arg25 : Memref sig .tc .vmem S128x2048 .f32) (harg25 : arg25.IsWhole) (arg26 : Memref sig .tc .vmem S128x2048 .f32) (harg26 : arg26.IsWhole) (arg27 : Memref sig .tc .vmem S16x128 .f32) (harg27 : arg27.IsWhole)
    (x3 : S1x2048x128.Idx → Elt F .bf16) (x4 : S1x2048x128.Idx → Elt F .bf16) (x5 : S1x2048x128.Idx → Elt F .bf16) (x6 : S1x2048x128.Idx → Elt F .bf16) (x7 : S1x2048x128.Idx → Elt F .bf16) (x8 : S1x2048x128.Idx → Elt F .bf16) (x9 : S1x2048x128.Idx → Elt F .bf16) (x10 : S1x2048x128.Idx → Elt F .fp8e4m3) (x11 : S8x16.Idx → Elt F .f32) (x12 : S1x2048x128.Idx → Elt F .fp8e4m3) (x13 : S8x4.Idx → Elt F .f32) (x14 : S1x2048x128.Idx → Elt F .fp8e4m3) (x15 : S8x4.Idx → Elt F .f32) (x16 : S1x2048x128.Idx → Elt F .fp8e5m2) (x17 : S8x16.Idx → Elt F .f32)
    (Q : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ (∃ X, owns (c : Thread nD τ) arg24 fullShare X) ∗ (∃ X, owns (c : Thread nD τ) arg25 fullShare X) ∗ (∃ X, owns (c : Thread nD τ) arg26 fullShare X) ∗ (∃ X, owns (c : Thread nD τ) arg27 fullShare X) ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ (∃ X, owns (c : Thread nD τ) arg24 fullShare X) ∗ (∃ X, owns (c : Thread nD τ) arg25 fullShare X) ∗ (∃ X, owns (c : Thread nD τ) arg26 fullShare X) ∗ (∃ X, owns (c : Thread nD τ) arg27 fullShare X)) -∗ Q ⟨⟩))
      ⊢ wp frame (wpE (defs₀ (F := F)) Variants.none c none) Set.univ (cc0_gqa_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q := by
  iintro ⟨H3, H4, H5, H6, H7, H8, H9, H10, H11, H12, H13, H14, H15, H16, H17, H18, H19, H20, H21, H22, H23, H24, H25, H26, H27, Hk⟩
  ihave G := (pt_of_owns_any c harg18) $$ [H18]; · iexact H18
  icases G with ⟨%g18, H18⟩
  ihave G := (pt_of_owns_any c harg19) $$ [H19]; · iexact H19
  icases G with ⟨%g19, H19⟩
  ihave G := (pt_of_owns_any c harg20) $$ [H20]; · iexact H20
  icases G with ⟨%g20, H20⟩
  ihave G := (pt_of_owns_any c harg21) $$ [H21]; · iexact H21
  icases G with ⟨%g21, H21⟩
  ihave G := (pt_of_owns_any c harg22) $$ [H22]; · iexact H22
  icases G with ⟨%g22, H22⟩
  ihave G := (pt_of_owns_any c harg23) $$ [H23]; · iexact H23
  icases G with ⟨%g23, H23⟩
  ihave G := (pt_of_owns_any c harg24) $$ [H24]; · iexact H24
  icases G with ⟨%g24, H24⟩
  ihave G := (pt_of_owns_any c harg25) $$ [H25]; · iexact H25
  icases G with ⟨%g25, H25⟩
  ihave G := (pt_of_owns_any c harg26) $$ [H26]; · iexact H26
  icases G with ⟨%g26, H26⟩
  ihave G := (pt_of_owns_any c harg27) $$ [H27]; · iexact H27
  icases G with ⟨%g27, H27⟩
  iapply (bodyRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) g18 g19 g20 g21 g22 g23 g24 g25 g26 g27 Q)
  isplitl [H3]; · iapply (pt_of_owns c harg3 x3); iexact H3
  isplitl [H4]; · iapply (pt_of_owns c harg4 x4); iexact H4
  isplitl [H5]; · iapply (pt_of_owns c harg5 x5); iexact H5
  isplitl [H6]; · iapply (pt_of_owns c harg6 x6); iexact H6
  isplitl [H7]; · iapply (pt_of_owns c harg7 x7); iexact H7
  isplitl [H8]; · iapply (pt_of_owns c harg8 x8); iexact H8
  isplitl [H9]; · iapply (pt_of_owns c harg9 x9); iexact H9
  isplitl [H10]; · iapply (pt_of_owns c harg10 x10); iexact H10
  isplitl [H11]; · iapply (pt_of_owns c harg11 x11); iexact H11
  isplitl [H12]; · iapply (pt_of_owns c harg12 x12); iexact H12
  isplitl [H13]; · iapply (pt_of_owns c harg13 x13); iexact H13
  isplitl [H14]; · iapply (pt_of_owns c harg14 x14); iexact H14
  isplitl [H15]; · iapply (pt_of_owns c harg15 x15); iexact H15
  isplitl [H16]; · iapply (pt_of_owns c harg16 x16); iexact H16
  isplitl [H17]; · iapply (pt_of_owns c harg17 x17); iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H3, H4, H5, H6, H7, H8, H9, H10, H11, H12, H13, H14, H15, H16, H17, H18, H19, H20, H21, H22, H23, H24, H25, H26, H27⟩
  iapply Hk
  isplitl [H3]; · iapply (owns_of_pt c harg3 x3); iexact H3
  isplitl [H4]; · iapply (owns_of_pt c harg4 x4); iexact H4
  isplitl [H5]; · iapply (owns_of_pt c harg5 x5); iexact H5
  isplitl [H6]; · iapply (owns_of_pt c harg6 x6); iexact H6
  isplitl [H7]; · iapply (owns_of_pt_any c harg7); iexact H7
  isplitl [H8]; · iapply (owns_of_pt_any c harg8); iexact H8
  isplitl [H9]; · iapply (owns_of_pt_any c harg9); iexact H9
  isplitl [H10]; · iapply (owns_of_pt_any c harg10); iexact H10
  isplitl [H11]; · iapply (owns_of_pt_any c harg11); iexact H11
  isplitl [H12]; · iapply (owns_of_pt_any c harg12); iexact H12
  isplitl [H13]; · iapply (owns_of_pt_any c harg13); iexact H13
  isplitl [H14]; · iapply (owns_of_pt_any c harg14); iexact H14
  isplitl [H15]; · iapply (owns_of_pt_any c harg15); iexact H15
  isplitl [H16]; · iapply (owns_of_pt_any c harg16); iexact H16
  isplitl [H17]; · iapply (owns_of_pt_any c harg17); iexact H17
  isplitl [H18]; · iapply (owns_of_pt_any c harg18); iexact H18
  isplitl [H19]; · iapply (owns_of_pt_any c harg19); iexact H19
  isplitl [H20]; · iapply (owns_of_pt_any c harg20); iexact H20
  isplitl [H21]; · iapply (owns_of_pt_any c harg21); iexact H21
  isplitl [H22]; · iapply (owns_of_pt_any c harg22); iexact H22
  isplitl [H23]; · iapply (owns_of_pt_any c harg23); iexact H23
  isplitl [H24]; · iapply (owns_of_pt_any c harg24); iexact H24
  isplitl [H25]; · iapply (owns_of_pt_any c harg25); iexact H25
  isplitl [H26]; · iapply (owns_of_pt_any c harg26); iexact H26
  iapply (owns_of_pt_any c harg27); iexact H27

variable (m : (ℓ : Loc nD τ sig) → Buf (Elt F) ℓ) (ρ : Dev nD → PrngReg)

/-- The scratch, buffer by buffer, as whole memrefs. -/
theorem scratch_eq (c : Dev nD) : (Pipeline.scopedRest (Ix := Unit) (Name := ℕ) (U := UR sig nD τ) (Lvl := ℕ) (Val := Elt F) spec0 c : sProp 𝕄)
    = iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X) ∗ (∃ X, owns (c : Thread nD τ) (Memref.whole cc0_scratch9) fullShare X)) := by
  rw [scopedRest0_eq]; simp only [owns_whole]

/-- The pipeline's proof data on core `c`: the arrays as launched; the body keeps an input window's buffer and may leave
    anything in an output's; the invariant is that the scratch is there. -/
def rdat (c : Dev nD) : RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body at grid point `t`: `bodyOwns` on the current staging buffers and the scratch. -/
theorem sound_body (c : Dev nD) (t : Fin cfg0.N) (Y : (w : Fin cfg0.W) → (cfg0.win w).block.Idx → Elt F (cfg0.win w).elt) :
    iprop((rdat (F := F) m c).Φ t.castSucc ∗ (rdat (F := F) m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14))
      ⊢ wp frame (wpE (defs₀ (F := F)) Variants.none c none) Set.univ (bodyAt0 t)
        (fun _ => iprop((rdat (F := F) m c).Φ t.succ ∗ (rdat (F := F) m c).owesAt () t.succ ∗ (∃ X, ⌜(rdat (F := F) m c).after 0 t (Y 0) X⌝ ∗ owns (c : Thread nD τ) (st0_0 t) fullShare X) ∗ (∃ X, ⌜(rdat (F := F) m c).after 1 t (Y 1) X⌝ ∗ owns (c : Thread nD τ) (st0_1 t) fullShare X) ∗ (∃ X, ⌜(rdat (F := F) m c).after 2 t (Y 2) X⌝ ∗ owns (c : Thread nD τ) (st0_2 t) fullShare X) ∗ (∃ X, ⌜(rdat (F := F) m c).after 3 t (Y 3) X⌝ ∗ owns (c : Thread nD τ) (st0_3 t) fullShare X) ∗ (∃ X, ⌜(rdat (F := F) m c).after 4 t (Y 4) X⌝ ∗ owns (c : Thread nD τ) (st0_4 t) fullShare X) ∗ (∃ X, ⌜(rdat (F := F) m c).after 5 t (Y 5) X⌝ ∗ owns (c : Thread nD τ) (st0_5 t) fullShare X) ∗ (∃ X, ⌜(rdat (F := F) m c).after 6 t (Y 6) X⌝ ∗ owns (c : Thread nD τ) (st0_6 t) fullShare X) ∗ (∃ X, ⌜(rdat (F := F) m c).after 7 t (Y 7) X⌝ ∗ owns (c : Thread nD τ) (st0_7 t) fullShare X) ∗ (∃ X, ⌜(rdat (F := F) m c).after 8 t (Y 8) X⌝ ∗ owns (c : Thread nD τ) (st0_8 t) fullShare X) ∗ (∃ X, ⌜(rdat (F := F) m c).after 9 t (Y 9) X⌝ ∗ owns (c : Thread nD τ) (st0_9 t) fullShare X) ∗ (∃ X, ⌜(rdat (F := F) m c).after 10 t (Y 10) X⌝ ∗ owns (c : Thread nD τ) (st0_10 t) fullShare X) ∗ (∃ X, ⌜(rdat (F := F) m c).after 11 t (Y 11) X⌝ ∗ owns (c : Thread nD τ) (st0_11 t) fullShare X) ∗ (∃ X, ⌜(rdat (F := F) m c).after 12 t (Y 12) X⌝ ∗ owns (c : Thread nD τ) (st0_12 t) fullShare X) ∗ (∃ X, ⌜(rdat (F := F) m c).after 13 t (Y 13) X⌝ ∗ owns (c : Thread nD τ) (st0_13 t) fullShare X) ∗ (∃ X, ⌜(rdat (F := F) m c).after 14 t (Y 14) X⌝ ∗ owns (c : Thread nD τ) (st0_14 t) fullShare X))) := by
  rw [show (rdat (F := F) m c).Φ t.succ = Pipeline.ΦA spec0 c from rfl, show (rdat (F := F) m c).Φ t.castSucc = Pipeline.ΦA spec0 c from rfl,
    show (rdat (F := F) m c).owesAt () t.succ = (rdat (F := F) m c).owesAt () t.castSucc from rfl]
  unfold Pipeline.ΦA
  rw [scratch_eq]
  unfold bodyAt0
  iintro ⟨⟨⟨S0, S1, S2, S3, S4, S5, S6, S7, S8, S9⟩, HR⟩, Ho, H0, H1, H2, H3, H4, H5, H6, H7, H8, H9, H10, H11, H12, H13, H14⟩
  iapply (bodyOwns c (grid0.coords t) _ _ _ _ _ _ _ _ _ _ _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, S0, S1, S2, S3, S4, S5, S6, S7, S8, S9⟩
  isplitl [S0 S1 S2 S3 S4 S5 S6 S7 S8 S9 HR]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact HR
  isplitl [Ho]; · iexact Ho
  isplitl [H0]
  · iexists Y 0; isplitr; · ipureintro; exact fun _ => rfl
    iexact H0
  isplitl [H1]
  · iexists Y 1; isplitr; · ipureintro; exact fun _ => rfl
    iexact H1
  isplitl [H2]
  · iexists Y 2; isplitr; · ipureintro; exact fun _ => rfl
    iexact H2
  isplitl [H3]
  · iexists Y 3; isplitr; · ipureintro; exact fun _ => rfl
    iexact H3
  isplitl [H4]
  · iexists e4; isplitr; · ipureintro; exact fun h => absurd h (by decide)
    iexact H4
  isplitl [H5]
  · iexists e5; isplitr; · ipureintro; exact fun h => absurd h (by decide)
    iexact H5
  isplitl [H6]
  · iexists e6; isplitr; · ipureintro; exact fun h => absurd h (by decide)
    iexact H6
  isplitl [H7]
  · iexists e7; isplitr; · ipureintro; exact fun h => absurd h (by decide)
    iexact H7
  isplitl [H8]
  · iexists e8; isplitr; · ipureintro; exact fun h => absurd h (by decide)
    iexact H8
  isplitl [H9]
  · iexists e9; isplitr; · ipureintro; exact fun h => absurd h (by decide)
    iexact H9
  isplitl [H10]
  · iexists e10; isplitr; · ipureintro; exact fun h => absurd h (by decide)
    iexact H10
  isplitl [H11]
  · iexists e11; isplitr; · ipureintro; exact fun h => absurd h (by decide)
    iexact H11
  isplitl [H12]
  · iexists e12; isplitr; · ipureintro; exact fun h => absurd h (by decide)
    iexact H12
  isplitl [H13]
  · iexists e13; isplitr; · ipureintro; exact fun h => absurd h (by decide)
    iexact H13
  iexists e14; isplitr; · ipureintro; exact fun h => absurd h (by decide)
  iexact H14

/-- The library's body obligation, at every point. -/
theorem body_obligation (c : Dev nD) : (rdat (F := F) m c).BodyObligation (defs₀ (F := F)) Variants.none () Set.univ := by
  intro t Y _
  rw [bigSep_W0, bigSep_W0, defs₀_row]
  exact sound_body m c t Y

set_option backward.isDefEq.respectTransparency.types false in
set_option maxHeartbeats 800000 in
/-- The launch: every execution ends, the arrays related to the proof data, every semaphore at zero. -/
theorem run_main : θ_run defs (onTc (τ := τ) (main (F := F))) (s₀ m ρ)
    (fun r => RDat.FramePost (cfgs 0) (rdat (F := F) m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame claim: the run ends, the arguments are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1.arr_in c 0 rfl, h.1.arr_in c 1 rfl, h.1.arr_in c 2 rfl, h.1.arr_in c 3 rfl⟩, h.2⟩)
    (run_main m ρ)

end Cert.Kernel.Body

end
-- ==== Proof.KernelIdealRun.lean ====
module

public import proofs.«01_k».proof.Proof.Gen.KernelIdeal
public import Idealize.ShloMosaic.Lib.Tactic
public import Idealize.ShloMosaic.Lib.Pipeline.Kit

/-!
# The body of `KernelIdeal` runs

`bodyRun` executes the printed body symbolically, whatever its 25 buffers hold and whichever of its two conditional
blocks run.
-/

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

/-- The contents type of memref `M`'s buffer on core `c`. -/
abbrev Bf (c : Dev nD) {sp : Space} {S : Shape} {e : EltTy} (M : Memref sig .tc sp S e) : Type :=
  Buf (Elt F) (M.view.loc (c : Thread nD τ))

/-- Memref `M`'s buffer on core `c`, held whole at contents `f`. -/
abbrev pt (c : Dev nD) {sp : Space} {S : Shape} {e : EltTy} (M : Memref sig .tc sp S e) (f : Bf (F := F) c M) : sProp 𝕄 :=
  M.view.loc (c : Thread nD τ) ↦{fullShare} f

set_option maxHeartbeats 0 in
set_option maxRecDepth 100000 in
/-- The body runs without fault from any contents of its buffers, returns the four inputs as they were and every other
    buffer at some contents. -/
theorem bodyRun (c : Dev nD) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .fp8e4m3) (harg10 : arg10.IsWhole) (arg11 : Memref sig .tc .smem S8x16 .f32) (harg11 : arg11.IsWhole) (arg12 : Memref sig .tc .vmem S1x2048x128 .fp8e4m3) (harg12 : arg12.IsWhole) (arg13 : Memref sig .tc .smem S8x4 .f32) (harg13 : arg13.IsWhole) (arg14 : Memref sig .tc .vmem S1x2048x128 .fp8e4m3) (harg14 : arg14.IsWhole) (arg15 : Memref sig .tc .smem S8x4 .f32) (harg15 : arg15.IsWhole) (arg16 : Memref sig .tc .vmem S1x2048x128 .fp8e5m2) (harg16 : arg16.IsWhole) (arg17 : Memref sig .tc .smem S8x16 .f32) (harg17 : arg17.IsWhole) (arg18 : Memref sig .tc .vmem S2x2048x256 .f32) (harg18 : arg18.IsWhole) (arg19 : Memref sig .tc .vmem S2048x2048 .fp8e4m3) (harg19 : arg19.IsWhole) (arg20 : Memref sig .tc .vmem S2048x2048 .bf16) (harg20 : arg20.IsWhole) (arg21 : Memref sig .tc .vmem S128x2048 .bf16) (harg21 : arg21.IsWhole) (arg22 : Memref sig .tc .vmem S128x2048 .fp8e4m3) (harg22 : arg22.IsWhole) (arg23 : Memref sig .tc .vmem S128x2048 .bf16) (harg23 : arg23.IsWhole) (arg24 : Memref sig .tc .vmem S128x2048 .fp8e5m2) (harg24 : arg24.IsWhole) (arg25 : Memref sig .tc .vmem S128x2048 .f32) (harg25 : arg25.IsWhole) (arg26 : Memref sig .tc .vmem S128x2048 .f32) (harg26 : arg26.IsWhole) (arg27 : Memref sig .tc .vmem S16x128 .f32) (harg27 : arg27.IsWhole)
    (f3 : Bf (F := F) c arg3) (f4 : Bf (F := F) c arg4) (f5 : Bf (F := F) c arg5) (f6 : Bf (F := F) c arg6) (f7 : Bf (F := F) c arg7) (f8 : Bf (F := F) c arg8) (f9 : Bf (F := F) c arg9) (f10 : Bf (F := F) c arg10) (f11 : Bf (F := F) c arg11) (f12 : Bf (F := F) c arg12) (f13 : Bf (F := F) c arg13) (f14 : Bf (F := F) c arg14) (f15 : Bf (F := F) c arg15) (f16 : Bf (F := F) c arg16) (f17 : Bf (F := F) c arg17) (f18 : Bf (F := F) c arg18) (f19 : Bf (F := F) c arg19) (f20 : Bf (F := F) c arg20) (f21 : Bf (F := F) c arg21) (f22 : Bf (F := F) c arg22) (f23 : Bf (F := F) c arg23) (f24 : Bf (F := F) c arg24) (f25 : Bf (F := F) c arg25) (f26 : Bf (F := F) c arg26) (f27 : Bf (F := F) c arg27)
    (Q : PUnit → sProp 𝕄) :
    iprop(pt c arg3 f3 ∗ pt c arg4 f4 ∗ pt c arg5 f5 ∗ pt c arg6 f6 ∗ pt c arg7 f7 ∗ pt c arg8 f8 ∗ pt c arg9 f9 ∗ pt c arg10 f10 ∗ pt c arg11 f11 ∗ pt c arg12 f12 ∗ pt c arg13 f13 ∗ pt c arg14 f14 ∗ pt c arg15 f15 ∗ pt c arg16 f16 ∗ pt c arg17 f17 ∗ pt c arg18 f18 ∗ pt c arg19 f19 ∗ pt c arg20 f20 ∗ pt c arg21 f21 ∗ pt c arg22 f22 ∗ pt c arg23 f23 ∗ pt c arg24 f24 ∗ pt c arg25 f25 ∗ pt c arg26 f26 ∗ pt c arg27 f27 ∗ (iprop(pt c arg3 f3 ∗ pt c arg4 f4 ∗ pt c arg5 f5 ∗ pt c arg6 f6 ∗ (∃ f, pt c arg7 f) ∗ (∃ f, pt c arg8 f) ∗ (∃ f, pt c arg9 f) ∗ (∃ f, pt c arg10 f) ∗ (∃ f, pt c arg11 f) ∗ (∃ f, pt c arg12 f) ∗ (∃ f, pt c arg13 f) ∗ (∃ f, pt c arg14 f) ∗ (∃ f, pt c arg15 f) ∗ (∃ f, pt c arg16 f) ∗ (∃ f, pt c arg17 f) ∗ (∃ f, pt c arg18 f) ∗ (∃ f, pt c arg19 f) ∗ (∃ f, pt c arg20 f) ∗ (∃ f, pt c arg21 f) ∗ (∃ f, pt c arg22 f) ∗ (∃ f, pt c arg23 f) ∗ (∃ f, pt c arg24 f) ∗ (∃ f, pt c arg25 f) ∗ (∃ f, pt c arg26 f) ∗ (∃ f, pt c arg27 f)) -∗ Q ⟨⟩))
      ⊢ wp frame (wpE (defs₀ (F := F)) Variants.none c none) Set.univ (cc0_gqa_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q := by
  by_cases h1 : k0_cond1 i = 1#1 <;> by_cases h2 : k0_cond2 i = 1#1 <;>
  · iintro ⟨H3, H4, H5, H6, H7, H8, H9, H10, H11, H12, H13, H14, H15, H16, H17, H18, H19, H20, H21, H22, H23, H24, H25, H26, H27, Hk⟩
    sl_exec!
    sl_step
    iapply Hk
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [H11]; · iexists _; iexact H11
    isplitl [H12]; · iexists _; iexact H12
    isplitl [H13]; · iexists _; iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    isplitl [H24]; · iexists _; iexact H24
    isplitl [H25]; · iexists _; iexact H25
    isplitl [H26]; · iexists _; iexact H26
    iexists _; iexact H27

end Cert.KernelIdeal.Body

end
-- ==== Proof.KernelIdealFrame.lean ====
module

public import proofs.«01_k».proof.Proof.KernelIdealRun
public import proofs.«01_k».proof.Proof.Gen.KernelIdeal.Frame
public import Idealize.ShloMosaic.Lib.Tactic
public import Idealize.ShloMosaic.Lib.Pipeline.Kit

/-!
# The frame of `KernelIdeal`

`bodyOwns` is `bodyRun` over what the buffers read.  `rdat` is the pipeline's proof data: the inputs stay what they were,
nothing is said of the outputs.  `frame` is the claim.
-/

@[expose] public section

noncomputable section

namespace Cert.KernelIdeal.Body

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {F : FTy → Type} [FloatOps F]

local notation "𝕄" => MT nD τ sig Unit (Elt F) ℕ (UR sig nD τ) ℕ

section Whole

variable (c : Dev nD) {sp : Space} {S : Shape} {e : EltTy} {M : Memref sig .tc sp S e}

/-- A whole memref owned at what it reads is its buffer held. -/
theorem pt_of_owns (h : M.IsWhole) (X : S.Idx → Elt F e) : (owns (c : Thread nD τ) M fullShare X : sProp 𝕄) ⊢ pt c M (h.unread X) := by
  unfold owns; rw [h.set_eq_univ]
  iintro ⟨%f, %hf, H⟩
  rw [h.eq_unread hf]; iexact H

/-- A whole memref's buffer held is the memref owned at what it reads. -/
theorem owns_of_pt (h : M.IsWhole) (X : S.Idx → Elt F e) : (pt c M (h.unread X) : sProp 𝕄) ⊢ owns (c : Thread nD τ) M fullShare X := by
  unfold owns; rw [h.set_eq_univ]
  iintro H; iexists _; isplitr; swap; · iexact H
  ipureintro; exact h.read_unread X

/-- The same at whatever contents. -/
theorem owns_of_pt_any (h : M.IsWhole) : iprop(∃ f, pt c M f : sProp 𝕄) ⊢ iprop(∃ X, owns (c : Thread nD τ) M fullShare X) := by
  unfold owns; rw [h.set_eq_univ]
  iintro ⟨%f, H⟩; iexists M.view.read (Elt F) f; iexists f; isplitr; · ipureintro; rfl
  iexact H

/-- And back. -/
theorem pt_of_owns_any (h : M.IsWhole) : iprop(∃ X, owns (c : Thread nD τ) M fullShare X : sProp 𝕄) ⊢ iprop(∃ f, pt c M f) := by
  iintro ⟨%X, H⟩; iexists h.unread X
  iapply (pt_of_owns c h X); iexact H

end Whole

set_option maxHeartbeats 4000000 in
/-- `bodyRun` over what the buffers read. -/
theorem bodyOwns (c : Dev nD) (i : grid0.Coords) (arg3 : Memref sig .tc .vmem S1x2048x128 .bf16) (harg3 : arg3.IsWhole) (arg4 : Memref sig .tc .vmem S1x2048x128 .bf16) (harg4 : arg4.IsWhole) (arg5 : Memref sig .tc .vmem S1x2048x128 .bf16) (harg5 : arg5.IsWhole) (arg6 : Memref sig .tc .vmem S1x2048x128 .bf16) (harg6 : arg6.IsWhole) (arg7 : Memref sig .tc .vmem S1x2048x128 .bf16) (harg7 : arg7.IsWhole) (arg8 : Memref sig .tc .vmem S1x2048x128 .bf16) (harg8 : arg8.IsWhole) (arg9 : Memref sig .tc .vmem S1x2048x128 .bf16) (harg9 : arg9.IsWhole) (arg10 : Memref sig .tc .vmem S1x2048x128 .fp8e4m3) (harg10 : arg10.IsWhole) (arg11 : Memref sig .tc .smem S8x16 .f32) (harg11 : arg11.IsWhole) (arg12 : Memref sig .tc .vmem S1x2048x128 .fp8e4m3) (harg12 : arg12.IsWhole) (arg13 : Memref sig .tc .smem S8x4 .f32) (harg13 : arg13.IsWhole) (arg14 : Memref sig .tc .vmem S1x2048x128 .fp8e4m3) (harg14 : arg14.IsWhole) (arg15 : Memref sig .tc .smem S8x4 .f32) (harg15 : arg15.IsWhole) (arg16 : Memref sig .tc .vmem S1x2048x128 .fp8e5m2) (harg16 : arg16.IsWhole) (arg17 : Memref sig .tc .smem S8x16 .f32) (harg17 : arg17.IsWhole) (arg18 : Memref sig .tc .vmem S2x2048x256 .f32) (harg18 : arg18.IsWhole) (arg19 : Memref sig .tc .vmem S2048x2048 .fp8e4m3) (harg19 : arg19.IsWhole) (arg20 : Memref sig .tc .vmem S2048x2048 .bf16) (harg20 : arg20.IsWhole) (arg21 : Memref sig .tc .vmem S128x2048 .bf16) (harg21 : arg21.IsWhole) (arg22 : Memref sig .tc .vmem S128x2048 .fp8e4m3) (harg22 : arg22.IsWhole) (arg23 : Memref sig .tc .vmem S128x2048 .bf16) (harg23 : arg23.IsWhole) (arg24 : Memref sig .tc .vmem S128x2048 .fp8e5m2) (harg24 : arg24.IsWhole) (arg25 : Memref sig .tc .vmem S128x2048 .f32) (harg25 : arg25.IsWhole) (arg26 : Memref sig .tc .vmem S128x2048 .f32) (harg26 : arg26.IsWhole) (arg27 : Memref sig .tc .vmem S16x128 .f32) (harg27 : arg27.IsWhole)
    (x3 : S1x2048x128.Idx → Elt F .bf16) (x4 : S1x2048x128.Idx → Elt F .bf16) (x5 : S1x2048x128.Idx → Elt F .bf16) (x6 : S1x2048x128.Idx → Elt F .bf16) (x7 : S1x2048x128.Idx → Elt F .bf16) (x8 : S1x2048x128.Idx → Elt F .bf16) (x9 : S1x2048x128.Idx → Elt F .bf16) (x10 : S1x2048x128.Idx → Elt F .fp8e4m3) (x11 : S8x16.Idx → Elt F .f32) (x12 : S1x2048x128.Idx → Elt F .fp8e4m3) (x13 : S8x4.Idx → Elt F .f32) (x14 : S1x2048x128.Idx → Elt F .fp8e4m3) (x15 : S8x4.Idx → Elt F .f32) (x16 : S1x2048x128.Idx → Elt F .fp8e5m2) (x17 : S8x16.Idx → Elt F .f32)
    (Q : PUnit → sProp 𝕄) :
    iprop(owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ (∃ X, owns (c : Thread nD τ) arg24 fullShare X) ∗ (∃ X, owns (c : Thread nD τ) arg25 fullShare X) ∗ (∃ X, owns (c : Thread nD τ) arg26 fullShare X) ∗ (∃ X, owns (c : Thread nD τ) arg27 fullShare X) ∗ (iprop(owns (c : Thread nD τ) arg3 fullShare x3 ∗ owns (c : Thread nD τ) arg4 fullShare x4 ∗ owns (c : Thread nD τ) arg5 fullShare x5 ∗ owns (c : Thread nD τ) arg6 fullShare x6 ∗ (∃ X, owns (c : Thread nD τ) arg7 fullShare X) ∗ (∃ X, owns (c : Thread nD τ) arg8 fullShare X) ∗ (∃ X, owns (c : Thread nD τ) arg9 fullShare X) ∗ (∃ X, owns (c : Thread nD τ) arg10 fullShare X) ∗ (∃ X, owns (c : Thread nD τ) arg11 fullShare X) ∗ (∃ X, owns (c : Thread nD τ) arg12 fullShare X) ∗ (∃ X, owns (c : Thread nD τ) arg13 fullShare X) ∗ (∃ X, owns (c : Thread nD τ) arg14 fullShare X) ∗ (∃ X, owns (c : Thread nD τ) arg15 fullShare X) ∗ (∃ X, owns (c : Thread nD τ) arg16 fullShare X) ∗ (∃ X, owns (c : Thread nD τ) arg17 fullShare X) ∗ (∃ X, owns (c : Thread nD τ) arg18 fullShare X) ∗ (∃ X, owns (c : Thread nD τ) arg19 fullShare X) ∗ (∃ X, owns (c : Thread nD τ) arg20 fullShare X) ∗ (∃ X, owns (c : Thread nD τ) arg21 fullShare X) ∗ (∃ X, owns (c : Thread nD τ) arg22 fullShare X) ∗ (∃ X, owns (c : Thread nD τ) arg23 fullShare X) ∗ (∃ X, owns (c : Thread nD τ) arg24 fullShare X) ∗ (∃ X, owns (c : Thread nD τ) arg25 fullShare X) ∗ (∃ X, owns (c : Thread nD τ) arg26 fullShare X) ∗ (∃ X, owns (c : Thread nD τ) arg27 fullShare X)) -∗ Q ⟨⟩))
      ⊢ wp frame (wpE (defs₀ (F := F)) Variants.none c none) Set.univ (cc0_gqa_bwd i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27) Q := by
  iintro ⟨H3, H4, H5, H6, H7, H8, H9, H10, H11, H12, H13, H14, H15, H16, H17, H18, H19, H20, H21, H22, H23, H24, H25, H26, H27, Hk⟩
  ihave G := (pt_of_owns_any c harg18) $$ [H18]; · iexact H18
  icases G with ⟨%g18, H18⟩
  ihave G := (pt_of_owns_any c harg19) $$ [H19]; · iexact H19
  icases G with ⟨%g19, H19⟩
  ihave G := (pt_of_owns_any c harg20) $$ [H20]; · iexact H20
  icases G with ⟨%g20, H20⟩
  ihave G := (pt_of_owns_any c harg21) $$ [H21]; · iexact H21
  icases G with ⟨%g21, H21⟩
  ihave G := (pt_of_owns_any c harg22) $$ [H22]; · iexact H22
  icases G with ⟨%g22, H22⟩
  ihave G := (pt_of_owns_any c harg23) $$ [H23]; · iexact H23
  icases G with ⟨%g23, H23⟩
  ihave G := (pt_of_owns_any c harg24) $$ [H24]; · iexact H24
  icases G with ⟨%g24, H24⟩
  ihave G := (pt_of_owns_any c harg25) $$ [H25]; · iexact H25
  icases G with ⟨%g25, H25⟩
  ihave G := (pt_of_owns_any c harg26) $$ [H26]; · iexact H26
  icases G with ⟨%g26, H26⟩
  ihave G := (pt_of_owns_any c harg27) $$ [H27]; · iexact H27
  icases G with ⟨%g27, H27⟩
  iapply (bodyRun c i arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 (harg3.unread x3) (harg4.unread x4) (harg5.unread x5) (harg6.unread x6) (harg7.unread x7) (harg8.unread x8) (harg9.unread x9) (harg10.unread x10) (harg11.unread x11) (harg12.unread x12) (harg13.unread x13) (harg14.unread x14) (harg15.unread x15) (harg16.unread x16) (harg17.unread x17) g18 g19 g20 g21 g22 g23 g24 g25 g26 g27 Q)
  isplitl [H3]; · iapply (pt_of_owns c harg3 x3); iexact H3
  isplitl [H4]; · iapply (pt_of_owns c harg4 x4); iexact H4
  isplitl [H5]; · iapply (pt_of_owns c harg5 x5); iexact H5
  isplitl [H6]; · iapply (pt_of_owns c harg6 x6); iexact H6
  isplitl [H7]; · iapply (pt_of_owns c harg7 x7); iexact H7
  isplitl [H8]; · iapply (pt_of_owns c harg8 x8); iexact H8
  isplitl [H9]; · iapply (pt_of_owns c harg9 x9); iexact H9
  isplitl [H10]; · iapply (pt_of_owns c harg10 x10); iexact H10
  isplitl [H11]; · iapply (pt_of_owns c harg11 x11); iexact H11
  isplitl [H12]; · iapply (pt_of_owns c harg12 x12); iexact H12
  isplitl [H13]; · iapply (pt_of_owns c harg13 x13); iexact H13
  isplitl [H14]; · iapply (pt_of_owns c harg14 x14); iexact H14
  isplitl [H15]; · iapply (pt_of_owns c harg15 x15); iexact H15
  isplitl [H16]; · iapply (pt_of_owns c harg16 x16); iexact H16
  isplitl [H17]; · iapply (pt_of_owns c harg17 x17); iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  iintro ⟨H3, H4, H5, H6, H7, H8, H9, H10, H11, H12, H13, H14, H15, H16, H17, H18, H19, H20, H21, H22, H23, H24, H25, H26, H27⟩
  iapply Hk
  isplitl [H3]; · iapply (owns_of_pt c harg3 x3); iexact H3
  isplitl [H4]; · iapply (owns_of_pt c harg4 x4); iexact H4
  isplitl [H5]; · iapply (owns_of_pt c harg5 x5); iexact H5
  isplitl [H6]; · iapply (owns_of_pt c harg6 x6); iexact H6
  isplitl [H7]; · iapply (owns_of_pt_any c harg7); iexact H7
  isplitl [H8]; · iapply (owns_of_pt_any c harg8); iexact H8
  isplitl [H9]; · iapply (owns_of_pt_any c harg9); iexact H9
  isplitl [H10]; · iapply (owns_of_pt_any c harg10); iexact H10
  isplitl [H11]; · iapply (owns_of_pt_any c harg11); iexact H11
  isplitl [H12]; · iapply (owns_of_pt_any c harg12); iexact H12
  isplitl [H13]; · iapply (owns_of_pt_any c harg13); iexact H13
  isplitl [H14]; · iapply (owns_of_pt_any c harg14); iexact H14
  isplitl [H15]; · iapply (owns_of_pt_any c harg15); iexact H15
  isplitl [H16]; · iapply (owns_of_pt_any c harg16); iexact H16
  isplitl [H17]; · iapply (owns_of_pt_any c harg17); iexact H17
  isplitl [H18]; · iapply (owns_of_pt_any c harg18); iexact H18
  isplitl [H19]; · iapply (owns_of_pt_any c harg19); iexact H19
  isplitl [H20]; · iapply (owns_of_pt_any c harg20); iexact H20
  isplitl [H21]; · iapply (owns_of_pt_any c harg21); iexact H21
  isplitl [H22]; · iapply (owns_of_pt_any c harg22); iexact H22
  isplitl [H23]; · iapply (owns_of_pt_any c harg23); iexact H23
  isplitl [H24]; · iapply (owns_of_pt_any c harg24); iexact H24
  isplitl [H25]; · iapply (owns_of_pt_any c harg25); iexact H25
  isplitl [H26]; · iapply (owns_of_pt_any c harg26); iexact H26
  iapply (owns_of_pt_any c harg27); iexact H27

variable (m : (ℓ : Loc nD τ sig) → Buf (Elt F) ℓ) (ρ : Dev nD → PrngReg)

/-- The scratch, buffer by buffer, as whole memrefs. -/
theorem scratch_eq (c : Dev nD) : (Pipeline.scopedRest (Ix := Unit) (Name := ℕ) (U := UR sig nD τ) (Lvl := ℕ) (Val := Elt F) spec0 c : sProp 𝕄)
    = iprop((∃ X, owns (c : Thread nD τ) (Memref.whole cc0_scratch0) fullShare X) ∗ (∃ X, owns (c : Thread nD τ) (Memref.whole cc0_scratch1) fullShare X) ∗ (∃ X, owns (c : Thread nD τ) (Memref.whole cc0_scratch2) fullShare X) ∗ (∃ X, owns (c : Thread nD τ) (Memref.whole cc0_scratch3) fullShare X) ∗ (∃ X, owns (c : Thread nD τ) (Memref.whole cc0_scratch4) fullShare X) ∗ (∃ X, owns (c : Thread nD τ) (Memref.whole cc0_scratch5) fullShare X) ∗ (∃ X, owns (c : Thread nD τ) (Memref.whole cc0_scratch6) fullShare X) ∗ (∃ X, owns (c : Thread nD τ) (Memref.whole cc0_scratch7) fullShare X) ∗ (∃ X, owns (c : Thread nD τ) (Memref.whole cc0_scratch8) fullShare X) ∗ (∃ X, owns (c : Thread nD τ) (Memref.whole cc0_scratch9) fullShare X)) := by
  rw [scopedRest0_eq]; simp only [owns_whole]

/-- The pipeline's proof data on core `c`: the arrays as launched; the body keeps an input window's buffer and may leave
    anything in an output's; the invariant is that the scratch is there. -/
def rdat (c : Dev nD) : RDat τ (Elt F) Unit ℕ (UR sig nD τ) ℕ cfg0 c where
  A w := V m c (Pipeline.arrRef spec0 w)
  after w _ Y X := (cfg0.win w).isOut = false → X = Y
  Φ _ := Pipeline.ΦA spec0 c
  q _ := fullShare
  owed _ := 0

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 4000000 in
/-- The body at grid point `t`: `bodyOwns` on the current staging buffers and the scratch. -/
theorem sound_body (c : Dev nD) (t : Fin cfg0.N) (Y : (w : Fin cfg0.W) → (cfg0.win w).block.Idx → Elt F (cfg0.win w).elt) :
    iprop((rdat (F := F) m c).Φ t.castSucc ∗ (rdat (F := F) m c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14))
      ⊢ wp frame (wpE (defs₀ (F := F)) Variants.none c none) Set.univ (bodyAt0 t)
        (fun _ => iprop((rdat (F := F) m c).Φ t.succ ∗ (rdat (F := F) m c).owesAt () t.succ ∗ (∃ X, ⌜(rdat (F := F) m c).after 0 t (Y 0) X⌝ ∗ owns (c : Thread nD τ) (st0_0 t) fullShare X) ∗ (∃ X, ⌜(rdat (F := F) m c).after 1 t (Y 1) X⌝ ∗ owns (c : Thread nD τ) (st0_1 t) fullShare X) ∗ (∃ X, ⌜(rdat (F := F) m c).after 2 t (Y 2) X⌝ ∗ owns (c : Thread nD τ) (st0_2 t) fullShare X) ∗ (∃ X, ⌜(rdat (F := F) m c).after 3 t (Y 3) X⌝ ∗ owns (c : Thread nD τ) (st0_3 t) fullShare X) ∗ (∃ X, ⌜(rdat (F := F) m c).after 4 t (Y 4) X⌝ ∗ owns (c : Thread nD τ) (st0_4 t) fullShare X) ∗ (∃ X, ⌜(rdat (F := F) m c).after 5 t (Y 5) X⌝ ∗ owns (c : Thread nD τ) (st0_5 t) fullShare X) ∗ (∃ X, ⌜(rdat (F := F) m c).after 6 t (Y 6) X⌝ ∗ owns (c : Thread nD τ) (st0_6 t) fullShare X) ∗ (∃ X, ⌜(rdat (F := F) m c).after 7 t (Y 7) X⌝ ∗ owns (c : Thread nD τ) (st0_7 t) fullShare X) ∗ (∃ X, ⌜(rdat (F := F) m c).after 8 t (Y 8) X⌝ ∗ owns (c : Thread nD τ) (st0_8 t) fullShare X) ∗ (∃ X, ⌜(rdat (F := F) m c).after 9 t (Y 9) X⌝ ∗ owns (c : Thread nD τ) (st0_9 t) fullShare X) ∗ (∃ X, ⌜(rdat (F := F) m c).after 10 t (Y 10) X⌝ ∗ owns (c : Thread nD τ) (st0_10 t) fullShare X) ∗ (∃ X, ⌜(rdat (F := F) m c).after 11 t (Y 11) X⌝ ∗ owns (c : Thread nD τ) (st0_11 t) fullShare X) ∗ (∃ X, ⌜(rdat (F := F) m c).after 12 t (Y 12) X⌝ ∗ owns (c : Thread nD τ) (st0_12 t) fullShare X) ∗ (∃ X, ⌜(rdat (F := F) m c).after 13 t (Y 13) X⌝ ∗ owns (c : Thread nD τ) (st0_13 t) fullShare X) ∗ (∃ X, ⌜(rdat (F := F) m c).after 14 t (Y 14) X⌝ ∗ owns (c : Thread nD τ) (st0_14 t) fullShare X))) := by
  rw [show (rdat (F := F) m c).Φ t.succ = Pipeline.ΦA spec0 c from rfl, show (rdat (F := F) m c).Φ t.castSucc = Pipeline.ΦA spec0 c from rfl,
    show (rdat (F := F) m c).owesAt () t.succ = (rdat (F := F) m c).owesAt () t.castSucc from rfl]
  unfold Pipeline.ΦA
  rw [scratch_eq]
  unfold bodyAt0
  iintro ⟨⟨⟨S0, S1, S2, S3, S4, S5, S6, S7, S8, S9⟩, HR⟩, Ho, H0, H1, H2, H3, H4, H5, H6, H7, H8, H9, H10, H11, H12, H13, H14⟩
  iapply (bodyOwns c (grid0.coords t) _ _ _ _ _ _ _ _ _ _ _ _ _ _ _ _ _ _ _ _ _ _ _ _ _ _ _ _ _ _ _ _ _ _ _ _ _ _ _ _ _ _ _ _ _ _ _ _ _ _ (Y 0) (Y 1) (Y 2) (Y 3) (Y 4) (Y 5) (Y 6) (Y 7) (Y 8) (Y 9) (Y 10) (Y 11) (Y 12) (Y 13) (Y 14) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9]; · iexact S9
  iintro ⟨H0, H1, H2, H3, ⟨%e4, H4⟩, ⟨%e5, H5⟩, ⟨%e6, H6⟩, ⟨%e7, H7⟩, ⟨%e8, H8⟩, ⟨%e9, H9⟩, ⟨%e10, H10⟩, ⟨%e11, H11⟩, ⟨%e12, H12⟩, ⟨%e13, H13⟩, ⟨%e14, H14⟩, S0, S1, S2, S3, S4, S5, S6, S7, S8, S9⟩
  isplitl [S0 S1 S2 S3 S4 S5 S6 S7 S8 S9 HR]
  · isplitl [S0 S1 S2 S3 S4 S5 S6 S7 S8 S9]
    · isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact HR
  isplitl [Ho]; · iexact Ho
  isplitl [H0]
  · iexists Y 0; isplitr; · ipureintro; exact fun _ => rfl
    iexact H0
  isplitl [H1]
  · iexists Y 1; isplitr; · ipureintro; exact fun _ => rfl
    iexact H1
  isplitl [H2]
  · iexists Y 2; isplitr; · ipureintro; exact fun _ => rfl
    iexact H2
  isplitl [H3]
  · iexists Y 3; isplitr; · ipureintro; exact fun _ => rfl
    iexact H3
  isplitl [H4]
  · iexists e4; isplitr; · ipureintro; exact fun h => absurd h (by decide)
    iexact H4
  isplitl [H5]
  · iexists e5; isplitr; · ipureintro; exact fun h => absurd h (by decide)
    iexact H5
  isplitl [H6]
  · iexists e6; isplitr; · ipureintro; exact fun h => absurd h (by decide)
    iexact H6
  isplitl [H7]
  · iexists e7; isplitr; · ipureintro; exact fun h => absurd h (by decide)
    iexact H7
  isplitl [H8]
  · iexists e8; isplitr; · ipureintro; exact fun h => absurd h (by decide)
    iexact H8
  isplitl [H9]
  · iexists e9; isplitr; · ipureintro; exact fun h => absurd h (by decide)
    iexact H9
  isplitl [H10]
  · iexists e10; isplitr; · ipureintro; exact fun h => absurd h (by decide)
    iexact H10
  isplitl [H11]
  · iexists e11; isplitr; · ipureintro; exact fun h => absurd h (by decide)
    iexact H11
  isplitl [H12]
  · iexists e12; isplitr; · ipureintro; exact fun h => absurd h (by decide)
    iexact H12
  isplitl [H13]
  · iexists e13; isplitr; · ipureintro; exact fun h => absurd h (by decide)
    iexact H13
  iexists e14; isplitr; · ipureintro; exact fun h => absurd h (by decide)
  iexact H14

/-- The library's body obligation, at every point. -/
theorem body_obligation (c : Dev nD) : (rdat (F := F) m c).BodyObligation (defs₀ (F := F)) Variants.none () Set.univ := by
  intro t Y _
  rw [bigSep_W0, bigSep_W0, defs₀_row]
  exact sound_body m c t Y

set_option backward.isDefEq.respectTransparency.types false in
set_option maxHeartbeats 800000 in
/-- The launch: every execution ends, the arrays related to the proof data, every semaphore at zero. -/
theorem run_main : θ_run defs (onTc (τ := τ) (main (F := F))) (s₀ m ρ)
    (fun r => RDat.FramePost (cfgs 0) (rdat (F := F) m) (V m) r ∧ r.2.sem = fun _ => 0) :=
  Pipeline.RDat.θ_run_frame (Q' := _) cfgs (0 : Fin 1) launch0 defs₀ Variants.none (rdat m) m ρ main
    (hbody := body_obligation m) (hshare := fun c w => by unfold RDat.share; split <;> rfl)
    (howed := fun _ _ => rfl) (V := V m) (hmain := hmain m Variants.none) (hA := fun _ _ => rfl) (hΦ := fun _ _ => rfl)

/-- The frame claim: the run ends, the arguments are unchanged, every semaphore is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨h.1.arr_in c 0 rfl, h.1.arr_in c 1 rfl, h.1.arr_in c 2 rfl, h.1.arr_in c 3 rfl⟩, h.2⟩)
    (run_main m ρ)

end Cert.KernelIdeal.Body

end
-- ==== Proof.Loop.lean ====
module

public import proofs.«01_k».proof.Proof.Gen.KernelIdeal
public import Idealize.ShloMosaic.Lib.Tactic
public import Idealize.ShloMosaic.Lib.Pipeline.Regions

/-!
# The kernel's body as loops

The printed body is straight-line code: eight row blocks of 256 queries, each over the key blocks up to its own.  Here the
same operations are written once, with the block numbers as variables, and `body_eq` says the printed body is this program.
-/

@[expose] public section

noncomputable section

namespace Cert.KernelIdeal.Loop

open Cert.KernelIdeal Cert.KernelIdeal.Gen
open Idealize.ShloMosaic
open Idealize.ShloMosaic.TcCoe
open Idealize.SL.Sem

variable {F : FTy → Type} [FloatOps F]

/-- The programs of the TensorCore that the body is made of. -/
abbrev PT (F : FTy → Type) [FloatOps F] (α : Type) : Type 1 := Prog (TpuEff nD τ sig (Elt F) Λ₀ .tc) α

/-- The shape of a matrix. -/
abbrev R2 (A B : ℕ) : Shape := ⟨2, ![A, B]⟩
/-- The shape of a stack of matrices. -/
abbrev R3 (A B C : ℕ) : Shape := ⟨3, ![A, B, C]⟩

/-! ## One load, one store -/

/-- Load an `m × n` block at `(a, b)`. -/
def ld2 {A B : ℕ} {e : EltTy} (M : Memref sig .tc .vmem (R2 A B) e) (a b m n : ℕ)
    (h : ∀ x, (![a, b] : Fin 2 → ℕ) x + (R2 m n).size x ≤ (R2 A B).size x) (h0 : 0 < (R2 m n).numel) : PT F (Vec F (R2 m n) e) :=
  Prog.lift (.load M (Rect.unit (s := R2 A B) ![a, b] (R2 m n).size h).toLoadRect (View.loadsAt_vmem h0))

/-- Load an `m × n` block at `(a, b)` of slab `z`. -/
def ld3 {Z A B : ℕ} {e : EltTy} (M : Memref sig .tc .vmem (R3 Z A B) e) (z a b m n : ℕ)
    (h : ∀ x, (![z, a, b] : Fin 3 → ℕ) x + (R3 1 m n).size x ≤ (R3 Z A B).size x) (h0 : 0 < (R3 1 m n).numel) : PT F (Vec F (R3 1 m n) e) :=
  Prog.lift (.load M (Rect.unit (s := R3 Z A B) ![z, a, b] (R3 1 m n).size h).toLoadRect (View.loadsAt_vmem h0))

/-- Store an `m × n` block at `(a, b)`. -/
def st2 {A B : ℕ} {e : EltTy} (M : Memref sig .tc .vmem (R2 A B) e) (a b m n : ℕ)
    (h : ∀ x, (![a, b] : Fin 2 → ℕ) x + (R2 m n).size x ≤ (R2 A B).size x)
    (hx : (M.access (Rect.unit (s := R2 A B) ![a, b] (R2 m n).size h)).Stores Finset.univ) (v : Vec F (R2 m n) e) : PT F PUnit :=
  Prog.lift (.store M (Rect.unit (s := R2 A B) ![a, b] (R2 m n).size h) v Finset.univ hx (.inl rfl))

/-- Store an `m × n` block at `(a, b)` of slab `z`. -/
def st3 {Z A B : ℕ} {e : EltTy} (M : Memref sig .tc .vmem (R3 Z A B) e) (z a b m n : ℕ)
    (h : ∀ x, (![z, a, b] : Fin 3 → ℕ) x + (R3 1 m n).size x ≤ (R3 Z A B).size x)
    (hx : (M.access (Rect.unit (s := R3 Z A B) ![z, a, b] (R3 1 m n).size h)).Stores Finset.univ) (v : Vec F (R3 1 m n) e) : PT F PUnit :=
  Prog.lift (.store M (Rect.unit (s := R3 Z A B) ![z, a, b] (R3 1 m n).size h) v Finset.univ hx (.inl rfl))

/-! ## Where the blocks lie -/

section Bounds

variable {i j n : ℕ}

/-- A row block of a head lies in it. -/
theorem in3 (hj : j < 8) : ∀ x, (![0, 256 * j, 0] : Fin 3 → ℕ) x + (R3 1 256 128).size x ≤ (R3 1 2048 128).size x := by
  intro x; fin_cases x <;> simp [R3] <;> omega
/-- A tile of a score slot lies in it. -/
theorem inS (hj : j < 8) : ∀ x, (![i % 2, 256 * j, 0] : Fin 3 → ℕ) x + (R3 1 256 256).size x ≤ (R3 2 2048 256).size x := by
  intro x; fin_cases x <;> simp [R3] <;> omega
/-- A tile of the square scratch lies in it. -/
theorem inQ (hi : i < 8) (hj : j < 8) : ∀ x, (![256 * j, 256 * i] : Fin 2 → ℕ) x + (R2 256 256).size x ≤ (R2 2048 2048).size x := by
  intro x; fin_cases x <;> simp [R2] <;> omega
/-- A half tile of transposed columns lies in them. -/
theorem inV (hn : n < 16) : ∀ x, (![0, 128 * n] : Fin 2 → ℕ) x + (R2 128 128).size x ≤ (R2 128 2048).size x := by
  intro x; fin_cases x <;> simp [R2] <;> omega
/-- A half tile of the probabilities lies in the scratch. -/
theorem inP (hi : i < 8) (hn : n < 16) : ∀ x, (![128 * n, 256 * i] : Fin 2 → ℕ) x + (R2 128 256).size x ≤ (R2 2048 2048).size x := by
  intro x; fin_cases x <;> simp [R2] <;> omega
/-- A row block of a transposed array lies in it. -/
theorem inT (hi : i < 8) : ∀ x, (![0, 256 * i] : Fin 2 → ℕ) x + (R2 128 256).size x ≤ (R2 128 2048).size x := by
  intro x; fin_cases x <;> simp [R2] <;> omega
/-- The first columns of a transposed array lie in it. -/
theorem inK (hi : i < 8) : ∀ x, (![0, 0] : Fin 2 → ℕ) x + (R2 128 (256 * (i + 1))).size x ≤ (R2 128 2048).size x := by
  intro x; fin_cases x <;> simp [R2] <;> omega
/-- The first rows of a row block's columns lie in the scratch. -/
theorem inD (hi : i < 8) : ∀ x, (![0, 256 * i] : Fin 2 → ℕ) x + (R2 (256 * (i + 1)) 256).size x ≤ (R2 2048 2048).size x := by
  intro x; fin_cases x <;> simp [R2] <;> omega
/-- The last columns of a transposed array lie in it. -/
theorem inU (hi : i < 8) : ∀ x, (![0, 256 * i] : Fin 2 → ℕ) x + (R2 128 (2048 - 256 * i)).size x ≤ (R2 128 2048).size x := by
  intro x; fin_cases x <;> simp [R2] <;> omega
/-- The last columns of a row block lie in the scratch. -/
theorem inW (hi : i < 8) : ∀ x, (![256 * i, 256 * i] : Fin 2 → ℕ) x + (R2 256 (2048 - 256 * i)).size x ≤ (R2 2048 2048).size x := by
  intro x; fin_cases x <;> simp [R2] <;> omega

/-- A matrix with rows and columns has elements. -/
theorem pos2 {A B : ℕ} (a : 0 < A) (b : 0 < B) : 0 < (R2 A B).numel := by
  simp only [Shape.numel, Fin.prod_univ_two]; exact Nat.mul_pos a b

/-- The stored blocks of packed types begin and end on whole words. -/
theorem packQ4 : ∀ i j : Fin 8, (Rect.unit (s := R2 2048 2048) ![256 * j.1, 256 * i.1] (R2 256 256).size (inQ i.2 j.2)).PackedRows (EltTy.packing .fp8e4m3) := by
  decide
/-- A tile of the square scratch is stored in whole packed rows. -/
theorem packQ2 : ∀ i j : Fin 8, (Rect.unit (s := R2 2048 2048) ![256 * j.1, 256 * i.1] (R2 256 256).size (inQ i.2 j.2)).PackedRows (EltTy.packing .bf16) := by
  decide
/-- A row block of a head is stored in whole packed rows. -/
theorem pack3 : ∀ j : Fin 8, (Rect.unit (s := R3 1 2048 128) ![0, 256 * j.1, 0] (R3 1 256 128).size (in3 j.2)).PackedRows (EltTy.packing .bf16) := by
  decide

end Bounds

/-! ## The quantiser's scale -/

/-- One step of the search for the exponent field: `bit` is added if the float with that field is at most `y`. -/
def expStep (y : FVec F S8x128 .f32) (b : IVec S8x128 32) (bit : BitVec 32) : IVec S8x128 32 :=
  select (cmpf .ole (bitcastToFloat .f32 (shli (addi b (broadcast S8x128 bit)) (broadcast S8x128 23#32))) y)
    (addi b (broadcast S8x128 bit)) b

/-- The exponent field of `y`, by binary search. -/
def expField (y : FVec F S8x128 .f32) : IVec S8x128 32 :=
  expStep y (expStep y (expStep y (expStep y (expStep y (expStep y (expStep y (expStep y
    (broadcast S8x128 0#32) 128#32) 64#32) 32#32) 16#32) 8#32) 4#32) 2#32) 1#32

/-- The exponent the codes are scaled down by. -/
def expo (b : IVec S8x128 32) : IVec S8x128 32 :=
  select (cmpi .eq b (broadcast S8x128 0#32)) (broadcast S8x128 0#32) (subi b (broadcast S8x128 126#32))

/-- The largest magnitude of a block times the reciprocal of the format's maximum `r`, in every lane. -/
def amax (r : BitVec 32) (t : FVec F S2048x128 .bf16) : FVec F S8x128 .f32 :=
  broadcastTo S8x128 (shapeCast S1x1 (mulf (shapeCast S1x1 (multiReduction .maximumf [1] S1
    (extf .f32 (shapeCast S1x128 (multiReduction .maximumf [0] S128 (absf t) 0xFF80#16 reduces_S2048x128_S128 (.inr rfl) rfl) shapeCasts_S128_S1x128) bitsLt_bf16_f32)
    0xFF800000#32 reduces_S1x128_S1 (.inl rfl) rfl) shapeCasts_S1_S1x1) (broadcast S1x1 (Scalar.ofBits .f32 r))) shapeCasts_S1x1_S1x1) broadcasts_S1x1_S8x128

/-- The power of two with exponent `e`. -/
def pow2 (e : IVec S8x128 32) : FVec F S8x128 .f32 :=
  bitcastToFloat .f32 (shli e (broadcast S8x128 23#32))

/-- The scale of a block. -/
def scaleOf (r : BitVec 32) (t : FVec F S2048x128 .bf16) : FVec F S1x1 .f32 :=
  extractStridedSlice S1x1 ![0, 0] (pow2 (addi (expo (expField (amax r t))) (broadcast S8x128 127#32))) slices_S8x128_o0_0_S1x1

/-- The block scaled down and clipped to the format's range. -/
def codesOf (r lo hi : BitVec 32) (t : FVec F S2048x128 .bf16) : FVec F S2048x128 .bf16 :=
  minimumf (broadcast S2048x128 (Scalar.truncf .bf16 bitsLt_bf16_f32 (Scalar.ofBits .f32 hi)))
    (maximumf (broadcast S2048x128 (Scalar.truncf .bf16 bitsLt_bf16_f32 (Scalar.ofBits .f32 lo)))
      (mulf t (broadcastTo S2048x128 (truncf .bf16 (extractStridedSlice S1x1 ![0, 0]
        (pow2 (subi (broadcast S8x128 127#32) (expo (expField (amax r t))))) slices_S8x128_o0_0_S1x1) bitsLt_bf16_f32) broadcasts_S1x1_S2048x128)))

/-- The one word of a `1 × 1` block. -/
def word (s : FVec F S1x1 .f32) : F .f32 :=
  extractAt ![0, 0, 0] (shapeCast S1x1x1 (multiReduction .maximumf [1, 2] S1 (shapeCast S1x1x1 s shapeCasts_S1x1_S1x1x1) 0xFF800000#32 reduces_S1x1x1_S1 (.inl rfl) rfl) shapeCasts_S1_S1x1x1) inpos_S1x1x1_p0_0_0

/-- The e4m3 codes of a head. -/
abbrev codes4 (t : FVec F S2048x128 .bf16) : FVec F S2048x128 .bf16 := codesOf 0x3B124925#32 0xC3E00000#32 0x43E00000#32 t
/-- The e4m3 scale of a head. -/
abbrev scale4 (t : FVec F S2048x128 .bf16) : FVec F S1x1 .f32 := scaleOf 0x3B124925#32 t
/-- The e5m2 codes of a head. -/
abbrev codes5 (t : FVec F S2048x128 .bf16) : FVec F S2048x128 .bf16 := codesOf 0x37924925#32 0xC7600000#32 0x47600000#32 t
/-- The e5m2 scale of a head. -/
abbrev scale5 (t : FVec F S2048x128 .bf16) : FVec F S1x1 .f32 := scaleOf 0x37924925#32 t

/-! ## One tile's values -/

/-- Scores of a block of keys against a block of queries, scaled. -/
def tileRaw (qb : FVec F S256x128 .fp8e4m3) (cs : FVec F S1x1 .f32) (kb : Vec F S1x256x128 .fp8e4m3) : FVec F S256x256 .f32 :=
  mulf (matmul (DotDims.transposedRhs 256 128 256) none (shapeCast S256x128 kb shapeCasts_S1x256x128_S256x128) qb (constant S256x256 .f32 0x00000000#32))
    (broadcastTo S256x256 cs broadcasts_S1x1_S256x256)

/-- On the diagonal tile the keys after the query are masked. -/
def tileMask (d : Bool) (v246 : IVec S256x256 1) (x : FVec F S256x256 .f32) : FVec F S256x256 .f32 :=
  cond d (select v246 x (broadcast S256x256 (Scalar.ofBits .f32 0xFF800000#32))) x

/-- A tile's largest score for each query. -/
def tileMax (x : FVec F S256x256 .f32) : FVec F S1x256 .f32 :=
  shapeCast S1x256 (multiReduction .maximumf [0] S256 x 0xFF800000#32 reduces_S256x256_S256 (.inl rfl) rfl) shapeCasts_S256_S1x256

/-- A tile's sum of exponentials for each query. -/
def tileSum (m : FVec F S1x256 .f32) (x : Vec F S1x256x256 .f32) : FVec F S1x256 .f32 :=
  shapeCast S1x256 (multiReduction .add [0] S256 (exp (subf (shapeCast S256x256 x shapeCasts_S1x256x256_S256x256)
    (broadcastTo S256x256 m broadcasts_S1x256_S256x256))) 0x00000000#32 reduces_S256x256_S256 (.inl rfl) rfl) shapeCasts_S256_S1x256

/-- A tile's probabilities, times 256. -/
def tileProb (lse : FVec F S1x256 .f32) (x : FVec F S256x256 .f32) : FVec F S256x256 .f32 :=
  mulf (exp (subf x (broadcastTo S256x256 lse broadcasts_S1x256_S256x256))) (broadcast S256x256 (Scalar.ofBits .f32 0x43800000#32))

/-- Probabilities clipped to the format's range. -/
def tileClip (p : FVec F S256x256 .f32) : FVec F S256x256 .fp8e4m3 :=
  truncf .fp8e4m3 (minimumf (broadcast S256x256 (Scalar.ofBits .f32 0x43E00000#32)) (maximumf (broadcast S256x256 (Scalar.ofBits .f32 0x00000000#32)) p)) bitsLt_fp8e4m3_f32

/-- A tile's score gradients. -/
def tileDs (db : FVec F S256x128 .fp8e5m2) (delta : FVec F S1x256 .f32) (vb : Vec F S1x256x128 .fp8e4m3) (p : Vec F S1x256x256 .f32) : FVec F S256x256 .bf16 :=
  truncf .bf16 (mulf (shapeCast S256x256 p shapeCasts_S1x256x256_S256x256)
    (subf (matmul (DotDims.transposedRhs 256 128 256) none (shapeCast S256x128 vb shapeCasts_S1x256x128_S256x128) db (constant S256x256 .f32 0x00000000#32))
      (broadcastTo S256x256 delta broadcasts_S1x256_S256x256))) bitsLt_bf16_f32

/-- The row sums of `dout` times output, scaled. -/
def tileDelta (d : Vec F S128x256 .fp8e5m2) (ot : FVec F S128x256 .f32) : FVec F S1x256 .f32 :=
  mulf (shapeCast S1x256 (multiReduction .add [0] S256 (mulf (extf .f32 d bitsLt_fp8e5m2_f32) ot) 0x00000000#32 reduces_S128x256_S256 (.inl rfl) rfl) shapeCasts_S256_S1x256)
    (broadcast S1x256 (Scalar.ofBits .f32 0x3B800000#32))

/-- The buffers the body works on. -/
structure Refs where
  arg3 : Memref sig .tc .vmem S1x2048x128 .bf16
  harg3 : arg3.IsWhole
  arg4 : Memref sig .tc .vmem S1x2048x128 .bf16
  harg4 : arg4.IsWhole
  arg5 : Memref sig .tc .vmem S1x2048x128 .bf16
  harg5 : arg5.IsWhole
  arg6 : Memref sig .tc .vmem S1x2048x128 .bf16
  harg6 : arg6.IsWhole
  arg7 : Memref sig .tc .vmem S1x2048x128 .bf16
  harg7 : arg7.IsWhole
  arg8 : Memref sig .tc .vmem S1x2048x128 .bf16
  harg8 : arg8.IsWhole
  arg9 : Memref sig .tc .vmem S1x2048x128 .bf16
  harg9 : arg9.IsWhole
  arg10 : Memref sig .tc .vmem S1x2048x128 .fp8e4m3
  harg10 : arg10.IsWhole
  arg11 : Memref sig .tc .smem S8x16 .f32
  harg11 : arg11.IsWhole
  arg12 : Memref sig .tc .vmem S1x2048x128 .fp8e4m3
  harg12 : arg12.IsWhole
  arg13 : Memref sig .tc .smem S8x4 .f32
  harg13 : arg13.IsWhole
  arg14 : Memref sig .tc .vmem S1x2048x128 .fp8e4m3
  harg14 : arg14.IsWhole
  arg15 : Memref sig .tc .smem S8x4 .f32
  harg15 : arg15.IsWhole
  arg16 : Memref sig .tc .vmem S1x2048x128 .fp8e5m2
  harg16 : arg16.IsWhole
  arg17 : Memref sig .tc .smem S8x16 .f32
  harg17 : arg17.IsWhole
  arg18 : Memref sig .tc .vmem S2x2048x256 .f32
  harg18 : arg18.IsWhole
  arg19 : Memref sig .tc .vmem S2048x2048 .fp8e4m3
  harg19 : arg19.IsWhole
  arg20 : Memref sig .tc .vmem S2048x2048 .bf16
  harg20 : arg20.IsWhole
  arg21 : Memref sig .tc .vmem S128x2048 .bf16
  harg21 : arg21.IsWhole
  arg22 : Memref sig .tc .vmem S128x2048 .fp8e4m3
  harg22 : arg22.IsWhole
  arg23 : Memref sig .tc .vmem S128x2048 .bf16
  harg23 : arg23.IsWhole
  arg24 : Memref sig .tc .vmem S128x2048 .fp8e5m2
  harg24 : arg24.IsWhole
  arg25 : Memref sig .tc .vmem S128x2048 .f32
  harg25 : arg25.IsWhole
  arg26 : Memref sig .tc .vmem S128x2048 .f32
  harg26 : arg26.IsWhole
  arg27 : Memref sig .tc .vmem S16x128 .f32
  harg27 : arg27.IsWhole

/-! ## The body -/

section Body

variable (R : Refs) (i : grid0.Coords)

section Block

variable (b : ℕ) (hb : b < 8) (cs : FVec F S1x1 .f32) (mask : IVec S256x256 1) (qb : FVec F S256x128 .fp8e4m3) (db : FVec F S256x128 .fp8e5m2)

/-- Scores of key block `j`, kept in the scratch; their maxima. -/
def scoreStep (j : ℕ) (hj : j < 8) : PT F (FVec F S1x256 .f32) := do
  let kb ← ld3 R.arg12 0 (256 * j) 0 256 128 (in3 hj) h_S1x256x128
  let _s ← ld3 R.arg18 (b % 2) (256 * j) 0 256 256 (inS hj) h_S1x256x256
  st3 R.arg18 (b % 2) (256 * j) 0 256 256 (inS hj) (View.stores_vmem_bits_univ h_S1x256x256 rfl)
    (shapeCast S1x256x256 (tileMask (Nat.beq j b) mask (tileRaw qb cs kb)) shapeCasts_S256x256_S1x256x256)
  pure (tileMax (tileMask (Nat.beq j b) mask (tileRaw qb cs kb)))

/-- The running maximum over key blocks `0 … j`. -/
def scores : (j : ℕ) → j < 8 → PT F (FVec F S1x256 .f32)
  | 0, hj => scoreStep R b cs mask qb 0 hj
  | j + 1, hj => do
    let m ← scores j (Nat.lt_of_succ_lt hj)
    let x ← scoreStep R b cs mask qb (j + 1) hj
    pure (maximumf m x)

/-- The sum of exponentials over key block `j`. -/
def sumStep (m : FVec F S1x256 .f32) (j : ℕ) (hj : j < 8) : PT F (FVec F S1x256 .f32) := do
  let s ← ld3 R.arg18 (b % 2) (256 * j) 0 256 256 (inS hj) h_S1x256x256
  pure (tileSum m s)

/-- The running sum over key blocks `0 … j`. -/
def sums (m : FVec F S1x256 .f32) : (j : ℕ) → j < 8 → PT F (FVec F S1x256 .f32)
  | 0, hj => sumStep R b m 0 hj
  | j + 1, hj => do
    let l ← sums m j (Nat.lt_of_succ_lt hj)
    let x ← sumStep R b m (j + 1) hj
    pure (addf l x)

/-- Probabilities of key block `j`: kept whole in the scratch, clipped in the codes. -/
def probStep (lse : FVec F S1x256 .f32) (j : ℕ) (hj : j < 8) : PT F PUnit := do
  let kb ← ld3 R.arg12 0 (256 * j) 0 256 128 (in3 hj) h_S1x256x128
  let _s ← ld3 R.arg18 (b % 2) (256 * j) 0 256 256 (inS hj) h_S1x256x256
  st3 R.arg18 (b % 2) (256 * j) 0 256 256 (inS hj) (View.stores_vmem_bits_univ h_S1x256x256 rfl)
    (shapeCast S1x256x256 (tileProb lse (tileMask (Nat.beq j b) mask (tileRaw qb cs kb))) shapeCasts_S256x256_S1x256x256)
  let _p ← ld2 R.arg19 (256 * j) (256 * b) 256 256 (inQ hb hj) h_S256x256
  st2 R.arg19 (256 * j) (256 * b) 256 256 (inQ hb hj)
    (View.stores_vmem h_S256x256 (R.harg19.storeExact_slice rfl _ (packQ4 ⟨b, hb⟩ ⟨j, hj⟩)) (fun _ => rfl))
    (shapeCast S256x256 (tileClip (tileProb lse (tileMask (Nat.beq j b) mask (tileRaw qb cs kb)))) shapeCasts_S256x256_S256x256)

/-- Over key blocks `0 … j`. -/
def probs (lse : FVec F S1x256 .f32) : (j : ℕ) → j < 8 → PT F PUnit
  | 0, hj => probStep R b hb cs mask qb lse 0 hj
  | j + 1, hj => do
    probs lse j (Nat.lt_of_succ_lt hj)
    probStep R b hb cs mask qb lse (j + 1) hj

/-- 128 keys' part of the block's output. -/
def outStep (n : ℕ) (hn : n < 16) : PT F (FVec F S128x256 .f32) := do
  let v ← ld2 R.arg22 0 (128 * n) 128 128 (inV hn) h_S128x128
  let p ← ld2 R.arg19 (128 * n) (256 * b) 128 256 (inP hb hn) h_S128x256
  pure (matmul (DotDims.plain 128 128 256) none v p (constant S128x256 .f32 0x00000000#32))

/-- The block's output over `128 * (n + 1)` keys. -/
def outs : (n : ℕ) → n < 16 → PT F (FVec F S128x256 .f32)
  | 0, hn => do
    let x ← outStep R b hb 0 hn
    pure (addf (broadcast S128x256 (Scalar.ofBits .f32 0x00000000#32)) x)
  | n + 1, hn => do
    let o ← outs n (Nat.lt_of_succ_lt hn)
    let x ← outStep R b hb (n + 1) hn
    pure (addf o x)

/-- Score gradients of key block `j`. -/
def dsStep (delta : FVec F S1x256 .f32) (j : ℕ) (hj : j < 8) : PT F PUnit := do
  let vb ← ld3 R.arg14 0 (256 * j) 0 256 128 (in3 hj) h_S1x256x128
  let p ← ld3 R.arg18 (b % 2) (256 * j) 0 256 256 (inS hj) h_S1x256x256
  let _d ← ld2 R.arg20 (256 * j) (256 * b) 256 256 (inQ hb hj) h_S256x256
  st2 R.arg20 (256 * j) (256 * b) 256 256 (inQ hb hj)
    (View.stores_vmem h_S256x256 (R.harg20.storeExact_slice rfl _ (packQ2 ⟨b, hb⟩ ⟨j, hj⟩)) (fun _ => rfl))
    (shapeCast S256x256 (tileDs db delta vb p) shapeCasts_S256x256_S256x256)

/-- Over key blocks `0 … j`. -/
def dss (delta : FVec F S1x256 .f32) : (j : ℕ) → j < 8 → PT F PUnit
  | 0, hj => dsStep R b hb db delta 0 hj
  | j + 1, hj => do
    dss delta j (Nat.lt_of_succ_lt hj)
    dsStep R b hb db delta (j + 1) hj

end Block

/-- The gradients that block `b` completes. -/
def gradStep (b : ℕ) (hb : b < 8) (v236 v241 v243 : FVec F S1x1 .f32) : PT F PUnit := do
  let k ← ld2 R.arg21 0 0 128 (256 * (b + 1)) (inK hb) (pos2 (by decide) (by omega))
  let d ← ld2 R.arg20 0 (256 * b) (256 * (b + 1)) 256 (inD hb) (pos2 (by omega) (by decide))
  let _q ← ld3 R.arg7 0 (256 * b) 0 256 128 (in3 hb) h_S1x256x128
  st3 R.arg7 0 (256 * b) 0 256 128 (in3 hb)
    (View.stores_vmem h_S1x256x128 (R.harg7.storeExact_slice rfl _ (pack3 ⟨b, hb⟩)) (fun _ => rfl))
    (shapeCast S1x256x128 (transpose S256x128 [1, 0] (truncf .bf16 (mulf
      (matmul (DotDims.plain 128 (256 * (b + 1)) 256) none k d (constant S128x256 .f32 0x00000000#32))
      (broadcastTo S128x256 v236 broadcasts_S1x1_S128x256)) bitsLt_bf16_f32) transposes_S128x256_p1_0_S256x128) shapeCasts_S256x128_S1x256x128)
  let a ← ld2 R.arg26 0 (256 * b) 128 256 (inT hb) h_S128x256
  let o ← ld2 R.arg24 0 (256 * b) 128 (2048 - 256 * b) (inU hb) (pos2 (by decide) (by omega))
  let p ← ld2 R.arg19 (256 * b) (256 * b) 256 (2048 - 256 * b) (inW hb) (pos2 (by decide) (by omega))
  let _a ← ld2 R.arg26 0 (256 * b) 128 256 (inT hb) h_S128x256
  st2 R.arg26 0 (256 * b) 128 256 (inT hb) (View.stores_vmem_bits_univ h_S128x256 rfl)
    (shapeCast S128x256 (addf a (mulf (broadcastTo S128x256 v243 broadcasts_S1x1_S128x256)
      (matmul (DotDims.transposedRhs 128 (2048 - 256 * b) 256) none o p (constant S128x256 .f32 0x00000000#32)))) shapeCasts_S128x256_S128x256)
  let a ← ld2 R.arg25 0 (256 * b) 128 256 (inT hb) h_S128x256
  let o ← ld2 R.arg23 0 (256 * b) 128 (2048 - 256 * b) (inU hb) (pos2 (by decide) (by omega))
  let p ← ld2 R.arg20 (256 * b) (256 * b) 256 (2048 - 256 * b) (inW hb) (pos2 (by decide) (by omega))
  let _a ← ld2 R.arg25 0 (256 * b) 128 256 (inT hb) h_S128x256
  st2 R.arg25 0 (256 * b) 128 256 (inT hb) (View.stores_vmem_bits_univ h_S128x256 rfl)
    (shapeCast S128x256 (addf a (mulf (broadcastTo S128x256 v241 broadcasts_S1x1_S128x256)
      (matmul (DotDims.transposedRhs 128 (2048 - 256 * b) 256) none o p (constant S128x256 .f32 0x00000000#32)))) shapeCasts_S128x256_S128x256)

/-- Row block `b`. -/
def block (v3 v92 v236 v241 v243 : FVec F S1x1 .f32) (mask : IVec S256x256 1) (b : ℕ) (hb : b < 8) : PT F PUnit := do
  let q ← ld3 R.arg10 0 (256 * b) 0 256 128 (in3 hb) h_S1x256x128
  let d ← ld3 R.arg16 0 (256 * b) 0 256 128 (in3 hb) h_S1x256x128
  let m ← scores R b (mulf v92 (mulf v3 (broadcast S1x1 (Scalar.ofBits .f32 0x3DB504F3#32)))) mask
    (shapeCast S256x128 q shapeCasts_S1x256x128_S256x128) b hb
  let l ← sums R b m b hb
  probs R b hb (mulf v92 (mulf v3 (broadcast S1x1 (Scalar.ofBits .f32 0x3DB504F3#32)))) mask
    (shapeCast S256x128 q shapeCasts_S1x256x128_S256x128) (addf m (log l)) b hb
  let o ← outs R b hb (2 * b + 1) (by omega)
  let t ← ld2 R.arg24 0 (256 * b) 128 256 (inT hb) h_S128x256
  dss R b hb (shapeCast S256x128 d shapeCasts_S1x256x128_S256x128) (tileDelta t o) b hb
  gradStep R b hb v236 v241 v243

/-- Row blocks `b, …, 0`. -/
def blocks (v3 v92 v236 v241 v243 : FVec F S1x1 .f32) (mask : IVec S256x256 1) : (n : ℕ) → n ≤ 8 → PT F PUnit
  | 0, _ => pure ⟨⟩
  | n + 1, h => do
    block R v3 v92 v236 v241 v243 mask n h
    blocks v3 v92 v236 v241 v243 mask n (Nat.le_of_succ_le h)

/-- The first query head of a key/value head: quantise the keys and values. -/
def first (h1 : k0_cond1 i = 1#1) : PT F PUnit := do
  let k ← ld3 R.arg4 0 0 0 2048 128 inb_S1x2048x128_S1x2048x128_0_0_0 h_S1x2048x128
  let t := shapeCast S2048x128 k shapeCasts_S1x2048x128_S2048x128
  let _c ← ld3 R.arg12 0 0 0 2048 128 inb_S1x2048x128_S1x2048x128_0_0_0 h_S1x2048x128
  st3 R.arg12 0 0 0 2048 128 inb_S1x2048x128_S1x2048x128_0_0_0
    (View.stores_vmem h_S1x2048x128 (R.harg12.storeExact_slice rfl _ packedfp8e4m3_S1x2048x128_S1x2048x128_0_0_0) (fun _ => rfl))
    (shapeCast S1x2048x128 (truncf .fp8e4m3 (codes4 t) bitsLt_fp8e4m3_bf16) shapeCasts_S2048x128_S1x2048x128)
  let _t ← ld2 R.arg21 0 0 128 2048 inb_S128x2048_S128x2048_0_0 h_S128x2048
  st2 R.arg21 0 0 128 2048 inb_S128x2048_S128x2048_0_0
    (View.stores_vmem h_S128x2048 (R.harg21.storeExact_slice rfl _ packedbf16_S128x2048_S128x2048_0_0) (fun _ => rfl))
    (shapeCast S128x2048 (transpose S128x2048 [1, 0] (extf .bf16 (truncf .fp8e4m3 (codes4 t) bitsLt_fp8e4m3_bf16) bitsLt_fp8e4m3_bf16) transposes_S2048x128_p1_0_S128x2048) shapeCasts_S128x2048_S128x2048)
  let _w ← smemLoad R.arg13 (Rect.unit (s := S8x4) (k0_off1 i) S1x1.size (k0_off1_inb i h1)) numel1_S1x1 rfl
  Prog.lift (.store R.arg13 (Rect.unit (s := S8x4) (k0_off1 i) S1x1.size (k0_off1_inb i h1)) (fun _ => word (scale4 t)) Finset.univ (View.stores_smem_one rfl numel1_S1x1) (.inl rfl))
  let v ← ld3 R.arg5 0 0 0 2048 128 inb_S1x2048x128_S1x2048x128_0_0_0 h_S1x2048x128
  let u := shapeCast S2048x128 v shapeCasts_S1x2048x128_S2048x128
  let _c ← ld3 R.arg14 0 0 0 2048 128 inb_S1x2048x128_S1x2048x128_0_0_0 h_S1x2048x128
  st3 R.arg14 0 0 0 2048 128 inb_S1x2048x128_S1x2048x128_0_0_0
    (View.stores_vmem h_S1x2048x128 (R.harg14.storeExact_slice rfl _ packedfp8e4m3_S1x2048x128_S1x2048x128_0_0_0) (fun _ => rfl))
    (shapeCast S1x2048x128 (truncf .fp8e4m3 (codes4 u) bitsLt_fp8e4m3_bf16) shapeCasts_S2048x128_S1x2048x128)
  let _t ← ld2 R.arg22 0 0 128 2048 inb_S128x2048_S128x2048_0_0 h_S128x2048
  st2 R.arg22 0 0 128 2048 inb_S128x2048_S128x2048_0_0
    (View.stores_vmem h_S128x2048 (R.harg22.storeExact_slice rfl _ packedfp8e4m3_S128x2048_S128x2048_0_0) (fun _ => rfl))
    (shapeCast S128x2048 (truncf .fp8e4m3 (transpose S128x2048 [1, 0] (codes4 u) transposes_S2048x128_p1_0_S128x2048) bitsLt_fp8e4m3_bf16) shapeCasts_S128x2048_S128x2048)
  let _w ← smemLoad R.arg15 (Rect.unit (s := S8x4) (k0_off1 i) S1x1.size (k0_off1_inb i h1)) numel1_S1x1 rfl
  Prog.lift (.store R.arg15 (Rect.unit (s := S8x4) (k0_off1 i) S1x1.size (k0_off1_inb i h1)) (fun _ => word (scale4 u)) Finset.univ (View.stores_smem_one rfl numel1_S1x1) (.inl rfl))
  let _s ← ld2 R.arg27 0 0 8 128 inb_S16x128_S8x128_0_0 h_S8x128
  st2 R.arg27 0 0 8 128 inb_S16x128_S8x128_0_0 (View.stores_vmem_bits_univ h_S8x128 rfl)
    (shapeCast S8x128 (broadcastTo S8x128 (shapeCast S1x1 (scale4 t) shapeCasts_S1x1_S1x1) broadcasts_S1x1_S8x128) shapeCasts_S8x128_S8x128)
  let _s ← ld2 R.arg27 8 0 8 128 inb_S16x128_S8x128_8_0 h_S8x128
  st2 R.arg27 8 0 8 128 inb_S16x128_S8x128_8_0 (View.stores_vmem_bits_univ h_S8x128 rfl)
    (shapeCast S8x128 (broadcastTo S8x128 (shapeCast S1x1 (scale4 u) shapeCasts_S1x1_S1x1) broadcasts_S1x1_S8x128) shapeCasts_S8x128_S8x128)
  let _a ← ld2 R.arg25 0 0 128 2048 inb_S128x2048_S128x2048_0_0 h_S128x2048
  st2 R.arg25 0 0 128 2048 inb_S128x2048_S128x2048_0_0 (View.stores_vmem_bits_univ h_S128x2048 rfl)
    (shapeCast S128x2048 (broadcast S128x2048 (Scalar.ofBits .f32 0x00000000#32)) shapeCasts_S128x2048_S128x2048)
  let _a ← ld2 R.arg26 0 0 128 2048 inb_S128x2048_S128x2048_0_0 h_S128x2048
  st2 R.arg26 0 0 128 2048 inb_S128x2048_S128x2048_0_0 (View.stores_vmem_bits_univ h_S128x2048 rfl)
    (shapeCast S128x2048 (broadcast S128x2048 (Scalar.ofBits .f32 0x00000000#32)) shapeCasts_S128x2048_S128x2048)

/-- The last query head of a key/value head: write the key and value gradients out. -/
def last : PT F PUnit := do
  let k ← ld2 R.arg25 0 0 128 2048 inb_S128x2048_S128x2048_0_0 h_S128x2048
  let _o ← ld3 R.arg8 0 0 0 2048 128 inb_S1x2048x128_S1x2048x128_0_0_0 h_S1x2048x128
  st3 R.arg8 0 0 0 2048 128 inb_S1x2048x128_S1x2048x128_0_0_0
    (View.stores_vmem h_S1x2048x128 (R.harg8.storeExact_slice rfl _ packedbf16_S1x2048x128_S1x2048x128_0_0_0) (fun _ => rfl))
    (shapeCast S1x2048x128 (transpose S2048x128 [1, 0] (truncf .bf16 k bitsLt_bf16_f32) transposes_S128x2048_p1_0_S2048x128) shapeCasts_S2048x128_S1x2048x128)
  let v ← ld2 R.arg26 0 0 128 2048 inb_S128x2048_S128x2048_0_0 h_S128x2048
  let _o ← ld3 R.arg9 0 0 0 2048 128 inb_S1x2048x128_S1x2048x128_0_0_0 h_S1x2048x128
  st3 R.arg9 0 0 0 2048 128 inb_S1x2048x128_S1x2048x128_0_0_0
    (View.stores_vmem h_S1x2048x128 (R.harg9.storeExact_slice rfl _ packedbf16_S1x2048x128_S1x2048x128_0_0_0) (fun _ => rfl))
    (shapeCast S1x2048x128 (transpose S2048x128 [1, 0] (truncf .bf16 v bitsLt_bf16_f32) transposes_S128x2048_p1_0_S2048x128) shapeCasts_S2048x128_S1x2048x128)

/-- Quantise the queries and `dout`; returns their scales. -/
def quant : PT F (FVec F S1x1 .f32 × FVec F S1x1 .f32) := do
  let x ← ld3 R.arg3 0 0 0 2048 128 inb_S1x2048x128_S1x2048x128_0_0_0 h_S1x2048x128
  let t := shapeCast S2048x128 x shapeCasts_S1x2048x128_S2048x128
  let _c ← ld3 R.arg10 0 0 0 2048 128 inb_S1x2048x128_S1x2048x128_0_0_0 h_S1x2048x128
  st3 R.arg10 0 0 0 2048 128 inb_S1x2048x128_S1x2048x128_0_0_0
    (View.stores_vmem h_S1x2048x128 (R.harg10.storeExact_slice rfl _ packedfp8e4m3_S1x2048x128_S1x2048x128_0_0_0) (fun _ => rfl))
    (shapeCast S1x2048x128 (truncf .fp8e4m3 (codes4 t) bitsLt_fp8e4m3_bf16) shapeCasts_S2048x128_S1x2048x128)
  let _t ← ld2 R.arg23 0 0 128 2048 inb_S128x2048_S128x2048_0_0 h_S128x2048
  st2 R.arg23 0 0 128 2048 inb_S128x2048_S128x2048_0_0
    (View.stores_vmem h_S128x2048 (R.harg23.storeExact_slice rfl _ packedbf16_S128x2048_S128x2048_0_0) (fun _ => rfl))
    (shapeCast S128x2048 (transpose S128x2048 [1, 0] (extf .bf16 (truncf .fp8e4m3 (codes4 t) bitsLt_fp8e4m3_bf16) bitsLt_fp8e4m3_bf16) transposes_S2048x128_p1_0_S128x2048) shapeCasts_S128x2048_S128x2048)
  let _w ← smemLoad R.arg11 (Rect.unit (s := S8x16) (k0_off2 i) S1x1.size (k0_off2_inb i)) numel1_S1x1 rfl
  Prog.lift (.store R.arg11 (Rect.unit (s := S8x16) (k0_off2 i) S1x1.size (k0_off2_inb i)) (fun _ => word (scale4 t)) Finset.univ (View.stores_smem_one rfl numel1_S1x1) (.inl rfl))
  let o ← ld3 R.arg6 0 0 0 2048 128 inb_S1x2048x128_S1x2048x128_0_0_0 h_S1x2048x128
  let u := shapeCast S2048x128 o shapeCasts_S1x2048x128_S2048x128
  let _c ← ld3 R.arg16 0 0 0 2048 128 inb_S1x2048x128_S1x2048x128_0_0_0 h_S1x2048x128
  st3 R.arg16 0 0 0 2048 128 inb_S1x2048x128_S1x2048x128_0_0_0
    (View.stores_vmem h_S1x2048x128 (R.harg16.storeExact_slice rfl _ packedfp8e5m2_S1x2048x128_S1x2048x128_0_0_0) (fun _ => rfl))
    (shapeCast S1x2048x128 (truncf .fp8e5m2 (codes5 u) bitsLt_fp8e5m2_bf16) shapeCasts_S2048x128_S1x2048x128)
  let _t ← ld2 R.arg24 0 0 128 2048 inb_S128x2048_S128x2048_0_0 h_S128x2048
  st2 R.arg24 0 0 128 2048 inb_S128x2048_S128x2048_0_0
    (View.stores_vmem h_S128x2048 (R.harg24.storeExact_slice rfl _ packedfp8e5m2_S128x2048_S128x2048_0_0) (fun _ => rfl))
    (shapeCast S128x2048 (truncf .fp8e5m2 (transpose S128x2048 [1, 0] (codes5 u) transposes_S2048x128_p1_0_S128x2048) bitsLt_fp8e5m2_bf16) shapeCasts_S128x2048_S128x2048)
  let _w ← smemLoad R.arg17 (Rect.unit (s := S8x16) (k0_off2 i) S1x1.size (k0_off2_inb i)) numel1_S1x1 rfl
  Prog.lift (.store R.arg17 (Rect.unit (s := S8x16) (k0_off2 i) S1x1.size (k0_off2_inb i)) (fun _ => word (scale5 u)) Finset.univ (View.stores_smem_one rfl numel1_S1x1) (.inl rfl))
  pure (scale4 t, scale5 u)

/-- The body after the keys and values are quantised. -/
def rest : PT F PUnit := do
  let v3 ← ld2 R.arg27 0 0 1 1 inb_S16x128_S1x1_0_0 h_S1x1
  let v4 ← ld2 R.arg27 8 0 1 1 inb_S16x128_S1x1_8_0 h_S1x1
  let s ← quant R i
  blocks R v3 s.1
    (mulf (mulf (mulf s.2 v4) (broadcast S1x1 (Scalar.ofBits .f32 0x3B800000#32))) (mulf v3 (broadcast S1x1 (Scalar.ofBits .f32 0x3DB504F3#32))))
    (mulf (mulf (mulf s.2 v4) (broadcast S1x1 (Scalar.ofBits .f32 0x3B800000#32))) (mulf s.1 (broadcast S1x1 (Scalar.ofBits .f32 0x3DB504F3#32))))
    (mulf (broadcast S1x1 (Scalar.ofBits .f32 0x3B800000#32)) s.2)
    (cmpi .sle (iota .tc S256x256 32 [0] iota_S256x256_d0_w32) (iota .tc S256x256 32 [1] iota_S256x256_d1_w32)) 8 (Nat.le_refl 8)
  if _h2 : k0_cond2 i = 1#1 then last R else pure ⟨⟩

/-- The body. -/
def body : PT F PUnit :=
  if h1 : k0_cond1 i = 1#1 then
    first R i h1 >>= fun _ =>
    rest R i
  else rest R i

end Body

end Cert.KernelIdeal.Loop

end
-- ==== Proof.State.lean ====
module

public import proofs.«01_k».proof.Proof.Loop
public import proofs.«01_k».proof.Proof.KernelIdealFrame
public import Idealize.ShloMosaic.PureOps.Ideal
public import Idealize.ShloMosaic.Lib.Memref

/-!
# Running the body over its buffers' contents

`St` holds what the body's twenty-five buffers read.  `Runs R p σ a σ'` says that `p`, begun with the buffers at `σ`,
returns `a` and leaves them at `σ'`.  The rules for one load, one store and for sequences are here; everything after this
file is about values only.
-/

@[expose] public section

noncomputable section

namespace Cert.KernelIdeal.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

local notation "𝕄" => MT nD τ sig Unit (Elt Ideal) ℕ (UR sig nD τ) ℕ

/-- What the body's buffers read. -/
structure St where
  xi : Vec Ideal S1x2048x128 .bf16
  ki : Vec Ideal S1x2048x128 .bf16
  vi : Vec Ideal S1x2048x128 .bf16
  oi : Vec Ideal S1x2048x128 .bf16
  dq : Vec Ideal S1x2048x128 .bf16
  dk : Vec Ideal S1x2048x128 .bf16
  dv : Vec Ideal S1x2048x128 .bf16
  qc : Vec Ideal S1x2048x128 .fp8e4m3
  qs : Vec Ideal S8x16 .f32
  kc : Vec Ideal S1x2048x128 .fp8e4m3
  ks : Vec Ideal S8x4 .f32
  vc : Vec Ideal S1x2048x128 .fp8e4m3
  vs : Vec Ideal S8x4 .f32
  oc : Vec Ideal S1x2048x128 .fp8e5m2
  os : Vec Ideal S8x16 .f32
  s : Vec Ideal S2x2048x256 .f32
  pc : Vec Ideal S2048x2048 .fp8e4m3
  ds : Vec Ideal S2048x2048 .bf16
  kt : Vec Ideal S128x2048 .bf16
  vt : Vec Ideal S128x2048 .fp8e4m3
  qt : Vec Ideal S128x2048 .bf16
  ot : Vec Ideal S128x2048 .fp8e5m2
  dkt : Vec Ideal S128x2048 .f32
  dvt : Vec Ideal S128x2048 .f32
  kvs : Vec Ideal S16x128 .f32

/-- The separating conjunction of a list. -/
def sepL : List (sProp 𝕄) → sProp 𝕄
  | [] => iprop(emp)
  | P :: l => iprop(P ∗ sepL l)

/-- One member of the list, and what gives the list back with another in its place. -/
theorem sepL_access : ∀ (l : List (sProp 𝕄)) (k : ℕ) (P : sProp 𝕄), l[k]? = some P →
    (sepL l ⊢ iprop(P ∗ ∀ P' : sProp 𝕄, P' -∗ sepL (l.set k P')))
  | [], k, P, h => by simp at h
  | Q :: l, 0, P, h => by
    obtain rfl : Q = P := by simpa using h
    simp only [sepL, List.set]
    iintro ⟨H, HL⟩; isplitl [H]; · iexact H
    iintro %P' HP; isplitl [HP]; · iexact HP
    iexact HL
  | Q :: l, k + 1, P, h => by
    have ih := sepL_access l k P (by simpa using h)
    simp only [sepL, List.set]
    iintro ⟨HQ, HL⟩
    ihave G := ih $$ [HL]; · iexact HL
    icases G with ⟨HP, HK⟩
    isplitl [HP]; · iexact HP
    iintro %P' HP'; isplitl [HQ]; · iexact HQ
    iapply HK; iexact HP'

variable (c : Dev nD) (R : Refs)

/-- The buffers, each owned at what it reads. -/
def lst (σ : St) : List (sProp 𝕄) :=
  [owns (c : Thread nD τ) R.arg3 fullShare σ.xi,
   owns (c : Thread nD τ) R.arg4 fullShare σ.ki,
   owns (c : Thread nD τ) R.arg5 fullShare σ.vi,
   owns (c : Thread nD τ) R.arg6 fullShare σ.oi,
   owns (c : Thread nD τ) R.arg7 fullShare σ.dq,
   owns (c : Thread nD τ) R.arg8 fullShare σ.dk,
   owns (c : Thread nD τ) R.arg9 fullShare σ.dv,
   owns (c : Thread nD τ) R.arg10 fullShare σ.qc,
   owns (c : Thread nD τ) R.arg11 fullShare σ.qs,
   owns (c : Thread nD τ) R.arg12 fullShare σ.kc,
   owns (c : Thread nD τ) R.arg13 fullShare σ.ks,
   owns (c : Thread nD τ) R.arg14 fullShare σ.vc,
   owns (c : Thread nD τ) R.arg15 fullShare σ.vs,
   owns (c : Thread nD τ) R.arg16 fullShare σ.oc,
   owns (c : Thread nD τ) R.arg17 fullShare σ.os,
   owns (c : Thread nD τ) R.arg18 fullShare σ.s,
   owns (c : Thread nD τ) R.arg19 fullShare σ.pc,
   owns (c : Thread nD τ) R.arg20 fullShare σ.ds,
   owns (c : Thread nD τ) R.arg21 fullShare σ.kt,
   owns (c : Thread nD τ) R.arg22 fullShare σ.vt,
   owns (c : Thread nD τ) R.arg23 fullShare σ.qt,
   owns (c : Thread nD τ) R.arg24 fullShare σ.ot,
   owns (c : Thread nD τ) R.arg25 fullShare σ.dkt,
   owns (c : Thread nD τ) R.arg26 fullShare σ.dvt,
   owns (c : Thread nD τ) R.arg27 fullShare σ.kvs]

/-- All of them. -/
def own (σ : St) : sProp 𝕄 := sepL (lst c R σ)

/-- Started at `σ`, the program returns `a` and ends at `σ'`. -/
def Runs {α : Type} (p : PT Ideal α) (σ : St) (a : α) (σ' : St) : Prop :=
  ∀ Q : α → sProp 𝕄, iprop(own c R σ ∗ (own c R σ' -∗ Q a)) ⊢ wp frame (wpE (defs₀ (F := Ideal)) Variants.none c none) Set.univ p Q

variable {c R}

/-- A program that only returns. -/
theorem Runs.pure {α : Type} (a : α) (σ : St) : Runs c R (pure a) σ a σ := by
  intro Q
  rw [wp_pure]
  iintro ⟨H, HQ⟩; imodintro; iapply HQ; iexact H

/-- One program after another. -/
theorem Runs.bind {α β : Type} {p : PT Ideal α} {f : α → PT Ideal β} {σ σ' σ'' : St} {a : α} {b : β}
    (h : Runs c R p σ a σ') (h' : Runs c R (f a) σ' b σ'') : Runs c R (p >>= f) σ b σ'' := by
  intro Q
  rw [wp_bind]
  refine BIBase.Entails.trans ?_ (h _)
  iintro ⟨H, HQ⟩; isplitl [H]; · iexact H
  iintro H; iapply (h' Q); isplitl [H]; · iexact H
  iexact HQ

/-- Where one buffer's contents stand in the state. -/
structure Slot (c : Dev nD) (R : Refs) {sp : Space} {S : Shape} {e : EltTy} (M : Memref sig .tc sp S e) where
  k : ℕ
  get : St → Vec Ideal S e
  set : St → Vec Ideal S e → St
  whole : M.IsWhole
  hget : ∀ σ, (lst c R σ)[k]? = some (owns (c : Thread nD τ) M fullShare (get σ))
  hset : ∀ σ v, (lst c R σ).set k (owns (c : Thread nD τ) M fullShare v) = lst c R (set σ v)

/-- The slot of `xi`. -/
def slot3 : Slot c R R.arg3 := ⟨0, (·.xi), fun σ v => { σ with xi := v }, R.harg3, fun _ => rfl, fun _ _ => rfl⟩

/-- The slot of `ki`. -/
def slot4 : Slot c R R.arg4 := ⟨1, (·.ki), fun σ v => { σ with ki := v }, R.harg4, fun _ => rfl, fun _ _ => rfl⟩

/-- The slot of `vi`. -/
def slot5 : Slot c R R.arg5 := ⟨2, (·.vi), fun σ v => { σ with vi := v }, R.harg5, fun _ => rfl, fun _ _ => rfl⟩

/-- The slot of `oi`. -/
def slot6 : Slot c R R.arg6 := ⟨3, (·.oi), fun σ v => { σ with oi := v }, R.harg6, fun _ => rfl, fun _ _ => rfl⟩

/-- The slot of `dq`. -/
def slot7 : Slot c R R.arg7 := ⟨4, (·.dq), fun σ v => { σ with dq := v }, R.harg7, fun _ => rfl, fun _ _ => rfl⟩

/-- The slot of `dk`. -/
def slot8 : Slot c R R.arg8 := ⟨5, (·.dk), fun σ v => { σ with dk := v }, R.harg8, fun _ => rfl, fun _ _ => rfl⟩

/-- The slot of `dv`. -/
def slot9 : Slot c R R.arg9 := ⟨6, (·.dv), fun σ v => { σ with dv := v }, R.harg9, fun _ => rfl, fun _ _ => rfl⟩

/-- The slot of `qc`. -/
def slot10 : Slot c R R.arg10 := ⟨7, (·.qc), fun σ v => { σ with qc := v }, R.harg10, fun _ => rfl, fun _ _ => rfl⟩

/-- The slot of `qs`. -/
def slot11 : Slot c R R.arg11 := ⟨8, (·.qs), fun σ v => { σ with qs := v }, R.harg11, fun _ => rfl, fun _ _ => rfl⟩

/-- The slot of `kc`. -/
def slot12 : Slot c R R.arg12 := ⟨9, (·.kc), fun σ v => { σ with kc := v }, R.harg12, fun _ => rfl, fun _ _ => rfl⟩

/-- The slot of `ks`. -/
def slot13 : Slot c R R.arg13 := ⟨10, (·.ks), fun σ v => { σ with ks := v }, R.harg13, fun _ => rfl, fun _ _ => rfl⟩

/-- The slot of `vc`. -/
def slot14 : Slot c R R.arg14 := ⟨11, (·.vc), fun σ v => { σ with vc := v }, R.harg14, fun _ => rfl, fun _ _ => rfl⟩

/-- The slot of `vs`. -/
def slot15 : Slot c R R.arg15 := ⟨12, (·.vs), fun σ v => { σ with vs := v }, R.harg15, fun _ => rfl, fun _ _ => rfl⟩

/-- The slot of `oc`. -/
def slot16 : Slot c R R.arg16 := ⟨13, (·.oc), fun σ v => { σ with oc := v }, R.harg16, fun _ => rfl, fun _ _ => rfl⟩

/-- The slot of `os`. -/
def slot17 : Slot c R R.arg17 := ⟨14, (·.os), fun σ v => { σ with os := v }, R.harg17, fun _ => rfl, fun _ _ => rfl⟩

/-- The slot of `s`. -/
def slot18 : Slot c R R.arg18 := ⟨15, (·.s), fun σ v => { σ with s := v }, R.harg18, fun _ => rfl, fun _ _ => rfl⟩

/-- The slot of `pc`. -/
def slot19 : Slot c R R.arg19 := ⟨16, (·.pc), fun σ v => { σ with pc := v }, R.harg19, fun _ => rfl, fun _ _ => rfl⟩

/-- The slot of `ds`. -/
def slot20 : Slot c R R.arg20 := ⟨17, (·.ds), fun σ v => { σ with ds := v }, R.harg20, fun _ => rfl, fun _ _ => rfl⟩

/-- The slot of `kt`. -/
def slot21 : Slot c R R.arg21 := ⟨18, (·.kt), fun σ v => { σ with kt := v }, R.harg21, fun _ => rfl, fun _ _ => rfl⟩

/-- The slot of `vt`. -/
def slot22 : Slot c R R.arg22 := ⟨19, (·.vt), fun σ v => { σ with vt := v }, R.harg22, fun _ => rfl, fun _ _ => rfl⟩

/-- The slot of `qt`. -/
def slot23 : Slot c R R.arg23 := ⟨20, (·.qt), fun σ v => { σ with qt := v }, R.harg23, fun _ => rfl, fun _ _ => rfl⟩

/-- The slot of `ot`. -/
def slot24 : Slot c R R.arg24 := ⟨21, (·.ot), fun σ v => { σ with ot := v }, R.harg24, fun _ => rfl, fun _ _ => rfl⟩

/-- The slot of `dkt`. -/
def slot25 : Slot c R R.arg25 := ⟨22, (·.dkt), fun σ v => { σ with dkt := v }, R.harg25, fun _ => rfl, fun _ _ => rfl⟩

/-- The slot of `dvt`. -/
def slot26 : Slot c R R.arg26 := ⟨23, (·.dvt), fun σ v => { σ with dvt := v }, R.harg26, fun _ => rfl, fun _ _ => rfl⟩

/-- The slot of `kvs`. -/
def slot27 : Slot c R R.arg27 := ⟨24, (·.kvs), fun σ v => { σ with kvs := v }, R.harg27, fun _ => rfl, fun _ _ => rfl⟩

/-- Contents with `v` put in at a rectangle. -/
def put {S : Shape} {e : EltTy} (X : Vec Ideal S e) (r : Rect S) (v : r.shape.Idx → Elt Ideal e) : Vec Ideal S e :=
  open Classical in fun y => if h : ∃ x, r.emb x = y then v h.choose else X y

/-- After a store, the elements stored. -/
theorem put_emb {S : Shape} {e : EltTy} (X : Vec Ideal S e) (r : Rect S) (v : r.shape.Idx → Elt Ideal e) (x : r.shape.Idx) :
    put X r v (r.emb x) = v x := by
  have h : ∃ x', r.emb x' = r.emb x := ⟨x, rfl⟩
  unfold put
  rw [dif_pos h, r.emb.injective h.choose_spec]

/-- After a store, the elements not stored. -/
theorem put_of_not {S : Shape} {e : EltTy} (X : Vec Ideal S e) (r : Rect S) (v : r.shape.Idx → Elt Ideal e) (y : S.Idx)
    (h : ∀ x, r.emb x ≠ y) : put X r v y = X y := by
  unfold put
  rw [dif_neg (fun ⟨x, hx⟩ => h x hx)]

/-- Reading the view after writing the rectangle. -/
theorem read_put {sp : Space} {S : Shape} {e : EltTy} (M : Memref sig .tc sp S e) (r : Rect S) (f : M.view.ty.Contents (Elt Ideal))
    (v : r.shape.Idx → Elt Ideal e) :
    M.view.read (Elt Ideal) ((M.access r).write (Elt Ideal) f v Finset.univ) = put (M.view.read (Elt Ideal) f) r v := by
  funext y
  by_cases h : ∃ x, r.emb x = y
  · obtain ⟨x, rfl⟩ := h
    rw [put_emb]; exact View.read_slice_write_emb r f v (Finset.mem_univ x)
  · rw [put_of_not _ _ _ _ (fun x hx => h ⟨x, hx⟩)]
    exact View.read_slice_write_of_not_mem r f v _ (fun hm => h (by
      obtain ⟨x, -, hx⟩ := Finset.mem_map.mp hm; exact ⟨x, hx⟩))

/-- A load. -/
theorem Runs.load {cs : CoreSpace} {S : Shape} {e : EltTy} {M : Memref sig .tc cs S e} (s : Slot c R M) (r : Rect S) (hl : M.view.LoadsAt r.toLoadRect) (σ : St) :
    Runs c R (Prog.lift (.load M r.toLoadRect hl)) σ (fun x => s.get σ (r.emb x)) σ := by
  intro Q
  unfold own
  have ha := sepL_access (lst c R σ) s.k _ (s.hget σ)
  have hs : (lst c R σ).set s.k (owns (c : Thread nD τ) M fullShare (s.get σ)) = lst c R σ := by
    apply List.ext_getElem?
    intro j
    rw [List.getElem?_set]
    split
    · rename_i h; subst h
      rw [s.hget]; split
      · rfl
      · rename_i h; have := s.hget σ; rw [List.getElem?_eq_none (by omega)] at this; exact absurd this (by simp)
    · rfl
  iintro ⟨H, HQ⟩
  ihave G := ha $$ [H]; · iexact H
  icases G with ⟨HM, HK⟩
  unfold owns
  icases HM with ⟨%f, %hf, HM⟩
  unfold Prog.lift
  ihave W := (wp_load_rect (defs := defs₀ (F := Ideal)) Variants.none c none (Γ := ∅) Set.univ (Q := Q) (m := M) (r := r) (hl := hl) (k := fun x => Prog.ret x) (S := M.view.set) (q := fullShare) (f := f) (View.set_slice_subset _ _)) $$ [HM]; · iexact HM
  iapply W
  iintro HM
  rw [wp_ret]
  imodintro
  have hv : (M.access r).read (Elt Ideal) f = fun x => s.get σ (r.emb x) := by
    funext x; rw [← hf]; rfl
  rw [hv]
  iapply HQ
  ihave G := HK $$ %(owns (c : Thread nD τ) M fullShare (s.get σ)) [HM]
  · unfold owns; iexists f; isplitr; · ipureintro; exact hf
    iexact HM
  rw [hs]; iexact G

/-- A store. -/
theorem Runs.store {cs : CoreSpace} {S : Shape} {e : EltTy} {M : Memref sig .tc cs S e} (s : Slot c R M) (r : Rect S) (w : r.shape.Idx → Elt Ideal e)
    (hx : (M.access r).Stores Finset.univ) (hm : Finset.univ = Finset.univ ∨ ∀ a, r.stride a = 1) (σ : St) :
    Runs c R (Prog.lift (.store M r w Finset.univ hx hm)) σ ⟨⟩ (s.set σ (put (s.get σ) r w)) := by
  intro Q
  unfold own
  have ha := sepL_access (lst c R σ) s.k _ (s.hget σ)
  iintro ⟨H, HQ⟩
  ihave G := ha $$ [H]; · iexact H
  icases G with ⟨HM, HK⟩
  unfold owns
  icases HM with ⟨%f, %hf, HM⟩
  unfold Prog.lift
  ihave W := (wp_store (defs := defs₀ (F := Ideal)) Variants.none c none (Γ := ∅) Set.univ (Q := Q) (m := M) (r := r) (w := w) (Mk := Finset.univ) (hx := hx) (hm := hm) (k := fun x => Prog.ret x) (S := M.view.set) (f := f) (View.set_slice_subset _ _)) $$ [HM]; · iexact HM
  iapply W
  iintro HM
  rw [wp_ret]
  imodintro
  iapply HQ
  ihave G := HK $$ %(owns (c : Thread nD τ) M fullShare (put (s.get σ) r w)) [HM]
  · unfold owns; iexists ((M.access r).write (Elt Ideal) f w Finset.univ); isplitr; · ipureintro; rw [read_put, hf]
    iexact HM
  rw [s.hset]; iexact G

end Cert.KernelIdeal.Loop

end
-- ==== Proof.Tiles.lean ====
module

public import proofs.«01_k».proof.Proof.State
public import Idealize.ShloMosaic.Lib.Pointwise
public import Idealize.ShloMosaic.Lib.MatmulPlain
public import Idealize.ShloMosaic.Lib.ValueLayout

/-!
# What one tile's operations compute

Contents are described by functions of natural numbers: `At2 X f` says that `X` holds `f r c` at row `r` and column `c`.
-/

@[expose] public section

noncomputable section

namespace Cert.KernelIdeal.Loop

open Cert.KernelIdeal Cert.KernelIdeal.Gen
open Idealize.ShloMosaic

/-- `X` holds `f r c` at row `r`, column `c`. -/
def At2 {A B : ℕ} (X : (R2 A B).Idx → EReal) (f : ℕ → ℕ → EReal) : Prop := ∀ (r : Fin A) (c : Fin B), X (ix2 r c) = f r c

/-- `X` holds `f z r c` at slab `z`, row `r`, column `c`. -/
def At3 {Z A B : ℕ} (X : (R3 Z A B).Idx → EReal) (f : ℕ → ℕ → ℕ → EReal) : Prop :=
  ∀ (z : Fin Z) (r : Fin A) (c : Fin B), X (ix3 z r c) = f z r c

/-- A finite sum of reals, in the extended reals. -/
theorem coe_sum {ι : Type*} (s : Finset ι) (f : ι → ℝ) : ∑ x ∈ s, ((f x : ℝ) : EReal) = ((∑ x ∈ s, f x : ℝ) : EReal) := by
  classical
  induction s using Finset.induction_on with
  | empty => simp
  | insert a s h ih => rw [Finset.sum_insert h, Finset.sum_insert h, ih, EReal.coe_add]

/-- A sum over `Fin n` of reals given by numbers. -/
theorem coe_sum_fin (n : ℕ) (f : ℕ → ℝ) : ∑ x : Fin n, ((f x : ℝ) : EReal) = ((∑ x ∈ Finset.range n, f x : ℝ) : EReal) := by
  rw [coe_sum, Finset.sum_range]

/-- The largest of finitely many values, one of them real and none `⊤`, is real. -/
theorem fold_max_real {n : ℕ} (f : Fin n → EReal) (h : ∀ k, f k ≠ ⊤) (k0 : Fin n) (h0 : f k0 ≠ ⊥) :
    ∃ r : ℝ, Finset.univ.fold max ⊥ f = r := by
  have hb : Finset.univ.fold max ⊥ f ≠ ⊥ := fun e =>
    h0 (le_bot_iff.mp (e ▸ (Finset.le_fold_max (f k0)).mpr (.inr ⟨k0, Finset.mem_univ _, le_rfl⟩)))
  have ht : Finset.univ.fold max ⊥ f ≠ ⊤ := fun e => by
    have := (Finset.fold_max_lt (b := ⊥) (f := f) (s := Finset.univ) (⊤ : EReal)).mpr
      ⟨by simp, fun x _ => lt_top_iff_ne_top.mpr (h x)⟩
    exact (lt_irrefl _ (e ▸ this))
  exact ⟨_, (EReal.coe_toReal ht hb).symm⟩

/-! ## The mathematics -/

/-- The softmax scale, as the kernel's constant holds it. -/
def smR : ℝ := (Ideal.ofBits .f32 0x3DB504F3#32).toReal

/-- The softmax scale's word. -/
theorem sm_ofBits : Ideal.ofBits .f32 0x3DB504F3#32 = (smR : EReal) := by
  unfold smR
  simp only [Ideal.ofBits, Ideal.ieee]
  rw [if_neg (by decide), if_neg (by decide), EReal.toReal_coe]
/-- The word of 448. -/
theorem ofBits_448 : Ideal.ofBits .f32 0x43E00000#32 = ((448 : ℝ) : EReal) := by
  simp [Ideal.ofBits, Ideal.ieee, -EReal.coe_mul]; norm_num
/-- The word of 256. -/
theorem ofBits_256 : Ideal.ofBits .f32 0x43800000#32 = ((256 : ℝ) : EReal) := by
  simp [Ideal.ofBits, Ideal.ieee, -EReal.coe_mul]; norm_num
/-- The word of 1/256. -/
theorem ofBits_inv256 : Ideal.ofBits .f32 0x3B800000#32 = ((1 / 256 : ℝ) : EReal) := by
  simp [Ideal.ofBits, Ideal.ieee, -EReal.coe_mul]; norm_num
/-- The word of minus infinity. -/
theorem ofBits_ninf : Ideal.ofBits .f32 0xFF800000#32 = ⊥ := by
  simp [Ideal.ofBits, Ideal.ieee]

/-- Codes and scales of one query head with its key/value head. -/
structure Sp where
  q : ℕ → ℕ → ℝ
  k : ℕ → ℕ → ℝ
  v : ℕ → ℕ → ℝ
  o : ℕ → ℕ → ℝ
  sq : ℝ
  sk : ℝ
  sv : ℝ
  so : ℝ

/-- The product of row `i` of `f` and row `j` of `g`. -/
def dot (f g : ℕ → ℕ → ℝ) (i j : ℕ) : ℝ := ∑ d ∈ Finset.range 128, f i d * g j d

namespace Sp

variable (w : Sp)

/-- Scaled score of query `q` with key `k`. -/
def S (k q : ℕ) : ℝ := dot w.k w.q k q * (w.sq * (w.sk * smR))
/-- Scores with the keys after the query masked. -/
def SE (k q : ℕ) : EReal := if k ≤ q then ((w.S k q : ℝ) : EReal) else ⊥
/-- The softmax's normaliser. -/
def Z (q : ℕ) : ℝ := ∑ k ∈ Finset.range (q + 1), Real.exp (w.S k q)
/-- Probabilities times 256. -/
def P (k q : ℕ) : ℝ := if k ≤ q then Real.exp (w.S k q - Real.log (w.Z q)) * 256 else 0
/-- Probability codes. -/
def PC (k q : ℕ) : ℝ := min 448 (max 0 (w.P k q))
/-- Output, unscaled. -/
def OT (d q : ℕ) : ℝ := ∑ k ∈ Finset.range 2048, w.v k d * w.PC k q
/-- Row sums of `dout` times output. -/
def DE (q : ℕ) : ℝ := (∑ d ∈ Finset.range 128, w.o q d * w.OT d q) * (1 / 256)
/-- Score gradients, unscaled, times 256. -/
def DS (k q : ℕ) : ℝ := w.P k q * (dot w.v w.o k q - w.DE q)
/-- Query gradients. -/
def DQ (q d : ℕ) : ℝ := (∑ k ∈ Finset.range 2048, w.k k d * w.DS k q) * (w.so * w.sv * (1 / 256) * (w.sk * smR))
/-- This head's part of the value gradients. -/
def DV (k d : ℕ) : ℝ := (1 / 256 * w.so) * ∑ q ∈ Finset.range 2048, w.o q d * w.PC k q
/-- This head's part of the key gradients. -/
def DK (k d : ℕ) : ℝ := (w.so * w.sv * (1 / 256) * (w.sq * smR)) * ∑ q ∈ Finset.range 2048, w.q q d * w.DS k q

/-- A row's normaliser is positive. -/
theorem Z_pos (q : ℕ) : 0 < w.Z q :=
  Finset.sum_pos (fun _ _ => Real.exp_pos _) ⟨0, by simp⟩

/-- Keys after the query have probability zero. -/
theorem P_of_lt {k q : ℕ} (h : q < k) : w.P k q = 0 := if_neg (by omega)
/-- So have their clipped probabilities. -/
theorem PC_of_lt {k q : ℕ} (h : q < k) : w.PC k q = 0 := by simp [PC, P_of_lt w h]
/-- So have their scores' gradients. -/
theorem DS_of_lt {k q : ℕ} (h : q < k) : w.DS k q = 0 := by simp [DS, P_of_lt w h]

end Sp

/-! ## One tile -/

/-- A tile of scores. -/
theorem tileRaw_at (qb : FVec Ideal S256x128 .fp8e4m3) (cs : FVec Ideal S1x1 .f32) (kb : Vec Ideal S1x256x128 .fp8e4m3)
    (q k : ℕ → ℕ → ℝ) (c : ℝ) (hq : At2 qb (fun r d => (q r d : ℝ))) (hk : At3 kb (fun _ r d => (k r d : ℝ)))
    (hc : cs (ix2 0 0) = (c : EReal)) :
    At2 (tileRaw qb cs kb) (fun r p => ((dot k q r p * c : ℝ))) := by
  intro r p
  unfold tileRaw
  pointwise
  have e : ∀ x : Fin 128, kb (ix3 0 r x) * qb (ix2 p x) = ((k r x * q p x : ℝ) : EReal) := fun x => by
    rw [hk 0 r x, hq p x, EReal.coe_mul]
  simp only [e, hc]
  rw [coe_sum_fin 128 (fun x => k r x * q p x), EReal.coe_mul]; rfl

/-- The masked scores of key block `j` for query block `b`. -/
theorem tileMask_at (w : Sp) (b j : ℕ) (hj : j ≤ b) (mask : IVec S256x256 1) (x : FVec Ideal S256x256 .f32)
    (hm : ∀ k q : Fin 256, mask (ix2 k q) = if k.val ≤ q.val then 1#1 else 0#1)
    (hx : At2 x (fun k q => w.S (256 * j + k) (256 * b + q))) :
    At2 (tileMask (Nat.beq j b) mask x) (fun k q => w.SE (256 * j + k) (256 * b + q)) := by
  intro k q
  unfold tileMask Sp.SE
  rcases Nat.lt_or_eq_of_le hj with h | h
  · have : Nat.beq j b = false := by
      rw [Bool.eq_false_iff]; intro e; exact absurd (Nat.eq_of_beq_eq_true e) (by omega)
    rw [this]
    show x (ix2 k q) = ite _ _ _
    rw [if_pos (by omega)]
    exact hx k q
  · subst h
    have : Nat.beq j j = true := Nat.beq_refl j
    rw [this]
    show select mask x (broadcast S256x256 (Scalar.ofBits .f32 0xFF800000#32)) (ix2 k q) = _
    pointwise
    rw [hm, ofBits_ninf]
    by_cases hk : k.val ≤ q.val
    · rw [if_pos hk, if_pos (by omega)]; exact hx k q
    · rw [if_neg hk, if_neg (by omega)]; rfl

/-- A tile's largest scores are real. -/
theorem tileMax_at (w : Sp) (b j : ℕ) (hj : j ≤ b) (x : FVec Ideal S256x256 .f32)
    (hx : At2 x (fun k q => w.SE (256 * j + k) (256 * b + q))) (q : Fin 256) : ∃ r : ℝ, tileMax x (ix2 0 q) = r := by
  unfold tileMax
  pointwise
  rw [ofBits_ninf]
  refine fold_max_real _ (fun k => ?_) 0 ?_
  · rw [hx k q]; simp only [Sp.SE]; split <;> simp
  · rw [hx 0 q]; simp only [Sp.SE]; rw [if_pos (by simp; omega)]; simp

/-- The exponential of a real. -/
theorem exp_coe (r : ℝ) : Ideal.exp (r : EReal) = (Real.exp r : EReal) := rfl

/-- The exponential of a masked score, less a real. -/
theorem exp_SE (w : Sp) (k q : ℕ) (m : ℝ) :
    Ideal.exp (w.SE k q - (m : EReal)) = ((if k ≤ q then Real.exp (w.S k q - m) else 0 : ℝ) : EReal) := by
  unfold Sp.SE
  split
  · rw [← EReal.coe_sub]; rfl
  · rw [EReal.bot_sub]; rfl

/-- A tile's sums of exponentials. -/
theorem tileSum_at (w : Sp) (b j : ℕ) (m : FVec Ideal S1x256 .f32) (x : Vec Ideal S1x256x256 .f32) (mr : ℕ → ℝ)
    (hm : At2 m (fun _ q => mr q)) (hx : At3 x (fun _ k q => w.SE (256 * j + k) (256 * b + q))) :
    At2 (tileSum m x) (fun _ q => ((∑ k ∈ Finset.range 256,
      if 256 * j + k ≤ 256 * b + q then Real.exp (w.S (256 * j + k) (256 * b + q) - mr q) else 0 : ℝ))) := by
  intro z q
  obtain rfl : z = 0 := Subsingleton.elim _ _
  unfold tileSum
  pointwise
  have e : ∀ k : Fin 256, Ideal.exp (x (ix3 0 k q) - m (ix2 0 q))
      = ((if 256 * j + k ≤ 256 * b + q then Real.exp (w.S (256 * j + k) (256 * b + q) - mr q) else 0 : ℝ) : EReal) := fun k => by
    rw [hx 0 k q, hm 0 q, exp_SE]
  simp only [e]
  rw [coe_sum_fin 256 (fun k => if 256 * j + k ≤ 256 * b + q then Real.exp (w.S (256 * j + k) (256 * b + q) - mr q) else 0)]

/-- A tile of probabilities. -/
theorem tileProb_at (w : Sp) (b j : ℕ) (lse : FVec Ideal S1x256 .f32) (x : FVec Ideal S256x256 .f32)
    (hl : At2 lse (fun _ q => Real.log (w.Z (256 * b + q)))) (hx : At2 x (fun k q => w.SE (256 * j + k) (256 * b + q))) :
    At2 (tileProb lse x) (fun k q => w.P (256 * j + k) (256 * b + q)) := by
  intro k q
  unfold tileProb
  pointwise
  rw [hx k q, hl 0 q, exp_SE, ofBits_256, ← EReal.coe_mul]
  simp only [Sp.P]
  split <;> simp

/-- A tile of clipped probabilities. -/
theorem tileClip_at (w : Sp) (b j : ℕ) (x : FVec Ideal S256x256 .f32) (hx : At2 x (fun k q => w.P (256 * j + k) (256 * b + q))) :
    At2 (tileClip x) (fun k q => w.PC (256 * j + k) (256 * b + q)) := by
  intro k q
  unfold tileClip
  pointwise
  rw [hx k q, ofBits_448, ← EReal.coe_zero]
  simp only [Sp.PC]
  rw [(EReal.coe_strictMono.monotone).map_min, (EReal.coe_strictMono.monotone).map_max]

/-- A tile of the scores' gradient. -/
theorem tileDs_at (w : Sp) (b j : ℕ) (db : FVec Ideal S256x128 .fp8e5m2) (delta : FVec Ideal S1x256 .f32)
    (vb : Vec Ideal S1x256x128 .fp8e4m3) (p : Vec Ideal S1x256x256 .f32)
    (hd : At2 db (fun r d => w.o (256 * b + r) d)) (hv : At3 vb (fun _ r d => w.v (256 * j + r) d))
    (hp : At3 p (fun _ k q => w.P (256 * j + k) (256 * b + q))) (he : At2 delta (fun _ q => w.DE (256 * b + q))) :
    At2 (tileDs db delta vb p) (fun k q => w.DS (256 * j + k) (256 * b + q)) := by
  intro k q
  unfold tileDs
  pointwise
  have e : ∀ x : Fin 128, vb (ix3 0 k x) * db (ix2 q x) = ((w.v (256 * j + k) x * w.o (256 * b + q) x : ℝ) : EReal) := fun x => by
    rw [hv 0 k x, hd q x, EReal.coe_mul]
  simp only [e]
  rw [coe_sum_fin 128 (fun x => w.v (256 * j + k) x * w.o (256 * b + q) x), hp 0 k q, he 0 q, ← EReal.coe_sub, ← EReal.coe_mul]
  rfl

/-- A row block's sums of gradient times output. -/
theorem tileDelta_at (w : Sp) (b : ℕ) (d : Vec Ideal S128x256 .fp8e5m2) (ot : FVec Ideal S128x256 .f32)
    (hd : At2 d (fun x q => w.o (256 * b + q) x)) (ho : At2 ot (fun x q => w.OT x (256 * b + q))) :
    At2 (tileDelta d ot) (fun _ q => w.DE (256 * b + q)) := by
  intro z q
  obtain rfl : z = 0 := Subsingleton.elim _ _
  unfold tileDelta
  pointwise
  have e : ∀ x : Fin 128, d (ix2 x q) * ot (ix2 x q) = ((w.o (256 * b + q) x * w.OT x (256 * b + q) : ℝ) : EReal) := fun x => by
    rw [hd x q, ho x q, EReal.coe_mul]
  simp only [e]
  rw [coe_sum_fin 128 (fun x => w.o (256 * b + q) x * w.OT x (256 * b + q)), ofBits_inv256, ← EReal.coe_mul]
  rfl

end Cert.KernelIdeal.Loop

end
-- ==== Proof.Access.lean ====
module

public import proofs.«01_k».proof.Proof.Tiles

/-!
# Loads and stores of blocks, by coordinates
-/

@[expose] public section

noncomputable section

namespace Cert.KernelIdeal.Loop

open Cert.KernelIdeal Cert.KernelIdeal.Gen
open Idealize.ShloMosaic
open Idealize.ShloMosaic.TcCoe
open Idealize.SL.Sem

variable {c : Dev nD} {R : Refs}

/-- The `m × n` block at `(a, b)`. -/
def sub2 {α : Type} {A B : ℕ} (X : (R2 A B).Idx → α) (a b m n : ℕ) (h : ∀ x, (![a, b] : Fin 2 → ℕ) x + (R2 m n).size x ≤ (R2 A B).size x) :
    (R2 m n).Idx → α := fun x => X ((Rect.unit (s := R2 A B) ![a, b] (R2 m n).size h).emb x)

/-- The `m × n` block at `(a, b)` of slab `z`. -/
def sub3 {α : Type} {Z A B : ℕ} (X : (R3 Z A B).Idx → α) (z a b m n : ℕ)
    (h : ∀ x, (![z, a, b] : Fin 3 → ℕ) x + (R3 1 m n).size x ≤ (R3 Z A B).size x) :
    (R3 1 m n).Idx → α := fun x => X ((Rect.unit (s := R3 Z A B) ![z, a, b] (R3 1 m n).size h).emb x)

/-- Where an element of a block of a matrix lies in the matrix. -/
theorem emb2 {A B : ℕ} (a b m n : ℕ) (h : ∀ x, (![a, b] : Fin 2 → ℕ) x + (R2 m n).size x ≤ (R2 A B).size x)
    (r : Fin A) (q : Fin B) (r' : Fin m) (q' : Fin n) (hr : r.val = a + r'.val) (hq : q.val = b + q'.val) :
    (Rect.unit (s := R2 A B) ![a, b] (R2 m n).size h).emb (ix2 r' q' : (R2 m n).Idx) = ix2 r q := by
  funext x; apply Fin.ext
  rw [Rect.emb_apply]
  fin_cases x
  · simpa using hr.symm
  · simpa using hq.symm

/-- Where an element of a block of one slab lies in the whole. -/
theorem emb3 {Z A B : ℕ} (z a b m n : ℕ) (h : ∀ x, (![z, a, b] : Fin 3 → ℕ) x + (R3 1 m n).size x ≤ (R3 Z A B).size x)
    (z' : Fin Z) (r : Fin A) (q : Fin B) (r' : Fin m) (q' : Fin n) (hz : z'.val = z) (hr : r.val = a + r'.val) (hq : q.val = b + q'.val) :
    (Rect.unit (s := R3 Z A B) ![z, a, b] (R3 1 m n).size h).emb (ix3 0 r' q' : (R3 1 m n).Idx) = ix3 z' r q := by
  funext x; apply Fin.ext
  rw [Rect.emb_apply]
  fin_cases x
  · simpa using hz.symm
  · simpa using hr.symm
  · simpa using hq.symm

/-- A block of a matrix, element by element. -/
theorem sub2_apply {α : Type} {A B : ℕ} (X : (R2 A B).Idx → α) (a b m n : ℕ) (h : ∀ x, (![a, b] : Fin 2 → ℕ) x + (R2 m n).size x ≤ (R2 A B).size x)
    (r : Fin A) (q : Fin B) (r' : Fin m) (q' : Fin n) (hr : r.val = a + r'.val) (hq : q.val = b + q'.val) :
    sub2 X a b m n h (ix2 r' q') = X (ix2 r q) := by
  unfold sub2; rw [emb2 a b m n h r q r' q' hr hq]

/-- A block of one slab, element by element. -/
theorem sub3_apply {α : Type} {Z A B : ℕ} (X : (R3 Z A B).Idx → α) (z a b m n : ℕ)
    (h : ∀ x, (![z, a, b] : Fin 3 → ℕ) x + (R3 1 m n).size x ≤ (R3 Z A B).size x)
    (z' : Fin Z) (r : Fin A) (q : Fin B) (r' : Fin m) (q' : Fin n) (hz : z'.val = z) (hr : r.val = a + r'.val) (hq : q.val = b + q'.val) :
    sub3 X z a b m n h (ix3 0 r' q') = X (ix3 z' r q) := by
  unfold sub3; rw [emb3 z a b m n h z' r q r' q' hz hr hq]

/-- A block of a matrix whose entries are known. -/
theorem sub2_at {A B : ℕ} {X : (R2 A B).Idx → EReal} {f : ℕ → ℕ → EReal} (hX : At2 X f) (a b m n : ℕ)
    (h : ∀ x, (![a, b] : Fin 2 → ℕ) x + (R2 m n).size x ≤ (R2 A B).size x) : At2 (sub2 X a b m n h) (fun r q => f (a + r) (b + q)) := by
  intro r q
  have h0 : a + m ≤ A := h 0
  have h1 : b + n ≤ B := h 1
  rw [sub2_apply X a b m n h ⟨a + r, by omega⟩ ⟨b + q, by omega⟩ r q rfl rfl]
  exact hX _ _

/-- A block of one slab whose entries are known. -/
theorem sub3_at {Z A B : ℕ} {X : (R3 Z A B).Idx → EReal} {f : ℕ → ℕ → ℕ → EReal} (hX : At3 X f) (z a b m n : ℕ)
    (h : ∀ x, (![z, a, b] : Fin 3 → ℕ) x + (R3 1 m n).size x ≤ (R3 Z A B).size x) :
    At3 (sub3 X z a b m n h) (fun _ r q => f z (a + r) (b + q)) := by
  intro z' r q
  obtain rfl : z' = 0 := Subsingleton.elim _ _
  have h0 : z + 1 ≤ Z := h 0
  have h1 : a + m ≤ A := h 1
  have h2 : b + n ≤ B := h 2
  rw [sub3_apply X z a b m n h ⟨z, by omega⟩ ⟨a + r, by omega⟩ ⟨b + q, by omega⟩ r q rfl rfl rfl]
  exact hX _ _ _

/-- After a block is stored, its elements are the ones stored. -/
theorem put2_in {A B : ℕ} {e : EltTy} (X : Vec Ideal (R2 A B) e) (a b m n : ℕ) (h : ∀ x, (![a, b] : Fin 2 → ℕ) x + (R2 m n).size x ≤ (R2 A B).size x)
    (v : Vec Ideal (R2 m n) e) (r : Fin A) (q : Fin B) (r' : Fin m) (q' : Fin n) (hr : r.val = a + r'.val) (hq : q.val = b + q'.val) :
    put X (Rect.unit (s := R2 A B) ![a, b] (R2 m n).size h) v (ix2 r q) = v (ix2 r' q') := by
  rw [← emb2 a b m n h r q r' q' hr hq]; exact put_emb X (Rect.unit (s := R2 A B) ![a, b] (R2 m n).size h) v _

/-- After a block is stored, elements outside it are as before. -/
theorem put2_out {A B : ℕ} {e : EltTy} (X : Vec Ideal (R2 A B) e) (a b m n : ℕ) (h : ∀ x, (![a, b] : Fin 2 → ℕ) x + (R2 m n).size x ≤ (R2 A B).size x)
    (v : Vec Ideal (R2 m n) e) (r : Fin A) (q : Fin B) (hn : ¬ (a ≤ r.val ∧ r.val < a + m ∧ b ≤ q.val ∧ q.val < b + n)) :
    put X (Rect.unit (s := R2 A B) ![a, b] (R2 m n).size h) v (ix2 r q) = X (ix2 r q) := by
  refine put_of_not X (Rect.unit (s := R2 A B) ![a, b] (R2 m n).size h) v _ fun x hx => hn ?_
  have h0 := congrArg Fin.val (congrFun hx 0)
  have h1 := congrArg Fin.val (congrFun hx 1)
  rw [Rect.emb_apply] at h0 h1
  have l0 : (x 0).val < m := (x 0).isLt
  have l1 : (x 1).val < n := (x 1).isLt
  have h0' : a + (x 0).val = r.val := by simpa using h0
  have h1' : b + (x 1).val = q.val := by simpa using h1
  omega

/-- The same for a block of one slab: inside it. -/
theorem put3_in {Z A B : ℕ} {e : EltTy} (X : Vec Ideal (R3 Z A B) e) (z a b m n : ℕ)
    (h : ∀ x, (![z, a, b] : Fin 3 → ℕ) x + (R3 1 m n).size x ≤ (R3 Z A B).size x) (v : Vec Ideal (R3 1 m n) e)
    (z' : Fin Z) (r : Fin A) (q : Fin B) (r' : Fin m) (q' : Fin n) (hz : z'.val = z) (hr : r.val = a + r'.val) (hq : q.val = b + q'.val) :
    put X (Rect.unit (s := R3 Z A B) ![z, a, b] (R3 1 m n).size h) v (ix3 z' r q) = v (ix3 0 r' q') := by
  rw [← emb3 z a b m n h z' r q r' q' hz hr hq]; exact put_emb X (Rect.unit (s := R3 Z A B) ![z, a, b] (R3 1 m n).size h) v _

/-- The same for a block of one slab: outside it. -/
theorem put3_out {Z A B : ℕ} {e : EltTy} (X : Vec Ideal (R3 Z A B) e) (z a b m n : ℕ)
    (h : ∀ x, (![z, a, b] : Fin 3 → ℕ) x + (R3 1 m n).size x ≤ (R3 Z A B).size x) (v : Vec Ideal (R3 1 m n) e)
    (z' : Fin Z) (r : Fin A) (q : Fin B) (hn : ¬ (z'.val = z ∧ a ≤ r.val ∧ r.val < a + m ∧ b ≤ q.val ∧ q.val < b + n)) :
    put X (Rect.unit (s := R3 Z A B) ![z, a, b] (R3 1 m n).size h) v (ix3 z' r q) = X (ix3 z' r q) := by
  refine put_of_not X (Rect.unit (s := R3 Z A B) ![z, a, b] (R3 1 m n).size h) v _ fun x hx => hn ?_
  have hh := congrArg Fin.val (congrFun hx 0)
  have h0 := congrArg Fin.val (congrFun hx 1)
  have h1 := congrArg Fin.val (congrFun hx 2)
  rw [Rect.emb_apply] at hh h0 h1
  have l : (x 0).val < 1 := (x 0).isLt
  have l0 : (x 1).val < m := (x 1).isLt
  have l1 : (x 2).val < n := (x 2).isLt
  have hh' : z + (x 0).val = z'.val := by simpa using hh
  have h0' : a + (x 1).val = r.val := by simpa using h0
  have h1' : b + (x 2).val = q.val := by simpa using h1
  omega

/-- A store of the whole array. -/
theorem put2_whole {A B : ℕ} {e : EltTy} (X : Vec Ideal (R2 A B) e) (h : ∀ x, (![0, 0] : Fin 2 → ℕ) x + (R2 A B).size x ≤ (R2 A B).size x)
    (v : Vec Ideal (R2 A B) e) : put X (Rect.unit (s := R2 A B) ![0, 0] (R2 A B).size h) v = v := by
  funext y
  obtain ⟨r, q, rfl⟩ : ∃ r q, y = ix2 r q := ⟨y 0, y 1, eq_ix2 _⟩
  exact put2_in X 0 0 A B h v r q r q (by simp) (by simp)

/-- Storing a whole slab replaces it. -/
theorem put3_whole {A B : ℕ} {e : EltTy} (X : Vec Ideal (R3 1 A B) e) (h : ∀ x, (![0, 0, 0] : Fin 3 → ℕ) x + (R3 1 A B).size x ≤ (R3 1 A B).size x)
    (v : Vec Ideal (R3 1 A B) e) : put X (Rect.unit (s := R3 1 A B) ![0, 0, 0] (R3 1 A B).size h) v = v := by
  funext y
  obtain ⟨z, r, q, rfl⟩ : ∃ z r q, y = ix3 z r q := ⟨y 0, y 1, y 2, eq_ix3 _⟩
  obtain rfl : z = 0 := Subsingleton.elim _ _
  exact put3_in X 0 0 0 A B h v 0 r q r q rfl (by simp) (by simp)

/-- Loading a whole slab gives it. -/
theorem sub3_whole {α : Type} {A B : ℕ} (X : (R3 1 A B).Idx → α) (h : ∀ x, (![0, 0, 0] : Fin 3 → ℕ) x + (R3 1 A B).size x ≤ (R3 1 A B).size x) :
    sub3 X 0 0 0 A B h = X := by
  funext y
  obtain ⟨z, r, q, rfl⟩ : ∃ z r q, y = ix3 z r q := ⟨y 0, y 1, y 2, eq_ix3 _⟩
  obtain rfl : z = 0 := Subsingleton.elim _ _
  exact sub3_apply X 0 0 0 A B h 0 r q r q rfl (by simp) (by simp)

/-- Loading a whole matrix gives it. -/
theorem sub2_whole {α : Type} {A B : ℕ} (X : (R2 A B).Idx → α) (h : ∀ x, (![0, 0] : Fin 2 → ℕ) x + (R2 A B).size x ≤ (R2 A B).size x) :
    sub2 X 0 0 A B h = X := by
  funext y
  obtain ⟨r, q, rfl⟩ : ∃ r q, y = ix2 r q := ⟨y 0, y 1, eq_ix2 _⟩
  exact sub2_apply X 0 0 A B h r q r q (by simp) (by simp)

/-! ## The rules -/

/-- A load of a block of a matrix. -/
theorem Runs.ld2 {A B : ℕ} {e : EltTy} {M : Memref sig .tc .vmem (R2 A B) e} (s : Slot c R M) (a b m n : ℕ)
    (h : ∀ x, (![a, b] : Fin 2 → ℕ) x + (R2 m n).size x ≤ (R2 A B).size x) (h0 : 0 < (R2 m n).numel) (σ : St) :
    Runs c R (ld2 M a b m n h h0) σ (sub2 (s.get σ) a b m n h) σ := Runs.load s _ _ σ

/-- A load of a block of one slab. -/
theorem Runs.ld3 {Z A B : ℕ} {e : EltTy} {M : Memref sig .tc .vmem (R3 Z A B) e} (s : Slot c R M) (z a b m n : ℕ)
    (h : ∀ x, (![z, a, b] : Fin 3 → ℕ) x + (R3 1 m n).size x ≤ (R3 Z A B).size x) (h0 : 0 < (R3 1 m n).numel) (σ : St) :
    Runs c R (ld3 M z a b m n h h0) σ (sub3 (s.get σ) z a b m n h) σ := Runs.load s _ _ σ

/-- A store of a block of a matrix. -/
theorem Runs.st2 {A B : ℕ} {e : EltTy} {M : Memref sig .tc .vmem (R2 A B) e} (s : Slot c R M) (a b m n : ℕ)
    (h : ∀ x, (![a, b] : Fin 2 → ℕ) x + (R2 m n).size x ≤ (R2 A B).size x)
    (hx : (M.access (Rect.unit (s := R2 A B) ![a, b] (R2 m n).size h)).Stores Finset.univ) (v : Vec Ideal (R2 m n) e) (σ : St) :
    Runs c R (st2 M a b m n h hx v) σ ⟨⟩ (s.set σ (put (s.get σ) (Rect.unit (s := R2 A B) ![a, b] (R2 m n).size h) v)) :=
  Runs.store s _ _ _ _ σ

/-- A store of a block of one slab. -/
theorem Runs.st3 {Z A B : ℕ} {e : EltTy} {M : Memref sig .tc .vmem (R3 Z A B) e} (s : Slot c R M) (z a b m n : ℕ)
    (h : ∀ x, (![z, a, b] : Fin 3 → ℕ) x + (R3 1 m n).size x ≤ (R3 Z A B).size x)
    (hx : (M.access (Rect.unit (s := R3 Z A B) ![z, a, b] (R3 1 m n).size h)).Stores Finset.univ) (v : Vec Ideal (R3 1 m n) e) (σ : St) :
    Runs c R (st3 M z a b m n h hx v) σ ⟨⟩ (s.set σ (put (s.get σ) (Rect.unit (s := R3 Z A B) ![z, a, b] (R3 1 m n).size h) v)) :=
  Runs.store s _ _ _ _ σ

/-- A scalar load changes nothing. -/
theorem Runs.smemLoad {S : Shape} {e : EltTy} {M : Memref sig .tc .smem S e} (s : Slot c R M) (r : Rect S) (h1 : r.shape.numel = 1)
    (hp : e.packing = 1) (σ : St) :
    Runs c R (smemLoad M r h1 hp) σ (s.get σ (r.emb (Shape.Idx.first (h1.symm ▸ Nat.one_pos)))) σ :=
  Runs.bind (Runs.load s r _ σ) (Runs.pure _ σ)

end Cert.KernelIdeal.Loop

end
-- ==== Proof.Block.lean ====
module

public import proofs.«01_k».proof.Proof.Access

/-!
# One row block

What the stages of a row block leave in the scratch, given the codes.
-/

@[expose] public section

noncomputable section

namespace Cert.KernelIdeal.Loop

open Cert.KernelIdeal Cert.KernelIdeal.Gen
open Idealize.ShloMosaic
open Idealize.ShloMosaic.TcCoe
open Idealize.SL.Sem

variable {c : Dev nD} {R : Refs}

attribute [local irreducible] put sub2 sub3 tileRaw tileMask tileProb tileClip tileSum tileMax tileDs tileDelta

/-- The codes are in their buffers. -/
structure Codes (w : Sp) (σ : St) : Prop where
  qc : At3 σ.qc (fun _ r d => w.q r d)
  kc : At3 σ.kc (fun _ r d => w.k r d)
  vc : At3 σ.vc (fun _ r d => w.v r d)
  oc : At3 σ.oc (fun _ r d => w.o r d)
  kt : At2 σ.kt (fun d r => w.k r d)
  vt : At2 σ.vt (fun d r => w.v r d)
  qt : At2 σ.qt (fun d r => w.q r d)
  ot : At2 σ.ot (fun d r => w.o r d)

/-- Changing the working buffers keeps the codes. -/
theorem Codes.work {w : Sp} {σ : St} (h : Codes w σ) (dq s pc ds dkt dvt) :
    Codes w { σ with dq := dq, s := s, pc := pc, ds := ds, dkt := dkt, dvt := dvt } :=
  ⟨h.qc, h.kc, h.vc, h.oc, h.kt, h.vt, h.qt, h.ot⟩

/-- Rows below `n` of block `b`'s score slab hold `f`. -/
def SAt (b n : ℕ) (f : ℕ → ℕ → EReal) (X : S2x2048x256.Idx → EReal) : Prop :=
  ∀ (z : Fin 2) (k : Fin 2048) (q : Fin 256), z.val = b % 2 → k.val < n → X (ix3 z k q) = f k (256 * b + q)

/-- Rows below `n` of block `b`'s columns hold `f`. -/
def CAt (b n : ℕ) (f : ℕ → ℕ → EReal) (X : S2048x2048.Idx → EReal) : Prop :=
  ∀ k q : Fin 2048, k.val < n → 256 * b ≤ q.val → q.val < 256 * b + 256 → X (ix2 k q) = f k q

/-- Columns outside block `b` are the same. -/
def Same (b : ℕ) (X X' : S2048x2048.Idx → EReal) : Prop :=
  ∀ k q : Fin 2048, ¬ (256 * b ≤ q.val ∧ q.val < 256 * b + 256) → X' (ix2 k q) = X (ix2 k q)

/-- One tile of a slot whose first rows are known. -/
theorem SAt.tile {b j : ℕ} {f : ℕ → ℕ → EReal} {X : S2x2048x256.Idx → EReal} {n : ℕ} (h : SAt b n f X) (hn : 256 * (j + 1) ≤ n) (hj : j < 8) :
    At3 (sub3 (Z := 2) (A := 2048) (B := 256) X (b % 2) (256 * j) 0 256 256 (inS hj)) (fun _ k q => f (256 * j + k) (256 * b + q)) := by
  intro z k q
  obtain rfl : z = 0 := Subsingleton.elim _ _
  rw [sub3_apply X (b % 2) (256 * j) 0 256 256 (inS hj) ⟨b % 2, by omega⟩ ⟨256 * j + k, by omega⟩ q k q rfl rfl (by simp)]
  exact h _ _ _ rfl (by simp; omega)

/-- Storing a slot's next tile. -/
theorem SAt.put {b j : ℕ} {f : ℕ → ℕ → EReal} {X : Vec Ideal S2x2048x256 .f32} (v : Vec Ideal (R3 1 256 256) .f32) (hj : j < 8)
    (hv : At3 v (fun _ k q => f (256 * j + k) (256 * b + q))) (h : j ≠ 0 → SAt b (256 * j) f X) :
    SAt b (256 * (j + 1)) f (put X (Rect.unit (s := R3 2 2048 256) ![b % 2, 256 * j, 0] (R3 1 256 256).size (inS hj)) v) := by
  intro z k q hz hk
  by_cases hl : k.val < 256 * j
  · refine (put3_out X _ _ _ _ _ (inS hj) v z k q (by omega)).trans (h (by omega) z k q hz hl)
  · refine (put3_in X _ _ _ _ _ (inS hj) v z k q ⟨k.val - 256 * j, by omega⟩ q hz (by simp; omega) (by simp)).trans ?_
    rw [hv]; simp only; congr 1; omega

/-- Storing the next tile of a row block's columns. -/
theorem CAt.put {b j : ℕ} {f : ℕ → ℕ → EReal} {e : EltTy} (t : Elt Ideal e → EReal) {X : Vec Ideal S2048x2048 e} (v : Vec Ideal (R2 256 256) e)
    (hb : b < 8) (hj : j < 8)
    (hv : At2 (fun y => t (v y)) (fun k q => f (256 * j + k) (256 * b + q))) (h : j ≠ 0 → CAt b (256 * j) f (fun y => t (X y))) :
    CAt b (256 * (j + 1)) f (fun y => t (put X (Rect.unit (s := R2 2048 2048) ![256 * j, 256 * b] (R2 256 256).size (inQ hb hj)) v y)) := by
  intro k q hk h1 h2
  by_cases hl : k.val < 256 * j
  · exact (congrArg t (put2_out X _ _ _ _ (inQ hb hj) v k q (by omega))).trans (h (by omega) k q hl h1 h2)
  · refine (congrArg t (put2_in X _ _ _ _ (inQ hb hj) v k q ⟨k.val - 256 * j, by omega⟩ ⟨q.val - 256 * b, by omega⟩ (by simp; omega) (by simp; omega))).trans ?_
    refine (hv _ _).trans ?_
    simp only; congr 1 <;> omega

/-- Storing a tile in a row block's columns leaves the other columns. -/
theorem Same.put {b j : ℕ} {e : EltTy} (t : Elt Ideal e → EReal) {X : Vec Ideal S2048x2048 e} (v : Vec Ideal (R2 256 256) e) (hb : b < 8) (hj : j < 8) :
    Same b (fun y => t (X y)) (fun y => t (put X (Rect.unit (s := R2 2048 2048) ![256 * j, 256 * b] (R2 256 256).size (inQ hb hj)) v y)) :=
  fun k q hn => congrArg t (put2_out X _ _ _ _ (inQ hb hj) v k q (by omega))

/-- Two steps that each leave the other columns leave them together. -/
theorem Same.trans {b : ℕ} {X Y Z : S2048x2048.Idx → EReal} (h : Same b X Y) (h' : Same b Y Z) : Same b X Z :=
  fun k q hn => (h' k q hn).trans (h k q hn)

section Stages

variable {w : Sp} {b : ℕ} {hb : b < 8} {cs : FVec Ideal S1x1 .f32} {mask : IVec S256x256 1} {qb : FVec Ideal S256x128 .fp8e4m3}
  {db : FVec Ideal S256x128 .fp8e5m2}

/-- What the stages get: the query codes of the block, the scores' scale, the diagonal's mask. -/
structure Args (w : Sp) (b : ℕ) (cs : FVec Ideal S1x1 .f32) (mask : IVec S256x256 1) (qb : FVec Ideal S256x128 .fp8e4m3) : Prop where
  qb : At2 qb (fun r d => w.q (256 * b + r) d)
  cs : cs (ix2 0 0) = ((w.sq * (w.sk * smR) : ℝ) : EReal)
  mask : ∀ k q : Fin 256, mask (ix2 k q) = if k.val ≤ q.val then 1#1 else 0#1

/-- A tile's masked scores. -/
theorem tile_at (A : Args w b cs mask qb) {σ : St} (C : Codes w σ) {j : ℕ} (hj : j < 8) (hjb : j ≤ b) :
    At2 (tileMask (Nat.beq j b) mask (tileRaw qb cs (sub3 (Z := 1) (A := 2048) (B := 128) σ.kc 0 (256 * j) 0 256 128 (in3 hj))))
      (fun k q => w.SE (256 * j + k) (256 * b + q)) := by
  refine tileMask_at w b j hjb mask _ A.mask fun k q => ?_
  rw [tileRaw_at qb cs _ (fun r d => w.q (256 * b + r) d) (fun r d => w.k (256 * j + r) d) _ A.qb
    (fun z r d => by rw [sub3_at C.kc]; simp) A.cs k q]
  rfl

/-- A tile as a slab of one, entry by entry. -/
theorem slab_at {x : FVec Ideal S256x256 .f32} {f : ℕ → ℕ → EReal} (h : At2 x f) :
    At3 (shapeCast S1x256x256 x shapeCasts_S256x256_S1x256x256) (fun _ k q => f k q) := by
  intro z k q
  obtain rfl : z = 0 := Subsingleton.elim _ _
  pointwise
  exact h k q

/-- One tile's scores are stored and the row maximum is taken. -/
theorem scoreStep_runs (A : Args w b cs mask qb) {σ : St} (C : Codes w σ) (j : ℕ) (hj : j < 8) (hjb : j ≤ b)
    (hs : j ≠ 0 → SAt b (256 * j) w.SE σ.s) :
    ∃ m s', Runs c R (scoreStep R b cs mask qb j hj) σ m { σ with s := s' } ∧ (∀ q : Fin 256, ∃ r : ℝ, m (ix2 0 q) = r) ∧
      SAt b (256 * (j + 1)) w.SE s' :=
  ⟨_, _, Runs.bind (Runs.ld3 (slot12 (c := c)) _ _ _ _ _ _ _ σ) (Runs.bind (Runs.ld3 slot18 _ _ _ _ _ _ _ σ)
    (Runs.bind (Runs.st3 slot18 _ _ _ _ _ _ _ _ σ) (Runs.pure _ _))),
    tileMax_at w b j hjb _ (tile_at A C hj hjb), SAt.put _ hj (slab_at (tile_at A C hj hjb)) hs⟩

/-- The scores of the first tiles. -/
theorem scores_runs (A : Args w b cs mask qb) {σ : St} (C : Codes w σ) : ∀ (j : ℕ) (hj : j < 8), j ≤ b →
    ∃ m s', Runs c R (scores R b cs mask qb j hj) σ m { σ with s := s' } ∧ (∀ q : Fin 256, ∃ r : ℝ, m (ix2 0 q) = r) ∧
      SAt b (256 * (j + 1)) w.SE s'
  | 0, hj, hjb => scoreStep_runs A C 0 hj hjb (fun h => absurd rfl h)
  | j + 1, hj, hjb => by
    obtain ⟨m, s', h1, h2, h3⟩ := scores_runs A C j (Nat.lt_of_succ_lt hj) (by omega)
    obtain ⟨m', s'', h4, h5, h6⟩ := scoreStep_runs (c := c) (R := R) A (C.work σ.dq s' σ.pc σ.ds σ.dkt σ.dvt) (j + 1) hj hjb (fun _ => h3)
    refine ⟨maximumf m m', s'', Runs.bind h1 (Runs.bind h4 (Runs.pure _ _)), fun q => ?_, h6⟩
    obtain ⟨r, hr⟩ := h2 q
    obtain ⟨r', hr'⟩ := h5 q
    refine ⟨max r r', ?_⟩
    pointwise
    rw [hr, hr', EReal.coe_strictMono.monotone.map_max]

/-- A row of reals, as a function. -/
theorem real_at2 {m : FVec Ideal S1x256 .f32} (h : ∀ q : Fin 256, ∃ r : ℝ, m (ix2 0 q) = r) :
    ∃ mr : ℕ → ℝ, At2 m (fun _ q => (mr q : ℝ)) := by
  refine ⟨fun n => (m (ix2 0 (Fin.ofNat 256 n))).toReal, fun z q => ?_⟩
  obtain rfl : z = 0 := Subsingleton.elim _ _
  have : Fin.ofNat 256 q.val = q := Fin.ext (Nat.mod_eq_of_lt q.isLt)
  simp only [this]
  obtain ⟨r, hr⟩ := h q
  rw [hr, EReal.toReal_coe]

/-- The terms of the sum of exponentials of query `q`, less `m`. -/
def term (w : Sp) (b : ℕ) (mr : ℕ → ℝ) (q k : ℕ) : ℝ := if k ≤ 256 * b + q then Real.exp (w.S k (256 * b + q) - mr q) else 0

/-- The sums of exponentials over the first tiles. -/
theorem sums_runs {σ : St} {m : FVec Ideal S1x256 .f32} {mr : ℕ → ℝ} (hm : At2 m (fun _ q => (mr q : ℝ)))
    (hs : SAt b (256 * (b + 1)) w.SE σ.s) : ∀ (j : ℕ) (hj : j < 8), j ≤ b →
    ∃ l, Runs c R (sums R b m j hj) σ l σ ∧ At2 l (fun _ q => ((∑ k ∈ Finset.range (256 * (j + 1)), term w b mr q k : ℝ)))
  | 0, hj, hjb => by
    refine ⟨_, Runs.bind (Runs.ld3 (slot18 (c := c)) _ _ _ _ _ _ _ σ) (Runs.pure _ _), fun z q => ?_⟩
    refine (tileSum_at w b 0 m _ mr hm (hs.tile (by omega) hj) z q).trans ?_
    simp [term]
  | j + 1, hj, hjb => by
    obtain ⟨l, h1, h2⟩ := sums_runs hm hs j (Nat.lt_of_succ_lt hj) (by omega)
    refine ⟨_, Runs.bind h1 (Runs.bind (Runs.bind (Runs.ld3 (slot18 (c := c)) _ _ _ _ _ _ _ σ) (Runs.pure _ _)) (Runs.pure _ _)), fun z q => ?_⟩
    pointwise
    have := tileSum_at w b (j + 1) m _ mr hm (hs.tile (by omega) hj) z q
    refine (congrArg₂ (fun x y : EReal => x + y) (h2 z q) this).trans ?_
    simp only
    rw [← EReal.coe_add, show 256 * (j + 1 + 1) = 256 * (j + 1) + 256 by ring, Finset.sum_range_add]
    rfl

/-- The logarithm of the normaliser. -/
theorem lse_at {m l : FVec Ideal S1x256 .f32} {mr : ℕ → ℝ} (hm : At2 m (fun _ q => (mr q : ℝ)))
    (hl : At2 l (fun _ q => ((∑ k ∈ Finset.range (256 * (b + 1)), term w b mr q k : ℝ)))) :
    At2 (addf m (log l)) (fun _ q => (Real.log (w.Z (256 * b + q)) : ℝ)) := by
  intro z q
  pointwise
  rw [hm z q, hl z q]
  have e : ∑ k ∈ Finset.range (256 * (b + 1)), term w b mr q k = Real.exp (-(mr q)) * w.Z (256 * b + q) := by
    unfold Sp.Z
    rw [Finset.mul_sum]
    symm
    apply Finset.sum_subset_zero_on_sdiff
    · intro x hx; simp only [Finset.mem_range] at hx ⊢; omega
    · intro x hx; simp only [Finset.mem_sdiff, Finset.mem_range] at hx; exact if_neg (by omega)
    · intro x hx
      simp only [Finset.mem_range] at hx
      rw [term, if_pos (by omega), ← Real.exp_add]; congr 1; ring
  simp only [e]
  have hp : 0 < Real.exp (-(mr q)) * w.Z (256 * b + q) := mul_pos (Real.exp_pos _) (w.Z_pos _)
  show (mr q : EReal) + (if Real.exp (-(mr q)) * w.Z (256 * b + q) ≤ 0 then ⊥ else ((Real.log _ : ℝ) : EReal)) = _
  rw [if_neg (not_le.mpr hp), ← EReal.coe_add, Real.log_mul (Real.exp_pos _).ne' (w.Z_pos _).ne', Real.log_exp]
  simp

/-- One tile's probabilities are stored, scaled and clipped. -/
theorem probStep_runs (A : Args w b cs mask qb) {σ : St} (C : Codes w σ) {lse : FVec Ideal S1x256 .f32}
    (hl : At2 lse (fun _ q => (Real.log (w.Z (256 * b + q)) : ℝ))) (j : ℕ) (hj : j < 8) (hjb : j ≤ b)
    (hs : j ≠ 0 → SAt b (256 * j) (fun k q => (w.P k q : ℝ)) σ.s) (hp : j ≠ 0 → CAt b (256 * j) (fun k q => (w.PC k q : ℝ)) σ.pc) :
    ∃ s' pc', Runs c R (probStep R b hb cs mask qb lse j hj) σ ⟨⟩ { σ with s := s', pc := pc' } ∧
      SAt b (256 * (j + 1)) (fun k q => (w.P k q : ℝ)) s' ∧ CAt b (256 * (j + 1)) (fun k q => (w.PC k q : ℝ)) pc' ∧ Same b σ.pc pc' := by
  have t := tileProb_at w b j lse _ hl (tile_at A C hj hjb)
  have hc : At2 (shapeCast S256x256 (tileClip (tileProb lse (tileMask (Nat.beq j b) mask (tileRaw qb cs
      (sub3 (Z := 1) (A := 2048) (B := 128) σ.kc 0 (256 * j) 0 256 128 (in3 hj)))))) shapeCasts_S256x256_S256x256)
      (fun k q => (w.PC (256 * j + k) (256 * b + q) : ℝ)) := by
    intro k q
    rw [shapeCast_self]
    exact tileClip_at w b j _ t k q
  exact ⟨_, _, Runs.bind (Runs.ld3 (slot12 (c := c)) _ _ _ _ _ _ _ σ) (Runs.bind (Runs.ld3 slot18 _ _ _ _ _ _ _ σ)
    (Runs.bind (Runs.st3 slot18 _ _ _ _ _ _ _ _ σ) (Runs.bind (Runs.ld2 slot19 _ _ _ _ _ _ _) (Runs.st2 slot19 _ _ _ _ _ _ _ _)))),
    SAt.put _ hj (slab_at t) hs, CAt.put (e := .fp8e4m3) (fun x => x) _ hb hj hc hp, Same.put (e := .fp8e4m3) (fun x => x) _ hb hj⟩

/-- The probabilities of the first tiles. -/
theorem probs_runs (A : Args w b cs mask qb) {σ : St} (C : Codes w σ) {lse : FVec Ideal S1x256 .f32}
    (hl : At2 lse (fun _ q => (Real.log (w.Z (256 * b + q)) : ℝ))) : ∀ (j : ℕ) (hj : j < 8), j ≤ b →
    ∃ s' pc', Runs c R (probs R b hb cs mask qb lse j hj) σ ⟨⟩ { σ with s := s', pc := pc' } ∧
      SAt b (256 * (j + 1)) (fun k q => (w.P k q : ℝ)) s' ∧ CAt b (256 * (j + 1)) (fun k q => (w.PC k q : ℝ)) pc' ∧ Same b σ.pc pc'
  | 0, hj, hjb => probStep_runs A C hl 0 hj hjb (fun h => absurd rfl h) (fun h => absurd rfl h)
  | j + 1, hj, hjb => by
    obtain ⟨s', pc', h1, h2, h3, h4⟩ := probs_runs A C hl j (Nat.lt_of_succ_lt hj) (by omega)
    obtain ⟨s'', pc'', h5, h6, h7, h8⟩ := probStep_runs (c := c) (R := R) (hb := hb) A (C.work σ.dq s' pc' σ.ds σ.dkt σ.dvt) hl (j + 1) hj hjb
      (fun _ => h2) (fun _ => h3)
    exact ⟨s'', pc'', Runs.bind h1 h5, h6, h7, h4.trans h8⟩

/-- One half tile's part of the output. -/
theorem outStep_at {σ : St} (hb : b < 8) (C : Codes w σ) (hp : CAt b (256 * (b + 1)) (fun k q => (w.PC k q : ℝ)) σ.pc) (n : ℕ) (hn : n < 16) (hnb : n ≤ 2 * b + 1) :
    At2 (A := 128) (B := 256) (matmul (F := Ideal) (φ₁ := .fp8e4m3) (φ₂ := .fp8e4m3) (DotDims.plain 128 128 256) none (sub2 (A := 128) (B := 2048) σ.vt 0 (128 * n) 128 128 (inV hn) : FVec Ideal S128x128 .fp8e4m3)
      (sub2 (A := 2048) (B := 2048) σ.pc (128 * n) (256 * b) 128 256 (inP hb hn) : FVec Ideal S128x256 .fp8e4m3) (constant S128x256 .f32 0x00000000#32))
      (fun d q => ((∑ k ∈ Finset.range 128, w.v (128 * n + k) d * w.PC (128 * n + k) (256 * b + q) : ℝ))) := by
  intro d q
  pointwise
  have e : ∀ x : Fin 128, sub2 (A := 128) (B := 2048) σ.vt 0 (128 * n) 128 128 (inV hn) (ix2 d x) *
      sub2 (A := 2048) (B := 2048) σ.pc (128 * n) (256 * b) 128 256 (inP hb hn) (ix2 x q)
      = ((w.v (128 * n + x) d * w.PC (128 * n + x) (256 * b + q) : ℝ) : EReal) := fun x => by
    rw [sub2_at C.vt, sub2_apply σ.pc (128 * n) (256 * b) 128 256 (inP hb hn) ⟨128 * n + x, by omega⟩ ⟨256 * b + q, by omega⟩ x q rfl rfl,
      hp _ _ (by simp; omega) (by simp) (by simp), EReal.coe_mul]
    simp
  refine (Finset.sum_congr rfl fun x _ => e x).trans ?_
  rw [coe_sum_fin 128 (fun x => w.v (128 * n + x) d * w.PC (128 * n + x) (256 * b + q))]

/-- The output over the first half tiles. -/
theorem outs_runs {σ : St} (C : Codes w σ) (hp : CAt b (256 * (b + 1)) (fun k q => (w.PC k q : ℝ)) σ.pc) : ∀ (n : ℕ) (hn : n < 16), n ≤ 2 * b + 1 →
    ∃ o, Runs c R (outs R b hb n hn) σ o σ ∧ At2 o (fun d q => ((∑ k ∈ Finset.range (128 * (n + 1)), w.v k d * w.PC k (256 * b + q) : ℝ)))
  | 0, hn, hnb => by
    refine ⟨_, Runs.bind (Runs.bind (Runs.ld2 (slot22 (c := c)) _ _ _ _ _ _ σ) (Runs.bind (Runs.ld2 slot19 _ _ _ _ _ _ σ) (Runs.pure _ _))) (Runs.pure _ _), fun d q => ?_⟩
    have := outStep_at hb C hp 0 hn hnb d q
    have h0 : (broadcast S128x256 (Scalar.ofBits .f32 0x00000000#32) : FVec Ideal S128x256 .f32) (ix2 d q) = (0 : EReal) := by pointwise
    refine (congrArg₂ (fun x y : EReal => x + y) h0 this).trans ?_
    simp
  | n + 1, hn, hnb => by
    obtain ⟨o, h1, h2⟩ := outs_runs C hp n (Nat.lt_of_succ_lt hn) (by omega)
    refine ⟨_, Runs.bind h1 (Runs.bind (Runs.bind (Runs.ld2 (slot22 (c := c)) _ _ _ _ _ _ σ) (Runs.bind (Runs.ld2 slot19 _ _ _ _ _ _ σ) (Runs.pure _ _))) (Runs.pure _ _)), fun d q => ?_⟩
    have := outStep_at hb C hp (n + 1) hn hnb d q
    refine (congrArg₂ (fun x y : EReal => x + y) (h2 d q) this).trans ?_
    simp only
    rw [← EReal.coe_add, show 128 * (n + 1 + 1) = 128 * (n + 1) + 128 by ring, Finset.sum_range_add]

/-- One tile of the scores' gradient is stored. -/
theorem dsStep_runs {σ : St} (C : Codes w σ) (hd : At2 db (fun r d => w.o (256 * b + r) d)) {delta : FVec Ideal S1x256 .f32}
    (he : At2 delta (fun _ q => w.DE (256 * b + q))) (hs : SAt b (256 * (b + 1)) (fun k q => (w.P k q : ℝ)) σ.s) (j : ℕ) (hj : j < 8) (hjb : j ≤ b)
    (hp : j ≠ 0 → CAt b (256 * j) (fun k q => (w.DS k q : ℝ)) σ.ds) :
    ∃ ds', Runs c R (dsStep R b hb db delta j hj) σ ⟨⟩ { σ with ds := ds' } ∧
      CAt b (256 * (j + 1)) (fun k q => (w.DS k q : ℝ)) ds' ∧ Same b σ.ds ds' := by
  refine ⟨_, Runs.bind (Runs.ld3 (slot14 (c := c)) _ _ _ _ _ _ _ σ) (Runs.bind (Runs.ld3 slot18 _ _ _ _ _ _ _ σ)
    (Runs.bind (Runs.ld2 slot20 _ _ _ _ _ _ _) (Runs.st2 slot20 _ _ _ _ _ _ _ _))),
    CAt.put (e := .bf16) (fun x => x) _ hb hj (fun k q => ?_) hp, Same.put (e := .bf16) (fun x => x) _ hb hj⟩
  rw [shapeCast_self]
  exact tileDs_at w b j db delta _ _ hd (fun z r d => (sub3_at C.vc _ _ _ _ _ _ z r d).trans (by simp)) (hs.tile (by omega) hj) he k q

/-- The scores' gradient over the first tiles. -/
theorem dss_runs {σ : St} (C : Codes w σ) (hd : At2 db (fun r d => w.o (256 * b + r) d)) {delta : FVec Ideal S1x256 .f32}
    (he : At2 delta (fun _ q => w.DE (256 * b + q))) (hs : SAt b (256 * (b + 1)) (fun k q => (w.P k q : ℝ)) σ.s) : ∀ (j : ℕ) (hj : j < 8), j ≤ b →
    ∃ ds', Runs c R (dss R b hb db delta j hj) σ ⟨⟩ { σ with ds := ds' } ∧
      CAt b (256 * (j + 1)) (fun k q => (w.DS k q : ℝ)) ds' ∧ Same b σ.ds ds'
  | 0, hj, hjb => dsStep_runs C hd he hs 0 hj hjb (fun h => absurd rfl h)
  | j + 1, hj, hjb => by
    obtain ⟨ds', h1, h2, h3⟩ := dss_runs C hd he hs j (Nat.lt_of_succ_lt hj) (by omega)
    obtain ⟨ds'', h4, h5, h6⟩ := dsStep_runs (c := c) (R := R) (hb := hb) (C.work σ.dq σ.s σ.pc ds' σ.dkt σ.dvt) hd he hs (j + 1) hj hjb (fun _ => h2)
    exact ⟨ds'', Runs.bind h1 h4, h5, h3.trans h6⟩

end Stages

end Cert.KernelIdeal.Loop

end
-- ==== Proof.Blocks.lean ====
module

public import proofs.«01_k».proof.Proof.Block

/-!
# All row blocks of a grid point

From the last block to the first: a block completes the query gradients of its queries, and the key and value gradients of
its keys, since every later query has been done before.
-/

@[expose] public section

noncomputable section

namespace Cert.KernelIdeal.Loop

open Cert.KernelIdeal Cert.KernelIdeal.Gen
open Idealize.ShloMosaic
open Idealize.ShloMosaic.TcCoe
open Idealize.SL.Sem

variable {c : Dev nD} {R : Refs}

/-- The columns from block `n` on hold `f`, as far down as their blocks reach. -/
def Done (n : ℕ) (f : ℕ → ℕ → EReal) (X : S2048x2048.Idx → EReal) : Prop :=
  ∀ k q : Fin 2048, 256 * n ≤ q.val → k.val < 256 * (q.val / 256 + 1) → X (ix2 k q) = f k q

/-- The rows from block `n` on hold the query gradients. -/
def DoneQ (w : Sp) (n : ℕ) (X : S1x2048x128.Idx → EReal) : Prop :=
  ∀ (q : Fin 2048) (d : Fin 128), 256 * n ≤ q.val → X (ix3 0 q d) = (w.DQ q d : ℝ)

/-- The columns from block `n` on hold the sum of `a` and `f`, the others `a`. -/
def Part (n : ℕ) (a f : ℕ → ℕ → ℝ) (X : S128x2048.Idx → EReal) : Prop :=
  ∀ (d : Fin 128) (k : Fin 2048), X (ix2 d k) = ((if 256 * n ≤ k.val then a k d + f k d else a k d : ℝ) : EReal)

/-- A row block's columns are added to those already done. -/
theorem Done.step {b : ℕ} {f : ℕ → ℕ → EReal} {X X' : S2048x2048.Idx → EReal} (h : Done (b + 1) f X) (h1 : CAt b (256 * (b + 1)) f X')
    (h2 : Same b X X') : Done b f X' := by
  intro k q hq hk
  by_cases hb : q.val < 256 * b + 256
  · exact h1 k q (by omega) hq hb
  · rw [h2 k q (by omega)]; exact h k q (by omega) hk

/-- A sum whose terms are zero from `n` on. -/
theorem sum_head {n N : ℕ} (h : n ≤ N) (f : ℕ → ℝ) (h0 : ∀ k, n ≤ k → f k = 0) : ∑ k ∈ Finset.range n, f k = ∑ k ∈ Finset.range N, f k :=
  Finset.sum_subset (fun x hx => by simp only [Finset.mem_range] at hx ⊢; omega)
    (fun x _ hx => h0 x (by simp only [Finset.mem_range] at hx; omega))

/-- A sum whose terms are zero before `a`. -/
theorem sum_tail {a N : ℕ} (h : a ≤ N) (f : ℕ → ℝ) (h0 : ∀ k, k < a → f k = 0) :
    ∑ x ∈ Finset.range (N - a), f (a + x) = ∑ k ∈ Finset.range N, f k := by
  conv_rhs => rw [show N = a + (N - a) by omega]
  rw [Finset.sum_range_add, Finset.sum_eq_zero (fun x hx => h0 x (Finset.mem_range.mp hx)), zero_add]

/-- A product onto zero, at an index. -/
theorem matmul_plain_zero {M K N : ℕ} {φ₁ φ₂ : FTy} (prec : Option ContractPrecision) (l : FVec Ideal (R2 M K) φ₁) (r : FVec Ideal (R2 K N) φ₂) (i : Fin M) (j : Fin N) :
    FloatOps.matmul (DotDims.plain M K N) prec l r (constant (R2 M N) .f32 0x00000000#32) (ix2 i j) = ∑ k : Fin K, (l (ix2 i k) * r (ix2 k j) : EReal) := by
  exact (Ideal.matmul_plain_apply prec l r _ i j).trans ((congrArg (fun x : EReal => x + _) Ideal.ofBits_zero_f32).trans (zero_add _))

/-- A product with the second factor transposed, from a zero start, entry by entry. -/
theorem matmul_transposedRhs_zero {M K N : ℕ} {φ₁ φ₂ : FTy} (prec : Option ContractPrecision) (l : FVec Ideal (R2 M K) φ₁) (r : FVec Ideal (R2 N K) φ₂) (i : Fin M) (j : Fin N) :
    FloatOps.matmul (DotDims.transposedRhs M K N) prec l r (constant (R2 M N) .f32 0x00000000#32) (ix2 i j) = ∑ k : Fin K, (l (ix2 i k) * r (ix2 j k) : EReal) := by
  exact (Ideal.matmul_transposedRhs_apply prec l r _ i j).trans ((congrArg (fun x : EReal => x + _) Ideal.ofBits_zero_f32).trans (zero_add _))

section

variable {w : Sp} {b : ℕ} (hb : b < 8)

/-- The block's query gradients. -/
theorem gradQ_at {σ : St} (C : Codes w σ) (hd : Done b (fun k q => (w.DS k q : ℝ)) σ.ds) {x : FVec Ideal S1x1 .f32}
    (hx : x (ix2 0 0) = ((w.so * w.sv * (1 / 256) * (w.sk * smR) : ℝ) : EReal)) (q : Fin 256) (d : Fin 128) :
    (shapeCast S1x256x128 (transpose S256x128 [1, 0] (truncf (F := Ideal) .bf16 (mulf
      (matmul (F := Ideal) (φ₁ := .bf16) (φ₂ := .bf16) (DotDims.plain 128 (256 * (b + 1)) 256) none
        (sub2 (A := 128) (B := 2048) σ.kt 0 0 128 (256 * (b + 1)) (inK hb))
        (sub2 (A := 2048) (B := 2048) σ.ds 0 (256 * b) (256 * (b + 1)) 256 (inD hb)) (constant S128x256 .f32 0x00000000#32))
      (broadcastTo S128x256 x broadcasts_S1x1_S128x256)) bitsLt_bf16_f32) transposes_S128x256_p1_0_S256x128) shapeCasts_S256x128_S1x256x128 :
        Vec Ideal S1x256x128 .bf16) (ix3 0 q d) = ((w.DQ (256 * b + q) d : ℝ) : EReal) := by
  pointwise
  have e : ∀ k : Fin (256 * (b + 1)), sub2 (A := 128) (B := 2048) σ.kt 0 0 128 (256 * (b + 1)) (inK hb) (ix2 d k) *
      sub2 (A := 2048) (B := 2048) σ.ds 0 (256 * b) (256 * (b + 1)) 256 (inD hb) (ix2 k q)
      = ((w.k k d * w.DS k (256 * b + q) : ℝ) : EReal) := fun k => by
    rw [sub2_at C.kt, sub2_apply σ.ds 0 (256 * b) (256 * (b + 1)) 256 (inD hb) ⟨k, by omega⟩ ⟨256 * b + q, by omega⟩ k q (by simp) rfl,
      hd _ _ (by simp) (by simp only; omega), EReal.coe_mul]
    simp
  refine (congrArg₂ (fun x y : EReal => x * y) ((matmul_plain_zero (φ₁ := .bf16) (φ₂ := .bf16) none _ _ d q).trans (Finset.sum_congr rfl fun k _ => e k)) hx).trans ?_
  rw [coe_sum_fin (256 * (b + 1)) (fun k => w.k k d * w.DS k (256 * b + q)), ← EReal.coe_mul,
    sum_head (N := 2048) (by omega) (fun k => w.k k d * w.DS k (256 * b + q)) (fun k hk => by rw [w.DS_of_lt (by omega), mul_zero])]
  rfl

/-- Sums over the queries from the block on, added to what is there. -/
theorem gradT_at {X : S128x2048.Idx → EReal} {g f a : ℕ → ℕ → ℝ} (hX : At2 X (fun d q => (g q d : ℝ))) {Y : S2048x2048.Idx → EReal}
    (hY : Done b (fun k q => (f k q : ℝ)) Y) (h0 : ∀ k q, q < k → f k q = 0) {Z : S128x2048.Idx → EReal} {u : ℝ}
    (hZ : Part (b + 1) a (fun k d => u * ∑ q ∈ Finset.range 2048, g q d * f k q) Z) {x : FVec Ideal S1x1 .f32} (hx : x (ix2 0 0) = (u : EReal))
    (φ₁ φ₂ : FTy) (d : Fin 128) (k : Fin 256) :
    (shapeCast S128x256 (addf (F := Ideal) (φ := .f32) (sub2 (A := 128) (B := 2048) Z 0 (256 * b) 128 256 (inT hb))
      (mulf (broadcastTo S128x256 x broadcasts_S1x1_S128x256)
      (matmul (F := Ideal) (φ₁ := φ₁) (φ₂ := φ₂) (DotDims.transposedRhs 128 (2048 - 256 * b) 256) none
        (sub2 (A := 128) (B := 2048) X 0 (256 * b) 128 (2048 - 256 * b) (inU hb))
        (sub2 (A := 2048) (B := 2048) Y (256 * b) (256 * b) 256 (2048 - 256 * b) (inW hb)) (constant S128x256 .f32 0x00000000#32)))) shapeCasts_S128x256_S128x256 :
        Vec Ideal S128x256 .f32) (ix2 d k)
      = ((a (256 * b + k) d + u * ∑ q ∈ Finset.range 2048, g q d * f (256 * b + k) q : ℝ) : EReal) := by
  rw [shapeCast_self]
  pointwise
  have e : ∀ q : Fin (2048 - 256 * b), sub2 (A := 128) (B := 2048) X 0 (256 * b) 128 (2048 - 256 * b) (inU hb) (ix2 d q) *
      sub2 (A := 2048) (B := 2048) Y (256 * b) (256 * b) 256 (2048 - 256 * b) (inW hb) (ix2 k q)
      = ((g (256 * b + q) d * f (256 * b + k) (256 * b + q) : ℝ) : EReal) := fun q => by
    rw [sub2_at hX, sub2_apply Y (256 * b) (256 * b) 256 (2048 - 256 * b) (inW hb) ⟨256 * b + k, by omega⟩ ⟨256 * b + q, by omega⟩ k q rfl rfl,
      hY _ _ (by simp) (by simp only; omega), EReal.coe_mul]
    simp
  have hz : sub2 (A := 128) (B := 2048) Z 0 (256 * b) 128 256 (inT hb) (ix2 d k) = ((a (256 * b + k) d : ℝ) : EReal) := by
    rw [sub2_apply Z 0 (256 * b) 128 256 (inT hb) d ⟨256 * b + k, by omega⟩ d k (by simp) rfl, hZ]
    simp only; rw [if_neg (by omega)]
  refine (congrArg₂ (fun x y : EReal => x + y) hz (congrArg₂ (fun x y : EReal => x * y) hx ((matmul_transposedRhs_zero (φ₁ := φ₁) (φ₂ := φ₂) none _ _ d k).trans (Finset.sum_congr rfl fun q _ => e q)))).trans ?_
  rw [coe_sum_fin (2048 - 256 * b) (fun q => g (256 * b + q) d * f (256 * b + k) (256 * b + q)),
    sum_tail (a := 256 * b) (N := 2048) (by omega) (fun q => g q d * f (256 * b + k) q) (fun q hq => by rw [h0 _ _ (by omega), mul_zero]),
    ← EReal.coe_mul, ← EReal.coe_add]

/-- Storing a row block of a transposed gradient. -/
theorem Part.put {a f : ℕ → ℕ → ℝ} {Z : Vec Ideal S128x2048 .f32} (hZ : Part (b + 1) a f Z) (v : Vec Ideal (R2 128 256) .f32)
    (hv : ∀ (d : Fin 128) (k : Fin 256), v (ix2 d k) = ((a (256 * b + k) d + f (256 * b + k) d : ℝ) : EReal)) :
    Part b a f (put Z (Rect.unit (s := R2 128 2048) ![0, 256 * b] (R2 128 256).size (inT hb)) v) := by
  intro d k
  by_cases h : 256 * b ≤ k.val ∧ k.val < 256 * b + 256
  · refine (put2_in Z _ _ _ _ (inT hb) v d k d ⟨k.val - 256 * b, by omega⟩ (by simp) (by simp; omega)).trans ?_
    rw [hv, if_pos h.1]; simp only
    rw [show 256 * b + (k.val - 256 * b) = k.val by omega]
  · refine (put2_out Z _ _ _ _ (inT hb) v d k (by omega)).trans ?_
    rw [hZ d k]
    by_cases h' : 256 * b ≤ k.val
    · rw [if_pos h', if_pos (by omega)]
    · rw [if_neg h', if_neg (by omega)]

/-- Storing a row block of the queries' gradient. -/
theorem DoneQ.put {Z : Vec Ideal S1x2048x128 .bf16} (hZ : DoneQ w (b + 1) Z) (v : Vec Ideal (R3 1 256 128) .bf16)
    (hv : ∀ (q : Fin 256) (d : Fin 128), v (ix3 0 q d) = ((w.DQ (256 * b + q) d : ℝ) : EReal)) :
    DoneQ w b (put Z (Rect.unit (s := R3 1 2048 128) ![0, 256 * b, 0] (R3 1 256 128).size (in3 hb)) v) := by
  intro q d hq
  by_cases h : q.val < 256 * b + 256
  · refine (put3_in Z _ _ _ _ _ (in3 hb) v 0 q d ⟨q.val - 256 * b, by omega⟩ d rfl (by simp; omega) (by simp)).trans ?_
    rw [hv]; simp only
    rw [show 256 * b + (q.val - 256 * b) = q.val by omega]
  · exact (put3_out Z _ _ _ _ _ (in3 hb) v 0 q d (by omega)).trans (hZ q d (by omega))

/-- The scales the gradients are multiplied by. -/
structure Scales (w : Sp) (v236 v241 v243 : FVec Ideal S1x1 .f32) : Prop where
  q : v236 (ix2 0 0) = ((w.so * w.sv * (1 / 256) * (w.sk * smR) : ℝ) : EReal)
  k : v241 (ix2 0 0) = ((w.so * w.sv * (1 / 256) * (w.sq * smR) : ℝ) : EReal)
  v : v243 (ix2 0 0) = ((1 / 256 * w.so : ℝ) : EReal)

end

section

attribute [local irreducible] put sub2 sub3 tileRaw tileMask tileProb tileClip tileSum tileMax tileDs tileDelta

variable {w : Sp} {b : ℕ} (hb : b < 8) {v3 v92 v236 v241 v243 : FVec Ideal S1x1 .f32} {mask : IVec S256x256 1}

/-- One row block's parts of the three gradients are stored. -/
theorem gradStep_runs {σ : St} (C : Codes w σ) (V : Scales w v236 v241 v243) (hp : Done b (fun k q => (w.PC k q : ℝ)) σ.pc)
    (hd : Done b (fun k q => (w.DS k q : ℝ)) σ.ds) {ak av : ℕ → ℕ → ℝ} (hq : DoneQ w (b + 1) σ.dq) (hk : Part (b + 1) ak w.DK σ.dkt)
    (hv : Part (b + 1) av w.DV σ.dvt) :
    ∃ dq' dkt' dvt', Runs c R (gradStep R b hb v236 v241 v243) σ ⟨⟩ { σ with dq := dq', dkt := dkt', dvt := dvt' } ∧
      DoneQ w b dq' ∧ Part b ak w.DK dkt' ∧ Part b av w.DV dvt' :=
  ⟨_, _, _, Runs.bind (Runs.ld2 (slot21 (c := c)) _ _ _ _ _ _ σ) (Runs.bind (Runs.ld2 slot20 _ _ _ _ _ _ σ)
    (Runs.bind (Runs.ld3 slot7 _ _ _ _ _ _ _ σ) (Runs.bind (Runs.st3 slot7 _ _ _ _ _ _ _ _ σ)
    (Runs.bind (Runs.ld2 slot26 _ _ _ _ _ _ _) (Runs.bind (Runs.ld2 slot24 _ _ _ _ _ _ _) (Runs.bind (Runs.ld2 slot19 _ _ _ _ _ _ _)
    (Runs.bind (Runs.ld2 slot26 _ _ _ _ _ _ _) (Runs.bind (Runs.st2 slot26 _ _ _ _ _ _ _ _)
    (Runs.bind (Runs.ld2 slot25 _ _ _ _ _ _ _) (Runs.bind (Runs.ld2 slot23 _ _ _ _ _ _ _) (Runs.bind (Runs.ld2 slot20 _ _ _ _ _ _ _)
    (Runs.bind (Runs.ld2 slot25 _ _ _ _ _ _ _) (Runs.st2 slot25 _ _ _ _ _ _ _ _))))))))))))),
    hq.put hb _ (gradQ_at hb C hd V.q),
    hk.put hb _ (gradT_at hb C.qt hd (fun _ _ => w.DS_of_lt) hk V.k .bf16 .bf16),
    hv.put hb _ (gradT_at hb C.ot hp (fun _ _ => w.PC_of_lt) hv V.v .fp8e5m2 .fp8e4m3)⟩

/-- What a row block leaves. -/
theorem block_runs {σ : St} (C : Codes w σ) (V : Scales w v236 v241 v243) (h3 : v3 (ix2 0 0) = (w.sk : EReal)) (h92 : v92 (ix2 0 0) = (w.sq : EReal))
    (hm : ∀ k q : Fin 256, mask (ix2 k q) = if k.val ≤ q.val then 1#1 else 0#1)
    (hp : Done (b + 1) (fun k q => (w.PC k q : ℝ)) σ.pc) (hd : Done (b + 1) (fun k q => (w.DS k q : ℝ)) σ.ds)
    {ak av : ℕ → ℕ → ℝ} (hq : DoneQ w (b + 1) σ.dq) (hk : Part (b + 1) ak w.DK σ.dkt) (hv : Part (b + 1) av w.DV σ.dvt) :
    ∃ dq' s' pc' ds' dkt' dvt', Runs c R (block R v3 v92 v236 v241 v243 mask b hb) σ ⟨⟩
        { σ with dq := dq', s := s', pc := pc', ds := ds', dkt := dkt', dvt := dvt' } ∧
      Done b (fun k q => (w.PC k q : ℝ)) pc' ∧ Done b (fun k q => (w.DS k q : ℝ)) ds' ∧
      DoneQ w b dq' ∧ Part b ak w.DK dkt' ∧ Part b av w.DV dvt' := by
  have A : Args w b (mulf v92 (mulf v3 (broadcast S1x1 (Scalar.ofBits .f32 0x3DB504F3#32)))) mask
      (shapeCast S256x128 (sub3 (Z := 1) (A := 2048) (B := 128) σ.qc 0 (256 * b) 0 256 128 (in3 hb)) shapeCasts_S1x256x128_S256x128) := by
    refine ⟨fun r d => ?_, ?_, hm⟩
    · pointwise
      exact (sub3_at C.qc _ _ _ _ _ _ 0 r d).trans (by simp)
    · pointwise
      rw [h3, h92, sm_ofBits, ← EReal.coe_mul, ← EReal.coe_mul]
  obtain ⟨m, s1, r1, m1, hs1⟩ := scores_runs (c := c) (R := R) A C b hb le_rfl
  obtain ⟨mr, hmr⟩ := real_at2 m1
  have C1 := C.work σ.dq s1 σ.pc σ.ds σ.dkt σ.dvt
  obtain ⟨l, r2, hl⟩ := sums_runs (c := c) (R := R) (σ := { σ with s := s1 }) hmr hs1 b hb le_rfl
  obtain ⟨s2, pc', r3, hs2, hpc, hsame⟩ := probs_runs (c := c) (R := R) (hb := hb) A C1 (lse_at hmr hl) b hb le_rfl
  have C2 := C.work σ.dq s2 pc' σ.ds σ.dkt σ.dvt
  obtain ⟨o, r4, ho⟩ := outs_runs (c := c) (R := R) (hb := hb) C2 hpc (2 * b + 1) (by omega) le_rfl
  have hdelta : At2 (tileDelta (sub2 (A := 128) (B := 2048) σ.ot 0 (256 * b) 128 256 (inT hb)) o) (fun _ q => (w.DE (256 * b + q) : ℝ)) := by
    refine tileDelta_at w b _ o (fun d q => (sub2_at C.ot _ _ _ _ _ d q).trans (by simp only [Nat.zero_add])) (fun d q => ?_)
    rw [ho d q]
    simp only
    rw [sum_head (N := 2048) (by omega) (fun k => w.v k d * w.PC k (256 * b + q)) (fun k hk => by rw [w.PC_of_lt (by omega), mul_zero])]
    rfl
  have hdb : At2 (shapeCast S256x128 (sub3 (Z := 1) (A := 2048) (B := 128) σ.oc 0 (256 * b) 0 256 128 (in3 hb)) shapeCasts_S1x256x128_S256x128)
      (fun r d => (w.o (256 * b + r) d : ℝ)) := by
    intro r d
    pointwise
    exact (sub3_at C.oc _ _ _ _ _ _ 0 r d).trans (by simp)
  obtain ⟨ds', r5, hds, hsame'⟩ := dss_runs (c := c) (R := R) (hb := hb) C2 hdb hdelta hs2 b hb le_rfl
  have C3 := C.work σ.dq s2 pc' ds' σ.dkt σ.dvt
  obtain ⟨dq', dkt', dvt', r6, hq', hk', hv'⟩ := gradStep_runs (c := c) (R := R) hb C3 V (hp.step hpc hsame) (hd.step hds hsame') hq hk hv
  exact ⟨dq', s2, pc', ds', dkt', dvt', Runs.bind (Runs.ld3 (slot10 (c := c)) _ _ _ _ _ _ _ σ) (Runs.bind (Runs.ld3 slot16 _ _ _ _ _ _ _ σ)
    (Runs.bind r1 (Runs.bind r2 (Runs.bind r3 (Runs.bind r4 (Runs.bind (Runs.ld2 slot24 _ _ _ _ _ _ _) (Runs.bind r5 r6))))))),
    hp.step hpc hsame, hd.step hds hsame', hq', hk', hv'⟩

/-- What row blocks `n - 1, …, 0` leave. -/
theorem blocks_runs (V : Scales w v236 v241 v243) (h3 : v3 (ix2 0 0) = (w.sk : EReal)) (h92 : v92 (ix2 0 0) = (w.sq : EReal))
    (hm : ∀ k q : Fin 256, mask (ix2 k q) = if k.val ≤ q.val then 1#1 else 0#1) {ak av : ℕ → ℕ → ℝ} : ∀ (n : ℕ) (hn : n ≤ 8) {σ : St} (_ : Codes w σ)
    (_ : Done n (fun k q => (w.PC k q : ℝ)) σ.pc) (_ : Done n (fun k q => (w.DS k q : ℝ)) σ.ds)
    (_ : DoneQ w n σ.dq) (_ : Part n ak w.DK σ.dkt) (_ : Part n av w.DV σ.dvt),
    ∃ dq' s' pc' ds' dkt' dvt', Runs c R (blocks R v3 v92 v236 v241 v243 mask n hn) σ ⟨⟩
        { σ with dq := dq', s := s', pc := pc', ds := ds', dkt := dkt', dvt := dvt' } ∧
      DoneQ w 0 dq' ∧ Part 0 ak w.DK dkt' ∧ Part 0 av w.DV dvt'
  | 0, _, σ, _, _, _, hq, hk, hv => ⟨σ.dq, σ.s, σ.pc, σ.ds, σ.dkt, σ.dvt, Runs.pure _ _, hq, hk, hv⟩
  | n + 1, hn, σ, C, hp, hd, hq, hk, hv => by
    obtain ⟨dq1, s1, pc1, ds1, dkt1, dvt1, r1, hp1, hd1, hq1, hk1, hv1⟩ := block_runs (c := c) (R := R) (b := n) hn C V h3 h92 hm hp hd hq hk hv
    obtain ⟨dq2, s2, pc2, ds2, dkt2, dvt2, r2, hq2, hk2, hv2⟩ := blocks_runs V h3 h92 hm n (Nat.le_of_succ_le hn)
      (C.work dq1 s1 pc1 ds1 dkt1 dvt1) hp1 hd1 hq1 hk1 hv1
    exact ⟨dq2, s2, pc2, ds2, dkt2, dvt2, Runs.bind r1 r2, hq2, hk2, hv2⟩

/-- A whole grid point's blocks. -/
theorem blocks_all (V : Scales w v236 v241 v243) (h3 : v3 (ix2 0 0) = (w.sk : EReal)) (h92 : v92 (ix2 0 0) = (w.sq : EReal))
    (hm : ∀ k q : Fin 256, mask (ix2 k q) = if k.val ≤ q.val then 1#1 else 0#1) {ak av : ℕ → ℕ → ℝ} {σ : St} (C : Codes w σ)
    (hk : At2 σ.dkt (fun d k => (ak k d : ℝ))) (hv : At2 σ.dvt (fun d k => (av k d : ℝ))) :
    ∃ dq' s' pc' ds' dkt' dvt', Runs c R (blocks R v3 v92 v236 v241 v243 mask 8 (Nat.le_refl 8)) σ ⟨⟩
        { σ with dq := dq', s := s', pc := pc', ds := ds', dkt := dkt', dvt := dvt' } ∧
      At3 dq' (fun _ q d => (w.DQ q d : ℝ)) ∧ At2 dkt' (fun d k => (ak k d + w.DK k d : ℝ)) ∧ At2 dvt' (fun d k => (av k d + w.DV k d : ℝ)) := by
  obtain ⟨dq', s', pc', ds', dkt', dvt', r, hq', hk', hv'⟩ := blocks_runs (c := c) (R := R) (ak := ak) (av := av) V h3 h92 hm 8 le_rfl C
    (fun k q hq => absurd q.isLt (by omega)) (fun k q hq => absurd q.isLt (by omega)) (fun q d hq => absurd q.isLt (by omega))
    (fun d k => (hk d k).trans (by rw [if_neg (by omega)])) (fun d k => (hv d k).trans (by rw [if_neg (by omega)]))
  refine ⟨dq', s', pc', ds', dkt', dvt', r, fun z q d => ?_, fun d k => (hk' d k).trans (by simp), fun d k => (hv' d k).trans (by simp)⟩
  obtain rfl : z = 0 := Subsingleton.elim _ _
  exact hq' q d (by omega)

end

end Cert.KernelIdeal.Loop

end
-- ==== Proof.Quant.lean ====
module
public import proofs.«01_k».proof.Proof.Access
@[expose] public section
noncomputable section
namespace Cert.KernelIdeal.Loop
open Cert.KernelIdeal Cert.KernelIdeal.Gen
open Idealize.ShloMosaic

/-! # The quantiser: largest magnitude, exponent, scale and codes of a block -/

/-- The largest magnitude of a `2048 × 128` block. -/
def big (t : ℕ → ℕ → ℝ) : ℝ :=
  (Finset.range 2048 ×ˢ Finset.range 128).sup' ⟨(0, 0), by simp⟩ (fun p => |t p.1 p.2|)

/-- An element is at most the largest magnitude. -/
theorem le_big (t : ℕ → ℕ → ℝ) {r d : ℕ} (hr : r < 2048) (hd : d < 128) : |t r d| ≤ big t :=
  Finset.le_sup' (fun p : ℕ × ℕ => |t p.1 p.2|) (b := (r, d)) (by simp [hr, hd])

/-- The largest magnitude is not negative. -/
theorem big_nonneg (t : ℕ → ℕ → ℝ) : 0 ≤ big t := (abs_nonneg _).trans (le_big t (r := 0) (d := 0) (by norm_num) (by norm_num))

/-- The largest magnitude is at most a bound of every element. -/
theorem big_le (t : ℕ → ℕ → ℝ) {x : EReal} (h : ∀ r < 2048, ∀ d < 128, ((|t r d| : ℝ) : EReal) ≤ x) : ((big t : ℝ) : EReal) ≤ x := by
  obtain ⟨p, hp, e⟩ := Finset.exists_mem_eq_sup' (s := Finset.range 2048 ×ˢ Finset.range 128) ⟨(0, 0), by simp⟩ (fun p : ℕ × ℕ => |t p.1 p.2|)
  rw [big, e]; simp at hp; exact h _ hp.1 _ hp.2

/-- The magnitude of a real. -/
theorem abs_coe (x : ℝ) : FloatOps.absf (F := Ideal) (φ := .bf16) (x : EReal) = ((|x| : ℝ) : EReal) := by
  show max (x : EReal) (-(x : EReal)) = _
  rw [← EReal.coe_neg, ← EReal.coe_strictMono.monotone.map_max]; rfl

/-- The largest element over the rows, at a column. -/
theorem rowsMax {n m : ℕ} (t : FVec Ideal ⟨2, ![n, m]⟩ .bf16) (h : (⟨2, ![n, m]⟩ : Shape).Reduces [0] ⟨1, ![m]⟩) (h1 h2) (j : Fin m) :
    multiReduction .maximumf [0] ⟨1, ![m]⟩ t 0xFF80#16 h h1 h2 (ix1 j) =
      Finset.univ.fold max (Ideal.ofBits .bf16 0xFF80#16) (fun r : Fin n => t (ix2 r j)) := by
  pointwise

/-- The bfloat16 word of minus infinity. -/
theorem ofBits_ninf16 : Ideal.ofBits .bf16 0xFF80#16 = ⊥ := by
  simp [Ideal.ofBits, Ideal.ieee]

/-- The largest element over the lanes times the constant. -/
theorem lanesMax (r : BitVec 32) (u : FVec Ideal S128 .bf16) (i : Fin 8) (j : Fin 128) :
  (broadcastTo S8x128 (shapeCast S1x1 (mulf (shapeCast S1x1 (multiReduction .maximumf [1] S1
    (extf .f32 (shapeCast S1x128 u shapeCasts_S128_S1x128) bitsLt_bf16_f32)
    0xFF800000#32 reduces_S1x128_S1 (.inl rfl) rfl) shapeCasts_S1_S1x1) (broadcast S1x1 (Scalar.ofBits .f32 r))) shapeCasts_S1x1_S1x1) broadcasts_S1x1_S8x128 : FVec Ideal S8x128 .f32) (ix2 i j)
   = (Finset.univ.fold max (Ideal.ofBits .f32 0xFF800000#32) (fun d : Fin 128 => u (ix1 d))) * Ideal.ofBits .f32 r := by
  pointwise

/-- The largest of the columns' largest magnitudes is the head's. -/
theorem fold_rows {f : ℕ → ℕ → ℝ} (u : Fin 128 → EReal) (h : ∀ d : Fin 128, u d = Finset.univ.fold max ⊥ (fun r : Fin 2048 => ((|f r d| : ℝ) : EReal))) :
    Finset.univ.fold max ⊥ u = ((big f : ℝ) : EReal) := by
  apply le_antisymm
  · refine Finset.fold_max_le _ |>.2 ⟨bot_le, fun d _ => ?_⟩
    rw [h]
    refine Finset.fold_max_le _ |>.2 ⟨bot_le, fun r _ => ?_⟩
    exact EReal.coe_le_coe_iff.2 (le_big f r.isLt d.isLt)
  · refine big_le f fun r hr d hd => ?_
    refine Finset.le_fold_max _ |>.2 (.inr ⟨⟨d, hd⟩, Finset.mem_univ _, ?_⟩)
    rw [h]
    exact Finset.le_fold_max _ |>.2 (.inr ⟨⟨r, hr⟩, Finset.mem_univ _, le_rfl⟩)

/-- The kernel's largest magnitude times the constant. -/
theorem amax_at (r : BitVec 32) {t : FVec Ideal S2048x128 .bf16} {f : ℕ → ℕ → ℝ} (h : At2 t (fun r d => (f r d : ℝ))) (i : Fin 8) (j : Fin 128) :
    amax r t (ix2 i j) = ((big f : ℝ) : EReal) * Ideal.ofBits .f32 r := by
  refine (lanesMax r (multiReduction .maximumf [0] S128 (absf t) 0xFF80#16 reduces_S2048x128_S128 (.inr rfl) rfl) i j).trans ?_
  rw [ofBits_ninf, fold_rows (f := f)]
  intro d
  refine (rowsMax (absf t) reduces_S2048x128_S128 _ _ d).trans ?_
  rw [ofBits_ninf16]
  exact congrArg (fun g => Finset.univ.fold max ⊥ g) (funext fun r => Eq.trans (congrArg (FloatOps.absf (F := Ideal) (φ := .bf16)) (h r d)) (abs_coe _))

/-! ## Powers of two as bit patterns -/

/-- An exponent shifted to its place in a word. -/
theorem shl_toNat : ∀ c : Fin 256, (IntOp.shli ArithUnit.vector (BitVec.ofNat 32 c) 23#32) = BitVec.ofNat 32 (c.val * 2 ^ 23) := by decide

/-- The fields of such a word. -/
theorem bits_fields (c : Fin 256) : ((BitVec.ofNat 32 (c.val * 2 ^ 23)).extractLsb' 31 1 == 1#1) = false ∧
    ((BitVec.ofNat 32 (c.val * 2 ^ 23)).extractLsb' 23 8).toNat = c.val ∧ ((BitVec.ofNat 32 (c.val * 2 ^ 23)).extractLsb' 0 23).toNat = 0 := by
  revert c; decide

/-- The float with exponent field `c` and fraction zero. -/
theorem pow2_bits {c : ℕ} (h1 : 1 ≤ c) (h2 : c ≤ 254) : Ideal.ofBits .f32 (IntOp.shli ArithUnit.vector (BitVec.ofNat 32 c) 23#32) = (((2 : ℝ) ^ ((c : ℤ) - 127) : ℝ) : EReal) := by
  have hc := shl_toNat ⟨c, by omega⟩
  obtain ⟨f1, f2, f3⟩ := bits_fields ⟨c, by omega⟩
  simp only at hc f1 f2 f3
  rw [hc]
  show Ideal.ieee 8 23 _ = _
  unfold Ideal.ieee
  simp only [Nat.reduceAdd, f1, f2, f3]
  rw [if_neg (by omega), if_neg (by omega)]
  congr 1
  have : ((c : ℤ) - (2 ^ (8 - 1) - 1) - (23 : ℕ)) = ((c : ℤ) - 127) + (-23) := by norm_num; ring
  rw [this, zpow_add₀ (by norm_num)]
  norm_num
  ring

/-- Exponent field 255: not below any real. -/
theorem top_bits : Ideal.ofBits .f32 (IntOp.shli ArithUnit.vector (BitVec.ofNat 32 255) 23#32) = ⊤ := by
  have hc : IntOp.shli ArithUnit.vector (BitVec.ofNat 32 255) 23#32 = BitVec.ofNat 32 (255 * 2 ^ 23) := by decide
  have f1 : ((BitVec.ofNat 32 (255 * 2 ^ 23)).extractLsb' 31 1 == 1#1) = false := by decide
  have f2 : ((BitVec.ofNat 32 (255 * 2 ^ 23)).extractLsb' 23 8).toNat = 255 := by decide
  have f3 : ((BitVec.ofNat 32 (255 * 2 ^ 23)).extractLsb' 0 23).toNat = 0 := by decide
  rw [hc]
  show Ideal.ieee 8 23 (BitVec.ofNat 32 (255 * 2 ^ 23)) = _
  unfold Ideal.ieee
  simp only [Nat.reduceAdd, f1, f2, f3]
  norm_num

/-- The binary logarithm of `y`, rounded down. -/
def lg (y : ℝ) : ℤ := ⌊Real.log y / Real.log 2⌋

/-- A power of two is at most `y` when its exponent is at most `y`'s. -/
theorem two_zpow_le {y : ℝ} (hy : 0 < y) (c : ℤ) : (2 : ℝ) ^ c ≤ y ↔ c ≤ lg y := by
  rw [lg, Int.le_floor, le_div_iff₀ (Real.log_pos (by norm_num)), ← Real.log_zpow, Real.log_le_log_iff (by positivity) hy]

/-- The exponent field of `y`: `2 ^ (field - 127) ≤ y < 2 ^ (field - 126)`, zero for zero. -/
def field (y : ℝ) : ℕ := if y = 0 then 0 else (lg y + 127).toNat

/-- Zero, or a number the exponent of which is well inside f32's normal range. -/
def Mid (y : ℝ) : Prop := y = 0 ∨ ((2 : ℝ) ^ (-126 : ℤ) ≤ y ∧ y < (2 : ℝ) ^ (126 : ℤ))

/-- The exponent of a value in the middle range. -/
theorem Mid.log {y : ℝ} (h : Mid y) (h0 : y ≠ 0) : 0 < y ∧ -126 ≤ lg y ∧ lg y < 126 := by
  rcases h with h | ⟨h1, h2⟩
  · exact absurd h h0
  have hp : 0 < y := lt_of_lt_of_le (by positivity) h1
  exact ⟨hp, (two_zpow_le hp _).1 h1, not_le.1 fun e => absurd h2 (not_lt.2 ((two_zpow_le hp _).2 e))⟩

/-- The biased exponent of a value in the middle range. -/
theorem field_lt {y : ℝ} (h : Mid y) : field y < 253 := by
  unfold field; split_ifs with h0
  · norm_num
  · have := h.log h0; omega

/-- A probe of the search compares biased exponents. -/
theorem bits_le {y : ℝ} (h : Mid y) {c : ℕ} (h1 : 1 ≤ c) (h2 : c ≤ 255) :
    Ideal.ofBits .f32 (IntOp.shli ArithUnit.vector (BitVec.ofNat 32 c) 23#32) ≤ ((y : ℝ) : EReal) ↔ c ≤ field y := by
  have hf := field_lt h
  rcases Nat.lt_or_ge 254 c with hc | hc
  · obtain rfl : c = 255 := by omega
    rw [top_bits]
    refine ⟨fun e => absurd (top_le_iff.1 e) (EReal.coe_ne_top _), fun e => by omega⟩
  rw [pow2_bits h1 hc, EReal.coe_le_coe_iff]
  unfold field; split_ifs with h0
  · subst h0
    refine ⟨fun e => absurd e (not_le.2 (by positivity)), fun e => by omega⟩
  · obtain ⟨hp, l1, l2⟩ := h.log h0
    rw [two_zpow_le hp]; omega

/-- One step of the search. -/
theorem expStep_at {Y : FVec Ideal S8x128 .f32} {b : IVec S8x128 32} {i : Fin 8} {j : Fin 128} {y : ℝ} {n bit : ℕ}
    (hY : Y (ix2 i j) = (y : EReal)) (hy : Mid y) (hb : b (ix2 i j) = BitVec.ofNat 32 n) (h1 : 1 ≤ bit) (h2 : n + bit ≤ 255) :
    expStep Y b (BitVec.ofNat 32 bit) (ix2 i j) = BitVec.ofNat 32 (if n + bit ≤ field y then n + bit else n) := by
  have e : expStep Y b (BitVec.ofNat 32 bit) (ix2 i j) =
      if Ideal.ofBits FTy.f32 (IntOp.shli ArithUnit.vector (IntOp.addi (b (ix2 i j)) (BitVec.ofNat 32 bit)) 23#32) ≤ Y (ix2 i j) then
        IntOp.addi (b (ix2 i j)) (BitVec.ofNat 32 bit) else b (ix2 i j) := by
    unfold expStep; pointwise
  have a : IntOp.addi (BitVec.ofNat 32 n) (BitVec.ofNat 32 bit) = BitVec.ofNat 32 (n + bit) := (BitVec.ofNat_add ..).symm
  rw [e, hb, hY, a]
  simp only [bits_le hy (show 1 ≤ n + bit by omega) h2]
  split_ifs <;> rfl

/-- The search finds the exponent field. -/
theorem expField_at {Y : FVec Ideal S8x128 .f32} {i : Fin 8} {j : Fin 128} {y : ℝ} (hY : Y (ix2 i j) = (y : EReal)) (hy : Mid y) :
    expField Y (ix2 i j) = BitVec.ofNat 32 (field y) := by
  have hf := field_lt hy
  have step : ∀ (b : IVec S8x128 32) (bit : ℕ), 1 ≤ bit → (∃ n, b (ix2 i j) = BitVec.ofNat 32 n ∧ n ≤ field y ∧ field y < n + 2 * bit ∧ n + bit ≤ 255 ∧ n % (2 * bit) = 0) →
      ∃ n, expStep Y b (BitVec.ofNat 32 bit) (ix2 i j) = BitVec.ofNat 32 n ∧ n ≤ field y ∧ field y < n + bit ∧ n % bit = 0 := by
    rintro b bit hbit ⟨n, hn, l1, l2, l3, l4⟩
    refine ⟨_, expStep_at hY hy hn hbit l3, ?_⟩
    have : n % bit = 0 := Nat.mod_eq_zero_of_dvd (Dvd.dvd.trans ⟨2, by ring⟩ (Nat.dvd_of_mod_eq_zero l4))
    split_ifs
    · exact ⟨by omega, by omega, by simp [this]⟩
    · exact ⟨by omega, by omega, this⟩
  have r7 := step (broadcast S8x128 0#32) 128 (by norm_num) ⟨0, rfl, by omega, by omega, by omega, rfl⟩
  have r6 := step _ 64 (by norm_num) (r7.imp fun n h => ⟨h.1, h.2.1, h.2.2.1, by omega, h.2.2.2⟩)
  have r5 := step _ 32 (by norm_num) (r6.imp fun n h => ⟨h.1, h.2.1, h.2.2.1, by omega, h.2.2.2⟩)
  have r4 := step _ 16 (by norm_num) (r5.imp fun n h => ⟨h.1, h.2.1, h.2.2.1, by omega, h.2.2.2⟩)
  have r3 := step _ 8 (by norm_num) (r4.imp fun n h => ⟨h.1, h.2.1, h.2.2.1, by omega, h.2.2.2⟩)
  have r2 := step _ 4 (by norm_num) (r3.imp fun n h => ⟨h.1, h.2.1, h.2.2.1, by omega, h.2.2.2⟩)
  have r1 := step _ 2 (by norm_num) (r2.imp fun n h => ⟨h.1, h.2.1, h.2.2.1, by omega, h.2.2.2⟩)
  have r0 := step _ 1 (by norm_num) (r1.imp fun n h => ⟨h.1, h.2.1, h.2.2.1, by omega, h.2.2.2⟩)
  obtain ⟨n, h, l1, l2, -⟩ := r0
  obtain rfl : n = field y := by omega
  exact h

/-! ## Scale and codes -/

/-- The exponent of a block with largest magnitude over the format's maximum `y`. -/
def expOf (y : ℝ) : ℤ := if y = 0 then 0 else lg y + 1

/-- The scale's exponent from the biased exponent. -/
theorem expo_at {b : IVec S8x128 32} {i : Fin 8} {j : Fin 128} {y : ℝ} (hb : b (ix2 i j) = BitVec.ofNat 32 (field y)) (hy : Mid y) :
    IntOp.addi (expo b (ix2 i j)) 127#32 = BitVec.ofNat 32 (expOf y + 127).toNat ∧
    IntOp.subi 127#32 (expo b (ix2 i j)) = BitVec.ofNat 32 (127 - expOf y).toNat := by
  have e : expo b (ix2 i j) = Scalar.select (IntOp.cmpi CmpIPredicate.eq (b (ix2 i j)) 0#32) (0#32) (IntOp.subi (b (ix2 i j)) 126#32) := by
    unfold expo; pointwise
  have hf := field_lt hy
  have key : ∀ n : Fin 253, IntOp.addi (Scalar.select (IntOp.cmpi CmpIPredicate.eq (BitVec.ofNat 32 n) 0#32) (0#32) (IntOp.subi (BitVec.ofNat 32 n) 126#32)) 127#32
        = BitVec.ofNat 32 (if n.val = 0 then 127 else n.val + 1) ∧
      IntOp.subi 127#32 (Scalar.select (IntOp.cmpi CmpIPredicate.eq (BitVec.ofNat 32 n) 0#32) (0#32) (IntOp.subi (BitVec.ofNat 32 n) 126#32))
        = BitVec.ofNat 32 (if n.val = 0 then 127 else 253 - n.val) := by decide
  have k := key ⟨field y, hf⟩
  rw [e, hb, k.1, k.2]
  by_cases h0 : y = 0
  · have h1 : field y = 0 := if_pos h0
    have h2 : expOf y = 0 := if_pos h0
    simp [h1, h2]
  · have h1 : field y = (lg y + 127).toNat := if_neg h0
    have h2 : expOf y = lg y + 1 := if_neg h0
    have := hy.log h0
    simp only
    rw [if_neg (by omega), if_neg (by omega)]
    constructor <;> congr 1 <;> omega

/-- The scale's exponent is that of a normal number. -/
theorem expOf_bounds {y : ℝ} (hy : Mid y) : -125 ≤ expOf y ∧ expOf y ≤ 126 := by
  unfold expOf; split_ifs with h
  · norm_num
  · have := hy.log h; omega

/-- The scale the kernel computes. -/
theorem scaleOf_at {r : BitVec 32} {t : FVec Ideal S2048x128 .bf16} {f : ℕ → ℕ → ℝ} {rc : ℝ} (h : At2 t (fun r d => (f r d : ℝ)))
    (hr : Ideal.ofBits .f32 r = (rc : EReal)) (hy : Mid (big f * rc)) :
    scaleOf r t (ix2 0 0) = (((2 : ℝ) ^ expOf (big f * rc) : ℝ) : EReal) := by
  have e : scaleOf r t (ix2 0 0) = Ideal.ofBits FTy.f32 (IntOp.shli ArithUnit.vector (IntOp.addi (expo (expField (amax r t)) (ix2 0 0)) 127#32) 23#32) := by
    unfold scaleOf pow2; pointwise
  have ha : amax r t (ix2 0 0) = ((big f * rc : ℝ) : EReal) := by rw [amax_at r h, hr, EReal.coe_mul]
  have hb := expOf_bounds hy
  rw [e, (expo_at (expField_at ha hy) hy).1, pow2_bits (by omega) (by omega)]
  have : (((expOf (big f * rc) + 127).toNat : ℤ) - 127) = expOf (big f * rc) := by omega
  rw [this]

/-- A number scaled down by the exponent and clipped to `[lo, hi]`. -/
def clipTo (lo hi s x : ℝ) : ℝ := min hi (max lo (x * s))

/-- The codes the kernel computes. -/
theorem codesOf_at {r lo hi : BitVec 32} {t : FVec Ideal S2048x128 .bf16} {f : ℕ → ℕ → ℝ} {rc l u : ℝ} (h : At2 t (fun r d => (f r d : ℝ)))
    (hr : Ideal.ofBits .f32 r = (rc : EReal)) (hl : Ideal.ofBits .f32 lo = (l : EReal)) (hu : Ideal.ofBits .f32 hi = (u : EReal)) (hy : Mid (big f * rc)) :
    At2 (codesOf r lo hi t) (fun i j => (clipTo l u ((2 : ℝ) ^ (-expOf (big f * rc))) (f i j) : ℝ)) := by
  intro i j
  have e : codesOf r lo hi t (ix2 i j) = min (Ideal.ofBits FTy.f32 hi) (max (Ideal.ofBits FTy.f32 lo) (t (ix2 i j) *
      Ideal.ofBits FTy.f32 (IntOp.shli ArithUnit.vector (IntOp.subi (127#32) (expo (expField (amax r t)) (ix2 0 0))) 23#32))) := by
    unfold codesOf pow2; pointwise
  have ha : amax r t (ix2 0 0) = ((big f * rc : ℝ) : EReal) := by rw [amax_at r h, hr, EReal.coe_mul]
  have hb := expOf_bounds hy
  rw [e, (expo_at (expField_at ha hy) hy).2, pow2_bits (by omega) (by omega), hl, hu, h i j, ← EReal.coe_mul, ← EReal.coe_strictMono.monotone.map_max,
    ← EReal.coe_strictMono.monotone.map_min]
  have : (((127 - expOf (big f * rc)).toNat : ℤ) - 127) = -expOf (big f * rc) := by omega
  rw [this]; rfl

/-- The maximum of one word is the word. -/
theorem word_eq (s : FVec Ideal S1x1 .f32) : word s = s (ix2 0 0) := by
  have e : word s = Finset.fold max (Ideal.ofBits FTy.f32 4286578688#32) (fun k : Fin 1 × Fin 1 => s (ix2 0 0)) Finset.univ := by
    unfold word; pointwise
  rw [e, show (4286578688#32 : BitVec 32) = 0xFF800000#32 from rfl, ofBits_ninf]
  exact le_antisymm (Finset.fold_max_le _ |>.2 ⟨bot_le, fun _ _ => le_rfl⟩) (Finset.le_fold_max _ |>.2 (.inr ⟨(0, 0), Finset.mem_univ _, le_rfl⟩))

/-! ## The two formats -/

/-- The reciprocals of the formats' maxima as the kernel has them. -/
def rc4 : ℝ := 9586981 * (2 : ℝ) ^ (-32 : ℤ)
/-- The e5m2 reciprocal, as a real. -/
def rc5 : ℝ := 9586981 * (2 : ℝ) ^ (-39 : ℤ)

/-- The e4m3 reciprocal's word. -/
theorem ofBits_rc4 : Ideal.ofBits .f32 0x3B124925#32 = (rc4 : EReal) := by
  simp [Ideal.ofBits, Ideal.ieee, -EReal.coe_mul, rc4]
/-- The e5m2 reciprocal's word. -/
theorem ofBits_rc5 : Ideal.ofBits .f32 0x37924925#32 = (rc5 : EReal) := by
  simp [Ideal.ofBits, Ideal.ieee, -EReal.coe_mul, rc5]
/-- The largest e4m3 value's word. -/
theorem ofBits_hi4 : Ideal.ofBits .f32 0x43E00000#32 = ((448 : ℝ) : EReal) := by
  simp [Ideal.ofBits, Ideal.ieee, -EReal.coe_mul]; norm_num
/-- The least e4m3 value's word. -/
theorem ofBits_lo4 : Ideal.ofBits .f32 0xC3E00000#32 = ((-448 : ℝ) : EReal) := by
  simp [Ideal.ofBits, Ideal.ieee, -EReal.coe_mul]; norm_num
/-- The largest e5m2 value's word. -/
theorem ofBits_hi5 : Ideal.ofBits .f32 0x47600000#32 = ((57344 : ℝ) : EReal) := by
  simp [Ideal.ofBits, Ideal.ieee, -EReal.coe_mul]; norm_num
/-- The least e5m2 value's word. -/
theorem ofBits_lo5 : Ideal.ofBits .f32 0xC7600000#32 = ((-57344 : ℝ) : EReal) := by
  simp [Ideal.ofBits, Ideal.ieee, -EReal.coe_mul]; norm_num

/-- Scale and codes of a block in e4m3 and in e5m2. -/
def exp4 (f : ℕ → ℕ → ℝ) : ℤ := expOf (big f * rc4)
/-- The exponent of a head's e5m2 scale. -/
def exp5 (f : ℕ → ℕ → ℝ) : ℤ := expOf (big f * rc5)
/-- A head's e4m3 scale. -/
def sc4 (f : ℕ → ℕ → ℝ) : ℝ := (2 : ℝ) ^ exp4 f
/-- A head's e5m2 scale. -/
def sc5 (f : ℕ → ℕ → ℝ) : ℝ := (2 : ℝ) ^ exp5 f
/-- A head's e4m3 codes. -/
def cd4 (f : ℕ → ℕ → ℝ) (r d : ℕ) : ℝ := clipTo (-448) 448 ((2 : ℝ) ^ (-exp4 f)) (f r d)
/-- A head's e5m2 codes. -/
def cd5 (f : ℕ → ℕ → ℝ) (r d : ℕ) : ℝ := clipTo (-57344) 57344 ((2 : ℝ) ^ (-exp5 f)) (f r d)

/-- The largest magnitude of a block is zero or in the range the claim is made for. -/
def InRange (lowest : ℝ) (f : ℕ → ℕ → ℝ) : Prop := big f = 0 ∨ (lowest ≤ big f ∧ big f < (2 : ℝ) ^ (128 : ℤ))

/-- A head in range is in the middle range of the e4m3 search. -/
theorem InRange.mid4 {f : ℕ → ℕ → ℝ} (h : InRange ((2 : ℝ) ^ (-117 : ℤ)) f) : Mid (big f * rc4) := by
  rcases h with h | ⟨h1, h2⟩
  · exact .inl (by rw [h, zero_mul])
  · refine .inr ⟨?_, ?_⟩ <;> unfold rc4 <;> norm_num at h1 h2 ⊢ <;> linarith

/-- A head in range is in the middle range of the e5m2 search. -/
theorem InRange.mid5 {f : ℕ → ℕ → ℝ} (h : InRange ((2 : ℝ) ^ (-110 : ℤ)) f) : Mid (big f * rc5) := by
  rcases h with h | ⟨h1, h2⟩
  · exact .inl (by rw [h, zero_mul])
  · refine .inr ⟨?_, ?_⟩ <;> unfold rc5 <;> norm_num at h1 h2 ⊢ <;> linarith

section
variable {t : FVec Ideal S2048x128 .bf16} {f : ℕ → ℕ → ℝ} (h : At2 t (fun r d => (f r d : ℝ)))
include h

/-- The kernel's e4m3 scale. -/
theorem scale4_at (hr : InRange ((2 : ℝ) ^ (-117 : ℤ)) f) : scale4 t (ix2 0 0) = (sc4 f : EReal) := scaleOf_at h ofBits_rc4 hr.mid4
/-- The kernel's e5m2 scale. -/
theorem scale5_at (hr : InRange ((2 : ℝ) ^ (-110 : ℤ)) f) : scale5 t (ix2 0 0) = (sc5 f : EReal) := scaleOf_at h ofBits_rc5 hr.mid5
/-- The kernel's e4m3 codes. -/
theorem codes4_at (hr : InRange ((2 : ℝ) ^ (-117 : ℤ)) f) : At2 (codes4 t) (fun r d => (cd4 f r d : ℝ)) := codesOf_at h ofBits_rc4 ofBits_lo4 ofBits_hi4 hr.mid4
/-- The kernel's e5m2 codes. -/
theorem codes5_at (hr : InRange ((2 : ℝ) ^ (-110 : ℤ)) f) : At2 (codes5 t) (fun r d => (cd5 f r d : ℝ)) := codesOf_at h ofBits_rc5 ofBits_lo5 ofBits_hi5 hr.mid5
end

end Cert.KernelIdeal.Loop
end
-- ==== Proof.Stages.lean ====
/- The stages of a grid point around its blocks: quantising the inputs and writing the gradients out. -/
module

public import proofs.«01_k».proof.Proof.Blocks
public import proofs.«01_k».proof.Proof.Quant

@[expose] public section

noncomputable section

namespace Cert.KernelIdeal.Loop

open Cert.KernelIdeal Cert.KernelIdeal.Gen
open Idealize.ShloMosaic
open Idealize.SL Idealize.SL.Sem

variable {c : Dev nD} {R : Refs}

attribute [local irreducible] put sub2 sub3 scaleOf codesOf word

/-! ## Reading the layout operations of the quantiser -/

/-- An input block as a matrix. -/
theorem in_at {X : FVec Ideal S1x2048x128 .bf16} {f : ℕ → ℕ → EReal} (h : At3 X (fun _ r d => f r d)) :
    At2 (shapeCast S2048x128 X shapeCasts_S1x2048x128_S2048x128) f := by
  intro r d; pointwise; exact h 0 r d

/-- A matrix of codes as an e4m3 block. -/
theorem out4_at {T : FVec Ideal S2048x128 .bf16} {f : ℕ → ℕ → EReal} (h : At2 T f) :
    At3 (shapeCast S1x2048x128 (truncf .fp8e4m3 T bitsLt_fp8e4m3_bf16) shapeCasts_S2048x128_S1x2048x128) (fun _ r d => f r d) := by
  intro z r d; pointwise; exact h r d

/-- A matrix of codes as an e5m2 block. -/
theorem out5_at {T : FVec Ideal S2048x128 .bf16} {f : ℕ → ℕ → EReal} (h : At2 T f) :
    At3 (shapeCast S1x2048x128 (truncf .fp8e5m2 T bitsLt_fp8e5m2_bf16) shapeCasts_S2048x128_S1x2048x128) (fun _ r d => f r d) := by
  intro z r d; pointwise; exact h r d

/-- A matrix of e4m3 codes, transposed, in bfloat16. -/
theorem trans16_at {T : FVec Ideal S2048x128 .bf16} {f : ℕ → ℕ → EReal} (h : At2 T f) :
    At2 (shapeCast S128x2048 (transpose S128x2048 [1, 0] (extf .bf16 (truncf .fp8e4m3 T bitsLt_fp8e4m3_bf16) bitsLt_fp8e4m3_bf16) transposes_S2048x128_p1_0_S128x2048) shapeCasts_S128x2048_S128x2048) (fun d r => f r d) := by
  intro d r; rw [shapeCast_self]; pointwise; exact h r d

/-- A matrix of e4m3 codes, transposed. -/
theorem trans4_at {T : FVec Ideal S2048x128 .bf16} {f : ℕ → ℕ → EReal} (h : At2 T f) :
    At2 (shapeCast S128x2048 (truncf .fp8e4m3 (transpose S128x2048 [1, 0] T transposes_S2048x128_p1_0_S128x2048) bitsLt_fp8e4m3_bf16) shapeCasts_S128x2048_S128x2048) (fun d r => f r d) := by
  intro d r; rw [shapeCast_self]; pointwise; exact h r d

/-- A matrix of e5m2 codes, transposed. -/
theorem trans5_at {T : FVec Ideal S2048x128 .bf16} {f : ℕ → ℕ → EReal} (h : At2 T f) :
    At2 (shapeCast S128x2048 (truncf .fp8e5m2 (transpose S128x2048 [1, 0] T transposes_S2048x128_p1_0_S128x2048) bitsLt_fp8e5m2_bf16) shapeCasts_S128x2048_S128x2048) (fun d r => f r d) := by
  intro d r; rw [shapeCast_self]; pointwise; exact h r d

/-- A transposed gradient turned back, as a block. -/
theorem grad_at {T : FVec Ideal S128x2048 .f32} {f : ℕ → ℕ → EReal} (h : At2 T f) :
    At3 (shapeCast S1x2048x128 (transpose S2048x128 [1, 0] (truncf .bf16 T bitsLt_bf16_f32) transposes_S128x2048_p1_0_S2048x128) shapeCasts_S2048x128_S1x2048x128) (fun _ r d => f d r) := by
  intro z r d; pointwise; exact h d r

/-- The zero matrix. -/
theorem zero_at : At2 (shapeCast S128x2048 (broadcast S128x2048 (Scalar.ofBits (F := Ideal) .f32 0x00000000#32)) shapeCasts_S128x2048_S128x2048 : FVec Ideal S128x2048 .f32)
    (fun _ _ => ((0 : ℝ) : EReal)) := by
  intro d r; rw [shapeCast_self]; pointwise; rfl

/-- A scale spread over eight rows of lanes. -/
theorem lanes_at {s : FVec Ideal S1x1 .f32} (i : Fin 8) (j : Fin 128) :
    (shapeCast S8x128 (broadcastTo S8x128 (shapeCast S1x1 s shapeCasts_S1x1_S1x1) broadcasts_S1x1_S8x128) shapeCasts_S8x128_S8x128 : FVec Ideal S8x128 .f32) (ix2 i j) = s (ix2 0 0) := by
  rw [shapeCast_self, shapeCast_self]; pointwise

/-- The mask of a tile on the diagonal. -/
theorem mask_at (k q : Fin 256) : cmpi .sle (iota .tc S256x256 32 [0] iota_S256x256_d0_w32) (iota .tc S256x256 32 [1] iota_S256x256_d1_w32) (ix2 k q) =
    if k.val ≤ q.val then 1#1 else 0#1 := by
  pointwise
  have hk : (BitVec.ofNat 32 k.val).toInt = k.val := by
    rw [BitVec.toInt_eq_toNat_of_lt] <;> simp <;> omega
  have hq : (BitVec.ofNat 32 q.val).toInt = q.val := by
    rw [BitVec.toInt_eq_toNat_of_lt] <;> simp <;> omega
  show BitVec.ofBool ((BitVec.ofNat 32 k.val).sle (BitVec.ofNat 32 q.val)) = _
  rw [BitVec.sle_eq_decide, hk, hq]
  by_cases h : k.val ≤ q.val
  · simp [h]
  · simp [h]

/-! ## Where the scales are written -/

/-- The batch of the key/value scale's word. -/
theorem off1_0 (i : grid0.Coords) : k0_off1 i 0 = (i 0).val := by
  have : (i 0).val < 8 := (i 0).isLt
  simp [k0_off1, Scalar.indexCast]; omega
/-- The head of the key/value scale's word. -/
theorem off1_1 (i : grid0.Coords) : k0_off1 i 1 = (i 1).val := by
  have : (i 1).val < 4 := (i 1).isLt
  simp [k0_off1, Scalar.indexCast]; omega
/-- The batch of the query scale's word. -/
theorem off2_0 (i : grid0.Coords) : k0_off2 i 0 = (i 0).val := by
  have : (i 0).val < 8 := (i 0).isLt
  simp [k0_off2, Scalar.indexCast]; omega
/-- The head of the query scale's word. -/
theorem off2_1 (i : grid0.Coords) : k0_off2 i 1 = 4 * (i 1).val + (i 2).val := by
  have h1 : (i 1).val < 4 := (i 1).isLt
  have h2 : (i 2).val < 4 := (i 2).isLt
  simp [k0_off2, Scalar.indexCast]
  show (BitVec.ofNat 32 (i 1).val * 4#32 + BitVec.ofNat 32 (i 2).val).toNat = _
  simp [BitVec.toNat_add, BitVec.toNat_mul]; omega
/-- The first stage runs at a group's first query head. -/
theorem cond1_iff (i : grid0.Coords) : k0_cond1 i = 1#1 ↔ (i 2).val = 0 := by
  have h : ∀ g : Fin 4, (Scalar.cmpi .ne (Scalar.extui (Scalar.cmpi .eq (BitVec.ofNat 32 g.val) 0#32) : BitVec 32) 0#32 = 1#1) ↔ g.val = 0 := by decide
  exact h (i 2)
/-- The last stage runs at a group's last query head. -/
theorem cond2_iff (i : grid0.Coords) : k0_cond2 i = 1#1 ↔ (i 2).val = 3 := by
  have h : ∀ g : Fin 4, (Scalar.cmpi .ne (Scalar.extui (Scalar.cmpi .eq (BitVec.ofNat 32 g.val) 3#32) : BitVec 32) 0#32 = 1#1) ↔ g.val = 3 := by decide
  exact h (i 2)

/-- One word put in at an entry. -/
theorem put_one {A B : ℕ} {e : EltTy} (X : Vec Ideal (R2 A B) e) (o : Fin 2 → ℕ) (h : ∀ x, o x + S1x1.size x ≤ (R2 A B).size x) (v : Elt Ideal e) (a : Fin A) (b : Fin B) :
    put X (Rect.unit (s := R2 A B) o S1x1.size h) (fun _ => v) (ix2 a b) = if a.val = o 0 ∧ b.val = o 1 then v else X (ix2 a b) := by
  obtain ⟨o0, o1, rfl⟩ : ∃ o0 o1, o = ![o0, o1] := ⟨o 0, o 1, by ext x; fin_cases x <;> rfl⟩
  split_ifs with hc
  · exact put2_in X o0 o1 1 1 h _ a b 0 0 (by simpa using hc.1) (by simpa using hc.2)
  · exact put2_out X o0 o1 1 1 h _ a b (fun ⟨h1, h2, h3, h4⟩ => hc ⟨by simp; omega, by simp; omega⟩)

/-! ## The stages of a grid point -/

section
variable {fx fk fv fo : ℕ → ℕ → ℝ}

/-- The range of magnitudes the claim is made for. -/
structure Ranges (fx fk fv fo : ℕ → ℕ → ℝ) : Prop where
  x : InRange ((2 : ℝ) ^ (-117 : ℤ)) fx
  k : InRange ((2 : ℝ) ^ (-117 : ℤ)) fk
  v : InRange ((2 : ℝ) ^ (-117 : ℤ)) fv
  o : InRange ((2 : ℝ) ^ (-110 : ℤ)) fo

/-- A grid point's codes and scales, as real numbers. -/
def spec (fx fk fv fo : ℕ → ℕ → ℝ) : Sp where
  q := cd4 fx
  k := cd4 fk
  v := cd4 fv
  o := cd5 fo
  sq := sc4 fx
  sk := sc4 fk
  sv := sc4 fv
  so := sc5 fo

/-- The keys' and values' codes and scales are in their buffers. -/
structure KV (fk fv : ℕ → ℕ → ℝ) (σ : St) : Prop where
  kc : At3 σ.kc (fun _ r d => (cd4 fk r d : ℝ))
  vc : At3 σ.vc (fun _ r d => (cd4 fv r d : ℝ))
  kt : At2 σ.kt (fun d r => (cd4 fk r d : ℝ))
  vt : At2 σ.vt (fun d r => (cd4 fv r d : ℝ))
  sk : σ.kvs (ix2 0 0) = (sc4 fk : EReal)
  sv : σ.kvs (ix2 8 0) = (sc4 fv : EReal)

/-- `X'` is `X` with `v` at entry `(a, b)`. -/
def SetAt {A B : ℕ} (X X' : (R2 A B).Idx → EReal) (a b : ℕ) (v : ℝ) : Prop :=
  ∀ (r : Fin A) (q : Fin B), X' (ix2 r q) = if r.val = a ∧ q.val = b then (v : EReal) else X (ix2 r q)

/-! What the quantiser stores of an input block: the codes, their transposes, the word of the scale. -/

/-- An input block's e4m3 codes, as a block. -/
def outC4 (X : FVec Ideal S1x2048x128 .bf16) : FVec Ideal S1x2048x128 .fp8e4m3 :=
  shapeCast S1x2048x128 (truncf (F := Ideal) .fp8e4m3 (codes4 (F := Ideal) (shapeCast S2048x128 X shapeCasts_S1x2048x128_S2048x128)) bitsLt_fp8e4m3_bf16) shapeCasts_S2048x128_S1x2048x128
/-- An input block's e5m2 codes, as a block. -/
def outC5 (X : FVec Ideal S1x2048x128 .bf16) : FVec Ideal S1x2048x128 .fp8e5m2 :=
  shapeCast S1x2048x128 (truncf (F := Ideal) .fp8e5m2 (codes5 (F := Ideal) (shapeCast S2048x128 X shapeCasts_S1x2048x128_S2048x128)) bitsLt_fp8e5m2_bf16) shapeCasts_S2048x128_S1x2048x128
/-- An input block's e4m3 codes, transposed, in bfloat16. -/
def outT16 (X : FVec Ideal S1x2048x128 .bf16) : FVec Ideal S128x2048 .bf16 :=
  shapeCast S128x2048 (transpose S128x2048 [1, 0] (extf (F := Ideal) .bf16 (truncf (F := Ideal) .fp8e4m3 (codes4 (F := Ideal) (shapeCast S2048x128 X shapeCasts_S1x2048x128_S2048x128)) bitsLt_fp8e4m3_bf16) bitsLt_fp8e4m3_bf16) transposes_S2048x128_p1_0_S128x2048) shapeCasts_S128x2048_S128x2048
/-- An input block's e4m3 codes, transposed. -/
def outT4 (X : FVec Ideal S1x2048x128 .bf16) : FVec Ideal S128x2048 .fp8e4m3 :=
  shapeCast S128x2048 (truncf (F := Ideal) .fp8e4m3 (transpose S128x2048 [1, 0] (codes4 (F := Ideal) (shapeCast S2048x128 X shapeCasts_S1x2048x128_S2048x128)) transposes_S2048x128_p1_0_S128x2048) bitsLt_fp8e4m3_bf16) shapeCasts_S128x2048_S128x2048
/-- An input block's e5m2 codes, transposed. -/
def outT5 (X : FVec Ideal S1x2048x128 .bf16) : FVec Ideal S128x2048 .fp8e5m2 :=
  shapeCast S128x2048 (truncf (F := Ideal) .fp8e5m2 (transpose S128x2048 [1, 0] (codes5 (F := Ideal) (shapeCast S2048x128 X shapeCasts_S1x2048x128_S2048x128)) transposes_S2048x128_p1_0_S128x2048) bitsLt_fp8e5m2_bf16) shapeCasts_S128x2048_S128x2048
/-- An input block's e4m3 scale. -/
def outS4 (X : Vec Ideal S1x2048x128 .bf16) : FVec Ideal S1x1 .f32 := scale4 (shapeCast S2048x128 X shapeCasts_S1x2048x128_S2048x128)
/-- An input block's e5m2 scale. -/
def outS5 (X : Vec Ideal S1x2048x128 .bf16) : FVec Ideal S1x1 .f32 := scale5 (shapeCast S2048x128 X shapeCasts_S1x2048x128_S2048x128)
/-- A scale spread over eight rows of lanes. -/
def lanes (s : FVec Ideal S1x1 .f32) : Vec Ideal S8x128 .f32 :=
  shapeCast S8x128 (broadcastTo S8x128 (shapeCast S1x1 s shapeCasts_S1x1_S1x1) broadcasts_S1x1_S8x128) shapeCasts_S8x128_S8x128
/-- The zeros that a group starts from. -/
def zeros : Vec Ideal S128x2048 .f32 :=
  shapeCast S128x2048 (broadcast S128x2048 (Scalar.ofBits (F := Ideal) .f32 0x00000000#32)) shapeCasts_S128x2048_S128x2048

/-- One block quantised: its codes, their transpose and its scale's word are stored. -/
theorem seg_runs {A B : ℕ} {ec et : EltTy} {Mi : Memref sig .tc .vmem S1x2048x128 .bf16} {Mc : Memref sig .tc .vmem S1x2048x128 ec}
    {Mt : Memref sig .tc .vmem S128x2048 et} {Ms : Memref sig .tc .smem (R2 A B) .f32} (si : Slot c R Mi) (sc : Slot c R Mc) (st : Slot c R Mt) (ss : Slot c R Ms)
    (VC : Vec Ideal S1x2048x128 .bf16 → Vec Ideal S1x2048x128 ec) (VT : Vec Ideal S1x2048x128 .bf16 → Vec Ideal S128x2048 et) (W : Vec Ideal S1x2048x128 .bf16 → EReal)
    (o : Fin 2 → ℕ) (ho : ∀ x, o x + S1x1.size x ≤ (R2 A B).size x) (i1 h1 i2 h2 i3 hx3 i4 h4 i5 hx5 n6 p6 hx7 hm7) {β : Type} {k : Vec Ideal S1x2048x128 .bf16 → PT Ideal β} {σ σ' : St} {b : β}
    (h : Runs c R (k (si.get σ)) (ss.set (st.set (sc.set σ (VC (si.get σ))) (VT (si.get σ)))
      (put (ss.get (st.set (sc.set σ (VC (si.get σ))) (VT (si.get σ)))) (Rect.unit (s := R2 A B) o S1x1.size ho) (fun _ => W (si.get σ)))) b σ') :
    Runs c R (ld3 Mi 0 0 0 2048 128 i1 h1 >>= fun x => ld3 Mc 0 0 0 2048 128 i2 h2 >>= fun _ => st3 Mc 0 0 0 2048 128 i3 hx3 (VC x) >>= fun _ =>
      ld2 Mt 0 0 128 2048 i4 h4 >>= fun _ => st2 Mt 0 0 128 2048 i5 hx5 (VT x) >>= fun _ =>
      smemLoad Ms (Rect.unit (s := R2 A B) o S1x1.size ho) n6 p6 >>= fun _ =>
      Prog.lift (.store Ms (Rect.unit (s := R2 A B) o S1x1.size ho) (fun _ => W x) Finset.univ hx7 hm7) >>= fun _ => k x) σ b σ' := by
  have e1 := sub3_whole (si.get σ) i1
  refine Runs.bind (Runs.ld3 si _ _ _ _ _ _ _ _) ?_
  rw [e1]
  refine Runs.bind (Runs.ld3 sc _ _ _ _ _ _ _ _) (Runs.bind (Runs.st3 sc _ _ _ _ _ _ _ _ _) ?_)
  rw [put3_whole]
  refine Runs.bind (Runs.ld2 st _ _ _ _ _ _ _) (Runs.bind (Runs.st2 st _ _ _ _ _ _ _ _) ?_)
  rw [put2_whole]
  exact Runs.bind (Runs.smemLoad ss _ _ _ _) (Runs.bind (Runs.store ss _ _ _ _ _) h)

/-- The keys' and values' state after quantising them. -/
def firstSt (i : grid0.Coords) (h1 : k0_cond1 i = 1#1) (σ : St) : St :=
  { σ with
    kc := outC4 σ.ki, kt := outT16 σ.ki, ks := put σ.ks (Rect.unit (s := S8x4) (k0_off1 i) S1x1.size (k0_off1_inb i h1)) (fun _ => word (outS4 σ.ki))
    vc := outC4 σ.vi, vt := outT4 σ.vi, vs := put σ.vs (Rect.unit (s := S8x4) (k0_off1 i) S1x1.size (k0_off1_inb i h1)) (fun _ => word (outS4 σ.vi))
    kvs := put (put σ.kvs (Rect.unit (s := S16x128) ![0, 0] S8x128.size inb_S16x128_S8x128_0_0) (lanes (outS4 σ.ki))) (Rect.unit (s := S16x128) ![8, 0] S8x128.size inb_S16x128_S8x128_8_0) (lanes (outS4 σ.vi))
    dkt := zeros, dvt := zeros }

/-- The scales' rows and the zeroed accumulators. -/
theorem tail_runs {R : Refs} (L L' : Vec Ideal S8x128 .f32) (Z : Vec Ideal S128x2048 .f32) (σ : St) : Runs c R (do
    let _s ← ld2 R.arg27 0 0 8 128 inb_S16x128_S8x128_0_0 h_S8x128
    st2 R.arg27 0 0 8 128 inb_S16x128_S8x128_0_0 (View.stores_vmem_bits_univ h_S8x128 rfl) (L)
    let _s ← ld2 R.arg27 8 0 8 128 inb_S16x128_S8x128_8_0 h_S8x128
    st2 R.arg27 8 0 8 128 inb_S16x128_S8x128_8_0 (View.stores_vmem_bits_univ h_S8x128 rfl) (L')
    let _a ← ld2 R.arg25 0 0 128 2048 inb_S128x2048_S128x2048_0_0 h_S128x2048
    st2 R.arg25 0 0 128 2048 inb_S128x2048_S128x2048_0_0 (View.stores_vmem_bits_univ h_S128x2048 rfl) Z
    let _a ← ld2 R.arg26 0 0 128 2048 inb_S128x2048_S128x2048_0_0 h_S128x2048
    st2 R.arg26 0 0 128 2048 inb_S128x2048_S128x2048_0_0 (View.stores_vmem_bits_univ h_S128x2048 rfl) Z) σ ⟨⟩
    { σ with
      kvs := put (put σ.kvs (Rect.unit (s := S16x128) ![0, 0] S8x128.size inb_S16x128_S8x128_0_0) (L)) (Rect.unit (s := S16x128) ![8, 0] S8x128.size inb_S16x128_S8x128_8_0) (L')
      dkt := Z, dvt := Z } := by
  refine Runs.bind (Runs.ld2 slot27 _ _ _ _ _ _ _) (Runs.bind (Runs.st2 slot27 _ _ _ _ _ _ _ _) ?_)
  refine Runs.bind (Runs.ld2 slot27 _ _ _ _ _ _ _) (Runs.bind (Runs.st2 slot27 _ _ _ _ _ _ _ _) ?_)
  refine Runs.bind (Runs.ld2 slot25 _ _ _ _ _ _ _) (Runs.bind (Runs.st2 slot25 _ _ _ _ _ _ _ _) ?_)
  rw [put2_whole]
  refine Runs.bind (Runs.ld2 slot26 _ _ _ _ _ _ _) ?_
  have h := Runs.st2 (c := c) (R := R) slot26 0 0 128 2048 inb_S128x2048_S128x2048_0_0 (View.stores_vmem_bits_univ h_S128x2048 rfl) Z
    { σ with
      kvs := put (put σ.kvs (Rect.unit (s := S16x128) ![0, 0] S8x128.size inb_S16x128_S8x128_0_0) (L)) (Rect.unit (s := S16x128) ![8, 0] S8x128.size inb_S16x128_S8x128_8_0) (L')
      dkt := Z }
  rw [put2_whole] at h
  exact h

/-- The first stage quantises the keys and values and clears the sums. -/
theorem first_runs (i : grid0.Coords) (h1 : k0_cond1 i = 1#1) (σ : St) : Runs c R (first R i h1) σ ⟨⟩ (firstSt i h1 σ) := by
  unfold first
  refine seg_runs slot4 slot12 slot21 slot13 outC4 outT16 (fun X => word (outS4 X)) (k0_off1 i) (k0_off1_inb i h1) _ _ _ _ _ _ _ _ _ _ _ _ _ _ ?_
  refine seg_runs slot5 slot14 slot22 slot15 outC4 outT4 (fun X => word (outS4 X)) (k0_off1 i) (k0_off1_inb i h1) _ _ _ _ _ _ _ _ _ _ _ _ _ _ ?_
  exact tail_runs (lanes (outS4 σ.ki)) (lanes (outS4 σ.vi)) zeros
    { σ with
      kc := outC4 σ.ki, kt := outT16 σ.ki, ks := put σ.ks (Rect.unit (s := S8x4) (k0_off1 i) S1x1.size (k0_off1_inb i h1)) (fun _ => word (outS4 σ.ki))
      vc := outC4 σ.vi, vt := outT4 σ.vi, vs := put σ.vs (Rect.unit (s := S8x4) (k0_off1 i) S1x1.size (k0_off1_inb i h1)) (fun _ => word (outS4 σ.vi)) }

/-- The state after quantising the queries and `dout`. -/
def quantSt (i : grid0.Coords) (σ : St) : St :=
  { σ with
    qc := outC4 σ.xi, qt := outT16 σ.xi, qs := put σ.qs (Rect.unit (s := S8x16) (k0_off2 i) S1x1.size (k0_off2_inb i)) (fun _ => word (outS4 σ.xi))
    oc := outC5 σ.oi, ot := outT5 σ.oi, os := put σ.os (Rect.unit (s := S8x16) (k0_off2 i) S1x1.size (k0_off2_inb i)) (fun _ => word (outS5 σ.oi)) }

/-- The second stage quantises the query head's inputs. -/
theorem quant_runs (i : grid0.Coords) (σ : St) : Runs c R (quant R i) σ (outS4 σ.xi, outS5 σ.oi) (quantSt i σ) := by
  unfold quant
  refine seg_runs slot3 slot10 slot23 slot11 outC4 outT16 (fun X => word (outS4 X)) (k0_off2 i) (k0_off2_inb i) _ _ _ _ _ _ _ _ _ _ _ _ _ _ ?_
  refine seg_runs slot6 slot16 slot24 slot17 outC5 outT5 (fun X => word (outS5 X)) (k0_off2 i) (k0_off2_inb i) _ _ _ _ _ _ _ _ _ _ _ _ _ _ ?_
  exact Runs.pure _ _

/-- What the last query head writes of an accumulator. -/
def outG (T : FVec Ideal S128x2048 .f32) : FVec Ideal S1x2048x128 .bf16 :=
  shapeCast S1x2048x128 (transpose S2048x128 [1, 0] (truncf (F := Ideal) .bf16 T bitsLt_bf16_f32) transposes_S128x2048_p1_0_S2048x128) shapeCasts_S2048x128_S1x2048x128

/-- The last stage writes the sums out. -/
theorem last_runs (σ : St) : Runs c R (last R) σ ⟨⟩ { σ with dk := outG σ.dkt, dv := outG σ.dvt } := by
  unfold last
  refine Runs.bind (Runs.ld2 slot25 _ _ _ _ _ _ _) (Runs.bind (Runs.ld3 slot8 _ _ _ _ _ _ _ _) (Runs.bind (Runs.st3 slot8 _ _ _ _ _ _ _ _ _) ?_))
  rw [put3_whole, sub2_whole]
  refine Runs.bind (Runs.ld2 slot26 _ _ _ _ _ _ _) (Runs.bind (Runs.ld3 slot9 _ _ _ _ _ _ _ _) ?_)
  have h := Runs.st3 (c := c) (R := R) slot9 0 0 0 2048 128 inb_S1x2048x128_S1x2048x128_0_0_0 (View.stores_vmem h_S1x2048x128 (R.harg9.storeExact_slice rfl _ packedbf16_S1x2048x128_S1x2048x128_0_0_0) (fun _ => rfl))
    (outG σ.dvt) { σ with dk := outG σ.dkt }
  rw [put3_whole] at h
  rw [sub2_whole]
  exact h

end

end Cert.KernelIdeal.Loop

end
-- ==== Proof.Point.lean ====
/- One grid point of the kernel: the body's run from what its windows and scratch buffers hold to what it leaves there. -/
module

public import proofs.«01_k».proof.Proof.Stages

@[expose] public section

noncomputable section

namespace Cert.KernelIdeal.Loop

open Cert.KernelIdeal Cert.KernelIdeal.Gen
open Idealize.ShloMosaic
open Idealize.SL Idealize.SL.Sem

variable {c : Dev nD} {R : Refs}

attribute [local irreducible] put sub2 sub3 scaleOf codesOf word

section
variable {fx fk fv fo : ℕ → ℕ → ℝ}

/-! ## What the stages leave, as real numbers -/

section
variable {X : FVec Ideal S1x2048x128 .bf16} {f : ℕ → ℕ → ℝ} (h : At3 X (fun _ r d => (f r d : ℝ)))
include h

/-- The e4m3 codes of a head in range. -/
theorem outC4_at (hr : InRange ((2 : ℝ) ^ (-117 : ℤ)) f) : At3 (outC4 X) (fun _ r d => (cd4 f r d : ℝ)) := out4_at (codes4_at (in_at (f := fun r d => (f r d : ℝ)) h) hr)
/-- The e5m2 codes of a head in range. -/
theorem outC5_at (hr : InRange ((2 : ℝ) ^ (-110 : ℤ)) f) : At3 (outC5 X) (fun _ r d => (cd5 f r d : ℝ)) := out5_at (codes5_at (in_at (f := fun r d => (f r d : ℝ)) h) hr)
/-- The e4m3 codes of a head in range, transposed, in bfloat16. -/
theorem outT16_at (hr : InRange ((2 : ℝ) ^ (-117 : ℤ)) f) : At2 (outT16 X) (fun d r => (cd4 f r d : ℝ)) := trans16_at (codes4_at (in_at (f := fun r d => (f r d : ℝ)) h) hr)
/-- The e4m3 codes of a head in range, transposed. -/
theorem outT4_at (hr : InRange ((2 : ℝ) ^ (-117 : ℤ)) f) : At2 (outT4 X) (fun d r => (cd4 f r d : ℝ)) := trans4_at (codes4_at (in_at (f := fun r d => (f r d : ℝ)) h) hr)
/-- The e5m2 codes of a head in range, transposed. -/
theorem outT5_at (hr : InRange ((2 : ℝ) ^ (-110 : ℤ)) f) : At2 (outT5 X) (fun d r => (cd5 f r d : ℝ)) := trans5_at (codes5_at (in_at (f := fun r d => (f r d : ℝ)) h) hr)
/-- The e4m3 scale of a head in range. -/
theorem outS4_at (hr : InRange ((2 : ℝ) ^ (-117 : ℤ)) f) : outS4 X (ix2 0 0) = (sc4 f : EReal) := scale4_at (in_at (f := fun r d => (f r d : ℝ)) h) hr
/-- The e5m2 scale of a head in range. -/
theorem outS5_at (hr : InRange ((2 : ℝ) ^ (-110 : ℤ)) f) : outS5 X (ix2 0 0) = (sc5 f : EReal) := scale5_at (in_at (f := fun r d => (f r d : ℝ)) h) hr
end

/-- A transposed gradient turned back. -/
theorem outG_at {T : FVec Ideal S128x2048 .f32} {f : ℕ → ℕ → ℝ} (h : At2 T (fun d r => (f r d : ℝ))) : At3 (outG T) (fun _ r d => (f r d : ℝ)) := grad_at h

/-- The zeros that a group starts from. -/
theorem zeros_at : At2 zeros (fun _ _ => ((0 : ℝ) : EReal)) := zero_at

/-- Storing one word of a table. -/
theorem set_word {A B : ℕ} (X : Vec Ideal (R2 A B) .f32) (o : Fin 2 → ℕ) (h : ∀ x, o x + S1x1.size x ≤ (R2 A B).size x) (s : FVec Ideal S1x1 .f32) {v : ℝ} (hs : s (ix2 0 0) = (v : EReal)) :
    SetAt X (put X (Rect.unit (s := R2 A B) o S1x1.size h) (fun _ => word s)) (o 0) (o 1) v := by
  intro a b
  rw [word_eq, hs]; exact put_one X o h _ a b

attribute [local irreducible] outC4 outC5 outT16 outT4 outT5 outS4 outS5 lanes zeros outG

/-- What a group's first grid point leaves of its keys and values. -/
theorem firstSt_kv (i : grid0.Coords) (h1 : k0_cond1 i = 1#1) {σ : St} (hk : At3 σ.ki (fun _ r d => (fk r d : ℝ))) (hv : At3 σ.vi (fun _ r d => (fv r d : ℝ)))
    (rk : InRange ((2 : ℝ) ^ (-117 : ℤ)) fk) (rv : InRange ((2 : ℝ) ^ (-117 : ℤ)) fv) : KV fk fv (firstSt i h1 σ) where
  kc := outC4_at hk rk
  vc := outC4_at hv rv
  kt := outT16_at hk rk
  vt := outT4_at hv rv
  sk := (put2_out _ 8 0 8 128 _ _ 0 0 (by simp)).trans ((put2_in _ 0 0 8 128 _ _ 0 0 0 0 (by simp) (by simp)).trans (by unfold lanes; exact (lanes_at 0 0).trans (outS4_at hk rk)))
  sv := (put2_in _ 8 0 8 128 _ _ 8 0 0 0 (by simp) (by simp)).trans (by unfold lanes; exact (lanes_at 0 0).trans (outS4_at hv rv))

/-- The input blocks of a grid point. -/
structure Ins (fx fk fv fo : ℕ → ℕ → ℝ) (σ : St) : Prop where
  xi : At3 σ.xi (fun _ r d => (fx r d : ℝ))
  ki : At3 σ.ki (fun _ r d => (fk r d : ℝ))
  vi : At3 σ.vi (fun _ r d => (fv r d : ℝ))
  oi : At3 σ.oi (fun _ r d => (fo r d : ℝ))

/-- What the buffers carried over the query heads of one key/value head hold: codes and scales, and the gradients summed so far. -/
structure Carried (fk fv : ℕ → ℕ → ℝ) (ak av : ℕ → ℕ → ℝ) (σ : St) : Prop where
  kv : KV fk fv σ
  dkt : At2 σ.dkt (fun d k => (ak k d : ℝ))
  dvt : At2 σ.dvt (fun d k => (av k d : ℝ))

/-- What a grid point's body leaves. -/
structure Left (i : grid0.Coords) (fx fk fv fo ak av : ℕ → ℕ → ℝ) (σ σ' : St) : Prop where
  xi : σ'.xi = σ.xi
  ki : σ'.ki = σ.ki
  vi : σ'.vi = σ.vi
  oi : σ'.oi = σ.oi
  dq : At3 σ'.dq (fun _ q d => ((spec fx fk fv fo).DQ q d : ℝ))
  dk : (i 2).val = 3 → At3 σ'.dk (fun _ k d => (ak k d + (spec fx fk fv fo).DK k d : ℝ))
  dv : (i 2).val = 3 → At3 σ'.dv (fun _ k d => (av k d + (spec fx fk fv fo).DV k d : ℝ))
  qc : At3 σ'.qc (fun _ r d => (cd4 fx r d : ℝ))
  oc : At3 σ'.oc (fun _ r d => (cd5 fo r d : ℝ))
  qs : SetAt σ.qs σ'.qs (i 0).val (4 * (i 1).val + (i 2).val) (sc4 fx)
  os : SetAt σ.os σ'.os (i 0).val (4 * (i 1).val + (i 2).val) (sc5 fo)
  carried : Carried fk fv (fun k d => ak k d + (spec fx fk fv fo).DK k d) (fun k d => av k d + (spec fx fk fv fo).DV k d) σ'

/-- The scales of the gradients, from the block scales. -/
theorem scales_at {w : Sp} {a b x y : FVec Ideal S1x1 .f32} (ha : a (ix2 0 0) = (w.so : EReal)) (hb : b (ix2 0 0) = (w.sv : EReal)) (hx : x (ix2 0 0) = (w.sk : EReal)) (hy : y (ix2 0 0) = (w.sq : EReal)) :
    Scales w (mulf (mulf (mulf a b) (broadcast S1x1 (Scalar.ofBits .f32 0x3B800000#32))) (mulf x (broadcast S1x1 (Scalar.ofBits .f32 0x3DB504F3#32))))
      (mulf (mulf (mulf a b) (broadcast S1x1 (Scalar.ofBits .f32 0x3B800000#32))) (mulf y (broadcast S1x1 (Scalar.ofBits .f32 0x3DB504F3#32))))
      (mulf (broadcast S1x1 (Scalar.ofBits .f32 0x3B800000#32)) a) := by
  constructor
  · show ((a (ix2 0 0) * b (ix2 0 0)) * Ideal.ofBits .f32 0x3B800000#32) * (x (ix2 0 0) * Ideal.ofBits .f32 0x3DB504F3#32) = _
    rw [ha, hb, hx, ofBits_inv256, sm_ofBits]; simp only [EReal.coe_mul]
  · show ((a (ix2 0 0) * b (ix2 0 0)) * Ideal.ofBits .f32 0x3B800000#32) * (y (ix2 0 0) * Ideal.ofBits .f32 0x3DB504F3#32) = _
    rw [ha, hb, hy, ofBits_inv256, sm_ofBits]; simp only [EReal.coe_mul]
  · show Ideal.ofBits .f32 0x3B800000#32 * a (ix2 0 0) = _
    rw [ha, ofBits_inv256]; simp only [EReal.coe_mul]

/-- A grid point after its group's first stage. -/
theorem rest_runs (i : grid0.Coords) {σ : St} {ak av : ℕ → ℕ → ℝ} (I : Ins fx fk fv fo σ) (hr : Ranges fx fk fv fo) (K : Carried fk fv ak av σ) :
    ∃ σ', Runs c R (rest R i) σ ⟨⟩ σ' ∧ Left i fx fk fv fo ak av σ σ' ∧ σ'.ks = σ.ks ∧ σ'.vs = σ.vs := by
  have h3 : sub2 σ.kvs 0 0 1 1 inb_S16x128_S1x1_0_0 (ix2 0 0) = (sc4 fk : EReal) := (sub2_apply σ.kvs 0 0 1 1 _ 0 0 0 0 (by simp) (by simp)).trans K.kv.sk
  have h4 : sub2 σ.kvs 8 0 1 1 inb_S16x128_S1x1_8_0 (ix2 0 0) = (sc4 fv : EReal) := (sub2_apply σ.kvs 8 0 1 1 _ 8 0 0 0 (by simp) (by simp)).trans K.kv.sv
  have hq := outS4_at I.xi hr.x
  have ho := outS5_at I.oi hr.o
  have C : Codes (spec fx fk fv fo) (quantSt i σ) := ⟨outC4_at I.xi hr.x, K.kv.kc, K.kv.vc, outC5_at I.oi hr.o, K.kv.kt, K.kv.vt, outT16_at I.xi hr.x, outT5_at I.oi hr.o⟩
  have V := scales_at (w := spec fx fk fv fo) (a := outS5 σ.oi) (b := sub2 σ.kvs 8 0 1 1 inb_S16x128_S1x1_8_0) (x := sub2 σ.kvs 0 0 1 1 inb_S16x128_S1x1_0_0) (y := outS4 σ.xi) ho h4 h3 hq
  obtain ⟨dq', s', pc', ds', dkt', dvt', r, hdq, hdk, hdv⟩ := blocks_all (c := c) (R := R) V h3 hq mask_at (ak := ak) (av := av) C K.dkt K.dvt
  have key : ∀ σ' : St, (Runs c R (if _h2 : k0_cond2 i = 1#1 then last R else pure ⟨⟩) { quantSt i σ with dq := dq', s := s', pc := pc', ds := ds', dkt := dkt', dvt := dvt' } ⟨⟩ σ') →
      Runs c R (rest R i) σ ⟨⟩ σ' := by
    intro σ' hl
    unfold rest
    refine Runs.bind (Runs.ld2 slot27 _ _ _ _ _ _ _) (Runs.bind (Runs.ld2 slot27 _ _ _ _ _ _ _) (Runs.bind (quant_runs i σ) (Runs.bind r hl)))
  have kv : KV fk fv { quantSt i σ with dq := dq', s := s', pc := pc', ds := ds', dkt := dkt', dvt := dvt' } := ⟨K.kv.kc, K.kv.vc, K.kv.kt, K.kv.vt, K.kv.sk, K.kv.sv⟩
  have hqs : SetAt σ.qs (quantSt i σ).qs (i 0).val (4 * (i 1).val + (i 2).val) (sc4 fx) := by
    have := set_word σ.qs (k0_off2 i) (k0_off2_inb i) (outS4 σ.xi) hq
    rw [off2_0, off2_1] at this; exact this
  have hos : SetAt σ.os (quantSt i σ).os (i 0).val (4 * (i 1).val + (i 2).val) (sc5 fo) := by
    have := set_word σ.os (k0_off2 i) (k0_off2_inb i) (outS5 σ.oi) ho
    rw [off2_0, off2_1] at this; exact this
  by_cases h2 : k0_cond2 i = 1#1
  · refine ⟨{ quantSt i σ with dq := dq', s := s', pc := pc', ds := ds', dkt := dkt', dvt := dvt', dk := outG dkt', dv := outG dvt' }, key _ (by rw [dif_pos h2]; exact last_runs { quantSt i σ with dq := dq', s := s', pc := pc', ds := ds', dkt := dkt', dvt := dvt' }), ⟨rfl, rfl, rfl, rfl, hdq, fun _ => outG_at hdk, fun _ => outG_at hdv, C.qc, C.oc, hqs, hos, ⟨⟨kv.kc, kv.vc, kv.kt, kv.vt, kv.sk, kv.sv⟩, hdk, hdv⟩⟩, rfl, rfl⟩
  · have h2' := mt (cond2_iff i).2 h2
    exact ⟨{ quantSt i σ with dq := dq', s := s', pc := pc', ds := ds', dkt := dkt', dvt := dvt' }, key _ (by rw [dif_neg h2]; exact Runs.pure _ _), ⟨rfl, rfl, rfl, rfl, hdq, fun h => absurd h h2', fun h => absurd h h2', C.qc, C.oc, hqs, hos, ⟨kv, hdk, hdv⟩⟩, rfl, rfl⟩

/-- A grid point's body: from its input blocks, and what earlier query heads left, to what it leaves. -/
theorem body_runs (i : grid0.Coords) {σ : St} {ak av : ℕ → ℕ → ℝ} (I : Ins fx fk fv fo σ) (hr : Ranges fx fk fv fo)
    (h0 : (i 2).val = 0 → ak = (fun _ _ => 0) ∧ av = (fun _ _ => 0)) (K : (i 2).val ≠ 0 → Carried fk fv ak av σ) :
    ∃ σ', Runs c R (body R i) σ ⟨⟩ σ' ∧ Left i fx fk fv fo ak av σ σ' ∧
      ((i 2).val ≠ 0 → σ'.ks = σ.ks ∧ σ'.vs = σ.vs) ∧
      ((i 2).val = 0 → SetAt σ.ks σ'.ks (i 0).val (i 1).val (sc4 fk) ∧ SetAt σ.vs σ'.vs (i 0).val (i 1).val (sc4 fv)) := by
  unfold body
  by_cases h1 : k0_cond1 i = 1#1
  · have g0 := (cond1_iff i).1 h1
    obtain ⟨rfl, rfl⟩ := h0 g0
    obtain ⟨σ', r, L, e1, e2⟩ := rest_runs (c := c) (R := R) i (σ := firstSt i h1 σ) ⟨I.xi, I.ki, I.vi, I.oi⟩ hr ⟨firstSt_kv i h1 I.ki I.vi hr.k hr.v, zeros_at, zeros_at⟩
    rw [dif_pos h1]
    refine ⟨σ', Runs.bind (first_runs i h1 σ) r, ⟨L.xi, L.ki, L.vi, L.oi, L.dq, L.dk, L.dv, L.qc, L.oc, L.qs, L.os, L.carried⟩, fun h => absurd g0 h, fun _ => ?_⟩
    have s1 := set_word σ.ks (k0_off1 i) (k0_off1_inb i h1) (outS4 σ.ki) (outS4_at I.ki hr.k)
    have s2 := set_word σ.vs (k0_off1 i) (k0_off1_inb i h1) (outS4 σ.vi) (outS4_at I.vi hr.v)
    rw [off1_0, off1_1] at s1 s2
    exact ⟨e1 ▸ s1, e2 ▸ s2⟩
  · have g0 := mt (cond1_iff i).2 h1
    obtain ⟨σ', r, L, e1, e2⟩ := rest_runs (c := c) (R := R) i I hr (K g0)
    rw [dif_neg h1]
    exact ⟨σ', r, L, fun _ => ⟨e1, e2⟩, fun h => absurd h g0⟩

end

end Cert.KernelIdeal.Loop

end
-- ==== Proof.Track.lean ====
/- One grid point after another: what the kernel's buffers hold before and after each of the 128 points. -/
module

public import proofs.«01_k».proof.Proof.Point

@[expose] public section

noncomputable section

namespace Cert.KernelIdeal.Loop

open Cert.KernelIdeal Cert.KernelIdeal.Gen
open Idealize.ShloMosaic
open Idealize.SL Idealize.SL.Sem

/-- The four inputs as real numbers: batch row, head, row, lane. -/
structure Env where
  x : ℕ → ℕ → ℕ → ℕ → ℝ
  k : ℕ → ℕ → ℕ → ℕ → ℝ
  v : ℕ → ℕ → ℕ → ℕ → ℝ
  o : ℕ → ℕ → ℕ → ℕ → ℝ

/-- The inputs are within the quantisers' range, head by head. -/
def Env.Ok (E : Env) : Prop := ∀ b < 8, ∀ h < 16, Ranges (E.x b h) (E.k b (h / 4)) (E.v b (h / 4)) (E.o b h)

/-- The codes and scales of query head `h` of batch row `b`. -/
def Env.sp (E : Env) (b h : ℕ) : Sp := spec (E.x b h) (E.k b (h / 4)) (E.v b (h / 4)) (E.o b h)

/-- The gradient of the keys summed over the first `g` query heads of a key/value head. -/
def Env.accK (E : Env) (b kv g : ℕ) (r d : ℕ) : ℝ := ∑ j ∈ Finset.range g, (E.sp b (4 * kv + j)).DK r d
/-- The same of the values. -/
def Env.accV (E : Env) (b kv g : ℕ) (r d : ℕ) : ℝ := ∑ j ∈ Finset.range g, (E.sp b (4 * kv + j)).DV r d

/-- The scales of the query heads of the points up to `n` are in place. -/
def Words16 (f : ℕ → ℕ → ℝ) (n : ℕ) (X : S8x16.Idx → EReal) : Prop := ∀ (a : Fin 8) (b : Fin 16), 16 * a.val + b.val ≤ n → X (ix2 a b) = (f a b : EReal)
/-- The scales of the key/value heads of the points up to `n` are in place. -/
def Words4 (f : ℕ → ℕ → ℝ) (n : ℕ) (X : S8x4.Idx → EReal) : Prop := ∀ (a : Fin 8) (b : Fin 4), 16 * a.val + 4 * b.val ≤ n → X (ix2 a b) = (f a b : EReal)

/-- The scratch the query heads of one key/value head share, before head `g`. -/
structure Scr (E : Env) (b kv g : ℕ) (kt : S128x2048.Idx → EReal) (vt : S128x2048.Idx → EReal) (dkt dvt : S128x2048.Idx → EReal) (kvs : S16x128.Idx → EReal) : Prop where
  kt : At2 kt (fun d r => (cd4 (E.k b kv) r d : ℝ))
  vt : At2 vt (fun d r => (cd4 (E.v b kv) r d : ℝ))
  dkt : At2 dkt (fun d r => (E.accK b kv g r d : ℝ))
  dvt : At2 dvt (fun d r => (E.accV b kv g r d : ℝ))
  sk : kvs (ix2 0 0) = (sc4 (E.k b kv) : EReal)
  sv : kvs (ix2 8 0) = (sc4 (E.v b kv) : EReal)

variable {c : Dev nD} {R : Refs} (E : Env)

/-- What the buffers hold before point `n`. -/
structure Before (n : ℕ) (σ : St) : Prop where
  ins : Ins (E.x (n / 16) (n % 16)) (E.k (n / 16) (n % 16 / 4)) (E.v (n / 16) (n % 16 / 4)) (E.o (n / 16) (n % 16)) σ
  kc : n % 4 ≠ 0 → At3 σ.kc (fun _ r d => (cd4 (E.k (n / 16) (n % 16 / 4)) r d : ℝ))
  vc : n % 4 ≠ 0 → At3 σ.vc (fun _ r d => (cd4 (E.v (n / 16) (n % 16 / 4)) r d : ℝ))
  scr : n % 4 ≠ 0 → Scr E (n / 16) (n % 16 / 4) (n % 4) σ.kt σ.vt σ.dkt σ.dvt σ.kvs
  qs : n ≠ 0 → Words16 (fun b h => sc4 (E.x b h)) (n - 1) σ.qs
  os : n ≠ 0 → Words16 (fun b h => sc5 (E.o b h)) (n - 1) σ.os
  ks : n ≠ 0 → Words4 (fun b h => sc4 (E.k b h)) (n - 1) σ.ks
  vs : n ≠ 0 → Words4 (fun b h => sc4 (E.v b h)) (n - 1) σ.vs

/-- What point `n` leaves. -/
structure After (n : ℕ) (σ σ' : St) : Prop where
  xi : σ'.xi = σ.xi
  ki : σ'.ki = σ.ki
  vi : σ'.vi = σ.vi
  oi : σ'.oi = σ.oi
  dq : At3 σ'.dq (fun _ r d => ((E.sp (n / 16) (n % 16)).DQ r d : ℝ))
  dk : n % 4 = 3 → At3 σ'.dk (fun _ r d => (E.accK (n / 16) (n % 16 / 4) 4 r d : ℝ))
  dv : n % 4 = 3 → At3 σ'.dv (fun _ r d => (E.accV (n / 16) (n % 16 / 4) 4 r d : ℝ))
  qc : At3 σ'.qc (fun _ r d => (cd4 (E.x (n / 16) (n % 16)) r d : ℝ))
  qs : Words16 (fun b h => sc4 (E.x b h)) n σ'.qs
  kc : At3 σ'.kc (fun _ r d => (cd4 (E.k (n / 16) (n % 16 / 4)) r d : ℝ))
  ks : Words4 (fun b h => sc4 (E.k b h)) n σ'.ks
  vc : At3 σ'.vc (fun _ r d => (cd4 (E.v (n / 16) (n % 16 / 4)) r d : ℝ))
  vs : Words4 (fun b h => sc4 (E.v b h)) n σ'.vs
  oc : At3 σ'.oc (fun _ r d => (cd5 (E.o (n / 16) (n % 16)) r d : ℝ))
  os : Words16 (fun b h => sc5 (E.o b h)) n σ'.os
  scr : (n + 1) % 4 ≠ 0 → Scr E ((n + 1) / 16) ((n + 1) % 16 / 4) ((n + 1) % 4) σ'.kt σ'.vt σ'.dkt σ'.dvt σ'.kvs

/-- One more word of a table of 16 heads is known. -/
theorem words16_step {f : ℕ → ℕ → ℝ} {n : ℕ} {X X' : S8x16.Idx → EReal} (h : n ≠ 0 → Words16 f (n - 1) X)
    (hs : SetAt X X' (n / 16) (n % 16) (f (n / 16) (n % 16))) : Words16 f n X' := by
  intro a b hab
  rw [hs a b]
  split
  · next h' => rw [h'.1, h'.2]
  · next h' => exact h (by omega) a b (by omega)

/-- One more word of a table of 4 heads is known. -/
theorem words4_step {f : ℕ → ℕ → ℝ} {n : ℕ} {X X' : S8x4.Idx → EReal} (h : n ≠ 0 → Words4 f (n - 1) X)
    (hs : SetAt X X' (n / 16) (n % 16 / 4) (f (n / 16) (n % 16 / 4))) (h0 : n % 4 = 0) : Words4 f n X' := by
  intro a b hab
  rw [hs a b]
  split
  · next h' => rw [h'.1, h'.2]
  · next h' => exact h (by omega) a b (by omega)

/-- Within a group the table of 4 heads is kept. -/
theorem words4_keep {f : ℕ → ℕ → ℝ} {n : ℕ} {X X' : S8x4.Idx → EReal} (h : n ≠ 0 → Words4 f (n - 1) X)
    (hs : X' = X) (h0 : n % 4 ≠ 0) : Words4 f n X' := by
  intro a b hab
  rw [hs]
  exact h (by omega) a b (by omega)

/-- The keys' gradient gains one query head's part. -/
theorem accK_step (n : ℕ) (r d : ℕ) : E.accK (n / 16) (n % 16 / 4) (n % 4) r d + (E.sp (n / 16) (n % 16)).DK r d = E.accK (n / 16) (n % 16 / 4) (n % 4 + 1) r d := by
  unfold Env.accK
  rw [Finset.sum_range_succ, show 4 * (n % 16 / 4) + n % 4 = n % 16 by omega]
/-- The values' gradient gains one query head's part. -/
theorem accV_step (n : ℕ) (r d : ℕ) : E.accV (n / 16) (n % 16 / 4) (n % 4) r d + (E.sp (n / 16) (n % 16)).DV r d = E.accV (n / 16) (n % 16 / 4) (n % 4 + 1) r d := by
  unfold Env.accV
  rw [Finset.sum_range_succ, show 4 * (n % 16 / 4) + n % 4 = n % 16 by omega]

/-- The coordinates of a grid point. -/
theorem coords_at (t : Fin grid0.N) : ((grid0.coords t) 0).val = t.val / 16 ∧ ((grid0.coords t) 1).val = t.val % 16 / 4 ∧ ((grid0.coords t) 2).val = t.val % 4 := by
  have ht : t.val < 128 := lt_of_lt_of_eq t.isLt N_0
  refine ⟨(Pipeline.Grid.coords_val t 0 (S := 16) (B := 8) rfl rfl).trans ?_, (Pipeline.Grid.coords_val t 1 (S := 4) (B := 4) rfl rfl).trans ?_, (Pipeline.Grid.coords_val t 2 (S := 1) (B := 4) rfl rfl).trans ?_⟩ <;> omega

variable {E}

/-- The body at point `t`, from what the points before it left. -/
theorem point_runs (hE : E.Ok) (t : Fin grid0.N) {σ : St} (B : Before E t.val σ) :
    ∃ σ', Runs c R (body R (grid0.coords t)) σ ⟨⟩ σ' ∧ After E t.val σ σ' := by
  have ht : t.val < 128 := lt_of_lt_of_eq t.isLt N_0
  obtain ⟨c0, c1, c2⟩ := coords_at t
  have hr := hE (t.val / 16) (by omega) (t.val % 16) (by omega)
  obtain ⟨σ', r, L, hn, hz⟩ := body_runs (c := c) (R := R) (grid0.coords t) (ak := E.accK (t.val / 16) (t.val % 16 / 4) (t.val % 4)) (av := E.accV (t.val / 16) (t.val % 16 / 4) (t.val % 4)) B.ins hr
    (fun h => by
      rw [c2] at h; rw [h]
      exact ⟨funext fun r => funext fun d => by simp [Env.accK], funext fun r => funext fun d => by simp [Env.accV]⟩)
    (fun h => by
      rw [c2] at h
      exact ⟨⟨B.kc h, B.vc h, (B.scr h).kt, (B.scr h).vt, (B.scr h).sk, (B.scr h).sv⟩, (B.scr h).dkt, (B.scr h).dvt⟩)
  have hK := accK_step E t.val
  have hV := accV_step E t.val
  refine ⟨σ', r, ?_⟩
  have hq := L.qs; have ho := L.os
  rw [c0, c1, c2, show 4 * (t.val % 16 / 4) + t.val % 4 = t.val % 16 by omega] at hq ho
  have hdk := L.carried.dkt
  have hdv := L.carried.dvt
  refine ⟨L.xi, L.ki, L.vi, L.oi, L.dq, fun h => ?_, fun h => ?_, L.qc, words16_step B.qs hq, L.carried.kv.kc, ?_, L.carried.kv.vc, ?_, L.oc, words16_step B.os ho, fun h => ?_⟩
  · intro z a b
    refine (L.dk (c2.trans h) z a b).trans (congrArg _ ?_)
    refine (hK a b).trans ?_; rw [h]
  · intro z a b
    refine (L.dv (c2.trans h) z a b).trans (congrArg _ ?_)
    refine (hV a b).trans ?_; rw [h]
  · by_cases h : t.val % 4 = 0
    · have := (hz (c2.trans h)).1; rw [c0, c1] at this
      exact words4_step B.ks this h
    · exact words4_keep B.ks (hn (by rw [c2]; exact h)).1 h
  · by_cases h : t.val % 4 = 0
    · have := (hz (c2.trans h)).2; rw [c0, c1] at this
      exact words4_step B.vs this h
    · exact words4_keep B.vs (hn (by rw [c2]; exact h)).2 h
  · rw [show (t.val + 1) / 16 = t.val / 16 by omega, show (t.val + 1) % 16 / 4 = t.val % 16 / 4 by omega, show (t.val + 1) % 4 = t.val % 4 + 1 by omega]
    exact ⟨L.carried.kv.kt, L.carried.kv.vt, fun d r => (hdk d r).trans (congrArg _ (hK r d)), fun d r => (hdv d r).trans (congrArg _ (hV r d)), L.carried.kv.sk, L.carried.kv.sv⟩

end Cert.KernelIdeal.Loop

end
-- ==== Proof.InBlocks.lean ====
/- The blocks of the inputs, read off the arrays. -/
module

public import proofs.«01_k».proof.Proof.Track
public import Idealize.ShloMosaic.Lib.Pipeline.ValueKit.Geometry

@[expose] public section

noncomputable section

namespace Cert.KernelIdeal.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

/-! ## The input blocks -/

/-- The block of a query head's window at a grid point. -/
theorem index_q (t : Fin cfg0.N) : (cfg0.win 0).index t = ![t.val / 16, 0, t.val % 16] := by
  revert t; decide +kernel
/-- The block of a key/value head's window at a grid point. -/
theorem index_k (t : Fin cfg0.N) : (cfg0.win 1).index t = ![t.val / 16, 0, t.val % 16 / 4] := by
  revert t; decide +kernel

variable (m : (ℓ : Loc nD τ sig) → Buf (Elt Ideal) ℓ)

/-- An element of a query head's block stands in its array at the batch row, the row, and the lane within the head. -/
theorem emb_q (t : Fin cfg0.N) (z : Fin 1) (r : Fin 2048) (d : Fin 128) :
    (win0_0.rect t).emb (ix3 z r d) = ix3 (n0 := 8) (n1 := 2048) (n2 := 2048) ⟨t.val / 16, by have := lt_of_lt_of_eq t.isLt N_0; omega⟩ r ⟨128 * (t.val % 16) + d.val, by omega⟩ := by
  funext a
  apply Fin.ext
  rw [Pipeline.Window.rect_emb_val win0_0 t (ix3 z r d) a]
  rw [show win0_0.index t = _ from index_q t]
  fin_cases a
  · show t.val / 16 * 1 + z.val = t.val / 16; omega
  · show 0 * 2048 + r.val = r.val; omega
  · show t.val % 16 * 128 + d.val = 128 * (t.val % 16) + d.val; omega

/-- The same of a key/value head's block. -/
theorem emb_k (t : Fin cfg0.N) (z : Fin 1) (r : Fin 2048) (d : Fin 128) :
    (win0_1.rect t).emb (ix3 z r d) = ix3 (n0 := 8) (n1 := 2048) (n2 := 512) ⟨t.val / 16, by have := lt_of_lt_of_eq t.isLt N_0; omega⟩ r ⟨128 * (t.val % 16 / 4) + d.val, by omega⟩ := by
  funext a
  apply Fin.ext
  rw [Pipeline.Window.rect_emb_val win0_1 t (ix3 z r d) a]
  rw [show win0_1.index t = _ from index_k t]
  fin_cases a
  · show t.val / 16 * 1 + z.val = t.val / 16; omega
  · show 0 * 2048 + r.val = r.val; omega
  · show t.val % 16 / 4 * 128 + d.val = 128 * (t.val % 16 / 4) + d.val; omega

/-- An array of heads side by side: batch row, row, then head and lane together. -/
def flat (f : ℕ → ℕ → ℕ → ℕ → ℝ) (b r j : ℕ) : EReal := (f b (j / 128) r (j % 128) : ℝ)

/-- A head's column of an array of heads side by side. -/
theorem flat_at (f : ℕ → ℕ → ℕ → ℕ → ℝ) (b r h : ℕ) (d : Fin 128) : flat f b r (128 * h + d.val) = (f b h r d : ℝ) := by
  unfold flat; rw [show (128 * h + d.val) / 128 = h by omega, show (128 * h + d.val) % 128 = d.val by omega]

/-- The arguments hold the real numbers of `E`. -/
structure Env.In (E : Env) (c : Dev nD) : Prop where
  x : At3 (V m c main_arg0) (flat E.x)
  k : At3 (V m c main_arg1) (flat E.k)
  v : At3 (V m c main_arg2) (flat E.v)
  o : At3 (V m c main_arg3) (flat E.o)

/-- The block of `x` at a grid point. -/
theorem iblk_0 {c : Dev nD} (t : Fin cfg0.N) {f : ℕ → ℕ → ℕ → ℕ → ℝ} (h : At3 (V m c main_arg0) (flat f)) :
    At3 (A := 2048) (B := 128) (Z := 1) (iblk m c 0 t) (fun _ r d => (f (t.val / 16) (t.val % 16) r d : ℝ)) := fun z r d =>
  (congrArg (V m c main_arg0) (emb_q t z r d)).trans ((h _ r _).trans (flat_at f _ _ _ d))
/-- The block of `k` at a grid point. -/
theorem iblk_1 {c : Dev nD} (t : Fin cfg0.N) {f : ℕ → ℕ → ℕ → ℕ → ℝ} (h : At3 (V m c main_arg1) (flat f)) :
    At3 (A := 2048) (B := 128) (Z := 1) (iblk m c 1 t) (fun _ r d => (f (t.val / 16) (t.val % 16 / 4) r d : ℝ)) := fun z r d =>
  (congrArg (V m c main_arg1) (emb_k t z r d)).trans ((h _ r _).trans (flat_at f _ _ _ d))
/-- The block of `v` at a grid point. -/
theorem iblk_2 {c : Dev nD} (t : Fin cfg0.N) {f : ℕ → ℕ → ℕ → ℕ → ℝ} (h : At3 (V m c main_arg2) (flat f)) :
    At3 (A := 2048) (B := 128) (Z := 1) (iblk m c 2 t) (fun _ r d => (f (t.val / 16) (t.val % 16 / 4) r d : ℝ)) := fun z r d =>
  (congrArg (V m c main_arg2) (emb_k t z r d)).trans ((h _ r _).trans (flat_at f _ _ _ d))
/-- The block of `dout` at a grid point. -/
theorem iblk_3 {c : Dev nD} (t : Fin cfg0.N) {f : ℕ → ℕ → ℕ → ℕ → ℝ} (h : At3 (V m c main_arg3) (flat f)) :
    At3 (A := 2048) (B := 128) (Z := 1) (iblk m c 3 t) (fun _ r d => (f (t.val / 16) (t.val % 16) r d : ℝ)) := fun z r d =>
  (congrArg (V m c main_arg3) (emb_q t z r d)).trans ((h _ r _).trans (flat_at f _ _ _ d))

end Cert.KernelIdeal.Loop

end
-- ==== Proof.LoopEq.lean ====
module

public import proofs.«01_k».proof.Proof.Loop

/-!
# The printed body is the loops
-/

@[expose] public section

noncomputable section

namespace Cert.KernelIdeal.Loop

open Cert.KernelIdeal Cert.KernelIdeal.Gen
open Idealize.ShloMosaic
open Idealize.ShloMosaic.TcCoe
open Idealize.SL.Sem

variable {F : FTy → Type} [FloatOps F]

/-- What follows a branch is inside both of its arms. -/
theorem dite_bind {c : Prop} [Decidable c] {α β γ : Type} (t : c → PT F α) (e : ¬ c → PT F α) (g : α → PT F β) (h : β → PT F γ) :
    ((dite c t e >>= g) >>= h) = dite c (fun x => (t x >>= g) >>= h) (fun x => (e x >>= g) >>= h) := by
  split <;> rfl

set_option pp.maxSteps 150 in
/-- The printed body is the loops. -/
theorem body_eq (R : Refs) (i : grid0.Coords) :
    cc0_gqa_bwd (F := F) i R.arg3 R.harg3 R.arg4 R.harg4 R.arg5 R.harg5 R.arg6 R.harg6 R.arg7 R.harg7 R.arg8 R.harg8 R.arg9 R.harg9 R.arg10 R.harg10 R.arg11 R.harg11 R.arg12 R.harg12 R.arg13 R.harg13 R.arg14 R.harg14 R.arg15 R.harg15 R.arg16 R.harg16 R.arg17 R.harg17 R.arg18 R.harg18 R.arg19 R.harg19 R.arg20 R.harg20 R.arg21 R.harg21 R.arg22 R.harg22 R.arg23 R.harg23 R.arg24 R.harg24 R.arg25 R.harg25 R.arg26 R.harg26 R.arg27 R.harg27 = body R i := by
  unfold cc0_gqa_bwd k0_part88 k0_part6
  refine (dite_bind (F := F) _ _ _ _).trans ?_
  chain_rfl

end Cert.KernelIdeal.Loop

end
-- ==== Proof.Pipe.lean ====
/- The kernel's pipeline: what each window's buffer and the scratch hold from point to point, and that the body keeps it. -/
module

public import proofs.«01_k».proof.Proof.InBlocks
public import proofs.«01_k».proof.Proof.LoopEq
public import Idealize.ShloMosaic.Lib.Pipeline.ValueKit.Geometry

@[expose] public section

noncomputable section

namespace Cert.KernelIdeal.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable (m : (ℓ : Loc nD τ sig) → Buf (Elt Ideal) ℓ)

/-! ## The pipeline's proof data -/

variable (E : Env)

/-- What the body leaves in each window's buffer at point `t`. -/
def aft (t : ℕ) : (w : Fin 15) → ((cfg0.win w).block.Idx → Elt Ideal (cfg0.win w).elt) → ((cfg0.win w).block.Idx → Elt Ideal (cfg0.win w).elt) → Prop
  | 0 => fun Y X => X = Y
  | 1 => fun Y X => X = Y
  | 2 => fun Y X => X = Y
  | 3 => fun Y X => X = Y
  | 4 => fun _ X => At3 (Z := 1) (A := 2048) (B := 128) X (fun _ r d => ((E.sp (t / 16) (t % 16)).DQ r d : ℝ))
  | 5 => fun _ X => t % 4 = 3 → At3 (Z := 1) (A := 2048) (B := 128) X (fun _ r d => (E.accK (t / 16) (t % 16 / 4) 4 r d : ℝ))
  | 6 => fun _ X => t % 4 = 3 → At3 (Z := 1) (A := 2048) (B := 128) X (fun _ r d => (E.accV (t / 16) (t % 16 / 4) 4 r d : ℝ))
  | 7 => fun _ X => At3 (Z := 1) (A := 2048) (B := 128) X (fun _ r d => (cd4 (E.x (t / 16) (t % 16)) r d : ℝ))
  | 8 => fun _ X => Words16 (fun b h => sc4 (E.x b h)) t X
  | 9 => fun _ X => At3 (Z := 1) (A := 2048) (B := 128) X (fun _ r d => (cd4 (E.k (t / 16) (t % 16 / 4)) r d : ℝ))
  | 10 => fun _ X => Words4 (fun b h => sc4 (E.k b h)) t X
  | 11 => fun _ X => At3 (Z := 1) (A := 2048) (B := 128) X (fun _ r d => (cd4 (E.v (t / 16) (t % 16 / 4)) r d : ℝ))
  | 12 => fun _ X => Words4 (fun b h => sc4 (E.v b h)) t X
  | 13 => fun _ X => At3 (Z := 1) (A := 2048) (B := 128) X (fun _ r d => (cd5 (E.o (t / 16) (t % 16)) r d : ℝ))
  | 14 => fun _ X => Words16 (fun b h => sc5 (E.o b h)) t X
  | ⟨_ + 15, h⟩ => absurd h (Nat.not_lt.2 (Nat.le_add_left _ _))

/-- The scratch before point `n`, and the generator's register. -/
def Phi (c : Dev nD) (n : ℕ) : sProp 𝕄 :=
  iprop((∃ σ : St, ⌜n % 4 ≠ 0 → Scr E (n / 16) (n % 16 / 4) (n % 4) σ.kt σ.vt σ.dkt σ.dvt σ.kvs⌝ ∗ owns (c : Thread nD τ) (Memref.whole cc0_scratch0) fullShare σ.s ∗ owns (c : Thread nD τ) (Memref.whole cc0_scratch1) fullShare σ.pc ∗ owns (c : Thread nD τ) (Memref.whole cc0_scratch2) fullShare σ.ds ∗ owns (c : Thread nD τ) (Memref.whole cc0_scratch3) fullShare σ.kt ∗ owns (c : Thread nD τ) (Memref.whole cc0_scratch4) fullShare σ.vt ∗ owns (c : Thread nD τ) (Memref.whole cc0_scratch5) fullShare σ.qt ∗ owns (c : Thread nD τ) (Memref.whole cc0_scratch6) fullShare σ.ot ∗ owns (c : Thread nD τ) (Memref.whole cc0_scratch7) fullShare σ.dkt ∗ owns (c : Thread nD τ) (Memref.whole cc0_scratch8) fullShare σ.dvt ∗ owns (c : Thread nD τ) (Memref.whole cc0_scratch9) fullShare σ.kvs) ∗ ∃ r, prngReg c r)

/-- The arrays as launched; what the body leaves is `aft`; the invariant is `Phi`. -/
def rdat (c : Dev nD) : RDat τ (Elt Ideal) Unit ℕ (UR sig nD τ) ℕ cfg0 c where
  A w := V m c (Pipeline.arrRef spec0 w)
  after w t Y X := aft E t.val w Y X
  Φ n := Phi E c n.val
  q _ := fullShare
  owed _ := 0

end Cert.KernelIdeal.Loop

end
-- ==== Proof.Found.lean ====
/- What the body finds in its buffers at a point. -/
module

public import proofs.«01_k».proof.Proof.Pipe
public import Idealize.ShloMosaic.Lib.Pipeline.ValueKit.Geometry

@[expose] public section

noncomputable section

namespace Cert.KernelIdeal.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

section
variable {m : (ℓ : Loc nD τ sig) → Buf (Elt Ideal) ℓ} {E : Env} {c : Dev nD}

/-! ## What the body finds -/

/-- A grid point finds its query head's block of `x`. -/
theorem found_0 (t : Fin cfg0.N) {Y} (hF : (rdat m E c).Finds 0 t Y) : Y = iblk m c 0 t := by
  obtain ⟨d, hd⟩ := (rdat m E c).finds_in_eq_fetched 0 rfl (fun _ _ _ => rfl) (fun _ _ _ h => h) t Y hF
  exact hd
/-- A grid point finds its key/value head's block of `k`. -/
theorem found_1 (t : Fin cfg0.N) {Y} (hF : (rdat m E c).Finds 1 t Y) : Y = iblk m c 1 t := by
  obtain ⟨d, hd⟩ := (rdat m E c).finds_in_eq_fetched 1 rfl (fun _ _ _ => rfl) (fun _ _ _ h => h) t Y hF
  exact hd
/-- A grid point finds its key/value head's block of `v`. -/
theorem found_2 (t : Fin cfg0.N) {Y} (hF : (rdat m E c).Finds 2 t Y) : Y = iblk m c 2 t := by
  obtain ⟨d, hd⟩ := (rdat m E c).finds_in_eq_fetched 2 rfl (fun _ _ _ => rfl) (fun _ _ _ h => h) t Y hF
  exact hd
/-- A grid point finds its query head's block of `dout`. -/
theorem found_3 (t : Fin cfg0.N) {Y} (hF : (rdat m E c).Finds 3 t Y) : Y = iblk m c 3 t := by
  obtain ⟨d, hd⟩ := (rdat m E c).finds_in_eq_fetched 3 rfl (fun _ _ _ => rfl) (fun _ _ _ h => h) t Y hF
  exact hd

/-- The query scales are found as the point before left them. -/
theorem found_8 (t : Fin cfg0.N) (ht : t.val ≠ 0) (hfl : (cfg0.win 8).flush ⟨t.val - 1, Nat.lt_of_le_of_lt (Nat.sub_le _ _) t.isLt⟩ = false) {Y}
    (hF : (rdat m E c).Finds 8 t Y) : ∃ Y', aft E (t.val - 1) 8 Y' Y := by
  rcases ((rdat m E c).finds_of_pos ((cfg0.win 8).fetch_out rfl t) ht Y).mp hF with h | ⟨Y', -, h⟩
  · rw [hfl] at h; exact absurd h Bool.false_ne_true
  · exact ⟨Y', h⟩
/-- The key codes are found as the point before left them, within a group. -/
theorem found_9 (t : Fin cfg0.N) (ht : t.val ≠ 0) (hfl : (cfg0.win 9).flush ⟨t.val - 1, Nat.lt_of_le_of_lt (Nat.sub_le _ _) t.isLt⟩ = false) {Y}
    (hF : (rdat m E c).Finds 9 t Y) : ∃ Y', aft E (t.val - 1) 9 Y' Y := by
  rcases ((rdat m E c).finds_of_pos ((cfg0.win 9).fetch_out rfl t) ht Y).mp hF with h | ⟨Y', -, h⟩
  · rw [hfl] at h; exact absurd h Bool.false_ne_true
  · exact ⟨Y', h⟩
/-- The key scales are found as the point before left them. -/
theorem found_10 (t : Fin cfg0.N) (ht : t.val ≠ 0) (hfl : (cfg0.win 10).flush ⟨t.val - 1, Nat.lt_of_le_of_lt (Nat.sub_le _ _) t.isLt⟩ = false) {Y}
    (hF : (rdat m E c).Finds 10 t Y) : ∃ Y', aft E (t.val - 1) 10 Y' Y := by
  rcases ((rdat m E c).finds_of_pos ((cfg0.win 10).fetch_out rfl t) ht Y).mp hF with h | ⟨Y', -, h⟩
  · rw [hfl] at h; exact absurd h Bool.false_ne_true
  · exact ⟨Y', h⟩
/-- The value codes are found as the point before left them, within a group. -/
theorem found_11 (t : Fin cfg0.N) (ht : t.val ≠ 0) (hfl : (cfg0.win 11).flush ⟨t.val - 1, Nat.lt_of_le_of_lt (Nat.sub_le _ _) t.isLt⟩ = false) {Y}
    (hF : (rdat m E c).Finds 11 t Y) : ∃ Y', aft E (t.val - 1) 11 Y' Y := by
  rcases ((rdat m E c).finds_of_pos ((cfg0.win 11).fetch_out rfl t) ht Y).mp hF with h | ⟨Y', -, h⟩
  · rw [hfl] at h; exact absurd h Bool.false_ne_true
  · exact ⟨Y', h⟩
/-- The value scales are found as the point before left them. -/
theorem found_12 (t : Fin cfg0.N) (ht : t.val ≠ 0) (hfl : (cfg0.win 12).flush ⟨t.val - 1, Nat.lt_of_le_of_lt (Nat.sub_le _ _) t.isLt⟩ = false) {Y}
    (hF : (rdat m E c).Finds 12 t Y) : ∃ Y', aft E (t.val - 1) 12 Y' Y := by
  rcases ((rdat m E c).finds_of_pos ((cfg0.win 12).fetch_out rfl t) ht Y).mp hF with h | ⟨Y', -, h⟩
  · rw [hfl] at h; exact absurd h Bool.false_ne_true
  · exact ⟨Y', h⟩
/-- The scales of the output's gradient are found as the point before left them. -/
theorem found_14 (t : Fin cfg0.N) (ht : t.val ≠ 0) (hfl : (cfg0.win 14).flush ⟨t.val - 1, Nat.lt_of_le_of_lt (Nat.sub_le _ _) t.isLt⟩ = false) {Y}
    (hF : (rdat m E c).Finds 14 t Y) : ∃ Y', aft E (t.val - 1) 14 Y' Y := by
  rcases ((rdat m E c).finds_of_pos ((cfg0.win 14).fetch_out rfl t) ht Y).mp hF with h | ⟨Y', -, h⟩
  · rw [hfl] at h; exact absurd h Bool.false_ne_true
  · exact ⟨Y', h⟩

/-- The state at a point: the windows' buffers and the scratch. -/
def stOf (Y : (w : Fin 15) → (cfg0.win w).block.Idx → Elt Ideal (cfg0.win w).elt) (σ : St) : St :=
  { xi := Y 0, ki := Y 1, vi := Y 2, oi := Y 3, dq := Y 4, dk := Y 5, dv := Y 6, qc := Y 7, qs := Y 8, kc := Y 9, ks := Y 10, vc := Y 11, vs := Y 12, oc := Y 13, os := Y 14, s := σ.s, pc := σ.pc, ds := σ.ds, kt := σ.kt, vt := σ.vt, qt := σ.qt, ot := σ.ot, dkt := σ.dkt, dvt := σ.dvt, kvs := σ.kvs }

/-- What a grid point finds is what its body assumes. -/
theorem before (hin : E.In m c) (t : Fin cfg0.N) (Y : (w : Fin cfg0.W) → (cfg0.win w).block.Idx → Elt Ideal (cfg0.win w).elt)
    (hF : ∀ w, (rdat m E c).Finds w t (Y w)) (σ : St)
    (hs : t.val % 4 ≠ 0 → Scr E (t.val / 16) (t.val % 16 / 4) (t.val % 4) σ.kt σ.vt σ.dkt σ.dvt σ.kvs) : Before E t.val (stOf Y σ) := by
  have ht : t.val < 128 := lt_of_lt_of_eq t.isLt N_0
  have f4 : t.val % 4 ≠ 0 → ¬ (t.val - 1) % 4 = 3 := fun h => by omega
  have f128 : ¬ (t.val - 1) % 128 = 127 := by omega
  have ne : t.val % 4 ≠ 0 → t.val ≠ 0 := fun h => by omega
  have e1 : t.val % 4 ≠ 0 → (t.val - 1) / 16 = t.val / 16 := fun h => by omega
  have e2 : t.val % 4 ≠ 0 → (t.val - 1) % 16 / 4 = t.val % 16 / 4 := fun h => by omega
  refine ⟨⟨?_, ?_, ?_, ?_⟩, fun h => ?_, fun h => ?_, hs, fun h => ?_, fun h => ?_, fun h => ?_, fun h => ?_⟩
  · show At3 (Y 0) _; rw [found_0 t (hF 0)]; exact iblk_0 m t hin.x
  · show At3 (Y 1) _; rw [found_1 t (hF 1)]; exact iblk_1 m t hin.k
  · show At3 (Y 2) _; rw [found_2 t (hF 2)]; exact iblk_2 m t hin.v
  · show At3 (Y 3) _; rw [found_3 t (hF 3)]; exact iblk_3 m t hin.o
  · obtain ⟨_, h'⟩ := found_9 t (ne h) (Bool.eq_false_iff.mpr (mt (flush0_9 _).mp (f4 h))) (hF 9)
    rw [← e1 h, ← e2 h]; exact h'
  · obtain ⟨_, h'⟩ := found_11 t (ne h) (Bool.eq_false_iff.mpr (mt (flush0_11 _).mp (f4 h))) (hF 11)
    rw [← e1 h, ← e2 h]; exact h'
  · exact (found_8 t h (Bool.eq_false_iff.mpr (mt (flush0_8 _).mp f128)) (hF 8)).elim fun _ h' => h'
  · exact (found_14 t h (Bool.eq_false_iff.mpr (mt (flush0_14 _).mp f128)) (hF 14)).elim fun _ h' => h'
  · exact (found_10 t h (Bool.eq_false_iff.mpr (mt (flush0_10 _).mp f128)) (hF 10)).elim fun _ h' => h'
  · exact (found_12 t h (Bool.eq_false_iff.mpr (mt (flush0_12 _).mp f128)) (hF 12)).elim fun _ h' => h'

end

end Cert.KernelIdeal.Loop

end
-- ==== Proof.PipeRefs.lean ====
/- The buffers the body is run on at a point. -/
module

public import proofs.«01_k».proof.Proof.Pipe
public import proofs.«01_k».proof.Proof.LoopEq
public import Idealize.ShloMosaic.Lib.Pipeline.ValueKit.Geometry

@[expose] public section

noncomputable section

namespace Cert.KernelIdeal.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

/-- The buffers at a point. -/
def refsAt (t : Fin cfg0.N) : Refs where
  arg3 := win0_0.stage (cfg0.slots t 0)
  harg3 := hstage0_0 ((cfg0.slots t 0).cast nbuf0_0)
  arg4 := win0_1.stage (cfg0.slots t 1)
  harg4 := hstage0_1 ((cfg0.slots t 1).cast nbuf0_1)
  arg5 := win0_2.stage (cfg0.slots t 2)
  harg5 := hstage0_2 ((cfg0.slots t 2).cast nbuf0_2)
  arg6 := win0_3.stage (cfg0.slots t 3)
  harg6 := hstage0_3 ((cfg0.slots t 3).cast nbuf0_3)
  arg7 := win0_4.stage (cfg0.slots t 4)
  harg7 := hstage0_4 ((cfg0.slots t 4).cast nbuf0_4)
  arg8 := win0_5.stage (cfg0.slots t 5)
  harg8 := hstage0_5 ((cfg0.slots t 5).cast nbuf0_5)
  arg9 := win0_6.stage (cfg0.slots t 6)
  harg9 := hstage0_6 ((cfg0.slots t 6).cast nbuf0_6)
  arg10 := win0_7.stage (cfg0.slots t 7)
  harg10 := hstage0_7 ((cfg0.slots t 7).cast nbuf0_7)
  arg11 := win0_8.stage (cfg0.slots t 8)
  harg11 := hstage0_8 ((cfg0.slots t 8).cast nbuf0_8)
  arg12 := win0_9.stage (cfg0.slots t 9)
  harg12 := hstage0_9 ((cfg0.slots t 9).cast nbuf0_9)
  arg13 := win0_10.stage (cfg0.slots t 10)
  harg13 := hstage0_10 ((cfg0.slots t 10).cast nbuf0_10)
  arg14 := win0_11.stage (cfg0.slots t 11)
  harg14 := hstage0_11 ((cfg0.slots t 11).cast nbuf0_11)
  arg15 := win0_12.stage (cfg0.slots t 12)
  harg15 := hstage0_12 ((cfg0.slots t 12).cast nbuf0_12)
  arg16 := win0_13.stage (cfg0.slots t 13)
  harg16 := hstage0_13 ((cfg0.slots t 13).cast nbuf0_13)
  arg17 := win0_14.stage (cfg0.slots t 14)
  harg17 := hstage0_14 ((cfg0.slots t 14).cast nbuf0_14)
  arg18 := Memref.whole cc0_scratch0
  harg18 := Memref.isWhole_whole _
  arg19 := Memref.whole cc0_scratch1
  harg19 := Memref.isWhole_whole _
  arg20 := Memref.whole cc0_scratch2
  harg20 := Memref.isWhole_whole _
  arg21 := Memref.whole cc0_scratch3
  harg21 := Memref.isWhole_whole _
  arg22 := Memref.whole cc0_scratch4
  harg22 := Memref.isWhole_whole _
  arg23 := Memref.whole cc0_scratch5
  harg23 := Memref.isWhole_whole _
  arg24 := Memref.whole cc0_scratch6
  harg24 := Memref.isWhole_whole _
  arg25 := Memref.whole cc0_scratch7
  harg25 := Memref.isWhole_whole _
  arg26 := Memref.whole cc0_scratch8
  harg26 := Memref.isWhole_whole _
  arg27 := Memref.whole cc0_scratch9
  harg27 := Memref.isWhole_whole _

/-- The body at a grid point is the program with loops at that point's buffers. -/
theorem bodyAt_eq (t : Fin cfg0.N) : bodyAt0 (F := Ideal) t = body (refsAt t) (grid0.coords t) := body_eq (refsAt t) (grid0.coords t)

end Cert.KernelIdeal.Loop

end
-- ==== Proof.Sound.lean ====
/- The kernel's body keeps what its pipeline's proof data say, at every point. -/
module

public import proofs.«01_k».proof.Proof.Found
public import proofs.«01_k».proof.Proof.PipeRefs
public import Idealize.ShloMosaic.Lib.Pipeline.ValueKit.Geometry

@[expose] public section

noncomputable section

namespace Cert.KernelIdeal.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

local notation "𝕄" => MT nD τ sig Unit (Elt Ideal) ℕ (UR sig nD τ) ℕ

variable {m : (ℓ : Loc nD τ sig) → Buf (Elt Ideal) ℓ} {E : Env} {c : Dev nD}

section
/-! ## The body -/

set_option maxHeartbeats 4000000 in
/-- The body keeps what is known from grid point to grid point. -/
theorem sound_body (hE : E.Ok) (hin : E.In m c) (t : Fin cfg0.N) (Y : (w : Fin cfg0.W) → (cfg0.win w).block.Idx → Elt Ideal (cfg0.win w).elt)
    (hF : ∀ w, (rdat m E c).Finds w t (Y w)) :
    iprop(Phi E c t.val ∗ (rdat m E c).owesAt () t.castSucc ∗ owns (c : Thread nD τ) (st0_0 t) fullShare (Y 0) ∗ owns (c : Thread nD τ) (st0_1 t) fullShare (Y 1) ∗ owns (c : Thread nD τ) (st0_2 t) fullShare (Y 2) ∗ owns (c : Thread nD τ) (st0_3 t) fullShare (Y 3) ∗ owns (c : Thread nD τ) (st0_4 t) fullShare (Y 4) ∗ owns (c : Thread nD τ) (st0_5 t) fullShare (Y 5) ∗ owns (c : Thread nD τ) (st0_6 t) fullShare (Y 6) ∗ owns (c : Thread nD τ) (st0_7 t) fullShare (Y 7) ∗ owns (c : Thread nD τ) (st0_8 t) fullShare (Y 8) ∗ owns (c : Thread nD τ) (st0_9 t) fullShare (Y 9) ∗ owns (c : Thread nD τ) (st0_10 t) fullShare (Y 10) ∗ owns (c : Thread nD τ) (st0_11 t) fullShare (Y 11) ∗ owns (c : Thread nD τ) (st0_12 t) fullShare (Y 12) ∗ owns (c : Thread nD τ) (st0_13 t) fullShare (Y 13) ∗ owns (c : Thread nD τ) (st0_14 t) fullShare (Y 14))
      ⊢ wp frame (wpE (defs₀ (F := Ideal)) Variants.none c none) Set.univ (bodyAt0 t)
        (fun _ => iprop(Phi E c (t.val + 1) ∗ (rdat m E c).owesAt () t.castSucc ∗ (∃ X, ⌜aft E t.val 0 (Y 0) X⌝ ∗ owns (c : Thread nD τ) (st0_0 t) fullShare X) ∗ (∃ X, ⌜aft E t.val 1 (Y 1) X⌝ ∗ owns (c : Thread nD τ) (st0_1 t) fullShare X) ∗ (∃ X, ⌜aft E t.val 2 (Y 2) X⌝ ∗ owns (c : Thread nD τ) (st0_2 t) fullShare X) ∗ (∃ X, ⌜aft E t.val 3 (Y 3) X⌝ ∗ owns (c : Thread nD τ) (st0_3 t) fullShare X) ∗ (∃ X, ⌜aft E t.val 4 (Y 4) X⌝ ∗ owns (c : Thread nD τ) (st0_4 t) fullShare X) ∗ (∃ X, ⌜aft E t.val 5 (Y 5) X⌝ ∗ owns (c : Thread nD τ) (st0_5 t) fullShare X) ∗ (∃ X, ⌜aft E t.val 6 (Y 6) X⌝ ∗ owns (c : Thread nD τ) (st0_6 t) fullShare X) ∗ (∃ X, ⌜aft E t.val 7 (Y 7) X⌝ ∗ owns (c : Thread nD τ) (st0_7 t) fullShare X) ∗ (∃ X, ⌜aft E t.val 8 (Y 8) X⌝ ∗ owns (c : Thread nD τ) (st0_8 t) fullShare X) ∗ (∃ X, ⌜aft E t.val 9 (Y 9) X⌝ ∗ owns (c : Thread nD τ) (st0_9 t) fullShare X) ∗ (∃ X, ⌜aft E t.val 10 (Y 10) X⌝ ∗ owns (c : Thread nD τ) (st0_10 t) fullShare X) ∗ (∃ X, ⌜aft E t.val 11 (Y 11) X⌝ ∗ owns (c : Thread nD τ) (st0_11 t) fullShare X) ∗ (∃ X, ⌜aft E t.val 12 (Y 12) X⌝ ∗ owns (c : Thread nD τ) (st0_12 t) fullShare X) ∗ (∃ X, ⌜aft E t.val 13 (Y 13) X⌝ ∗ owns (c : Thread nD τ) (st0_13 t) fullShare X) ∗ (∃ X, ⌜aft E t.val 14 (Y 14) X⌝ ∗ owns (c : Thread nD τ) (st0_14 t) fullShare X))) := by
  rw [bodyAt_eq]
  unfold Phi
  iintro ⟨⟨⟨%σ, %hs, S0, S1, S2, S3, S4, S5, S6, S7, S8, S9⟩, HR⟩, Ho, H0, H1, H2, H3, H4, H5, H6, H7, H8, H9, H10, H11, H12, H13, H14⟩
  obtain ⟨σ', r, A⟩ := point_runs (c := c) (R := refsAt t) hE t (before hin t Y hF σ hs)
  iapply (r _)
  isplitl [H0 H1 H2 H3 H4 H5 H6 H7 H8 H9 H10 H11 H12 H13 H14 S0 S1 S2 S3 S4 S5 S6 S7 S8 S9]
  · unfold own lst
    simp only [sepL]
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    isplitl [S9]; · iexact S9
    iempintro
  unfold own lst
  simp only [sepL]
  iintro ⟨H0, H1, H2, H3, H4, H5, H6, H7, H8, H9, H10, H11, H12, H13, H14, S0, S1, S2, S3, S4, S5, S6, S7, S8, S9, -⟩
  isplitl [S0 S1 S2 S3 S4 S5 S6 S7 S8 S9 HR]
  · isplitl [S0 S1 S2 S3 S4 S5 S6 S7 S8 S9]
    · iexists σ'; isplitr; · ipureintro; exact A.scr
      isplitl [S0]; · iexact S0
      isplitl [S1]; · iexact S1
      isplitl [S2]; · iexact S2
      isplitl [S3]; · iexact S3
      isplitl [S4]; · iexact S4
      isplitl [S5]; · iexact S5
      isplitl [S6]; · iexact S6
      isplitl [S7]; · iexact S7
      isplitl [S8]; · iexact S8
      iexact S9
    iexact HR
  isplitl [Ho]; · iexact Ho
  isplitl [H0]
  · iexists σ'.xi; isplitr; · ipureintro; exact A.xi
    iexact H0
  isplitl [H1]
  · iexists σ'.ki; isplitr; · ipureintro; exact A.ki
    iexact H1
  isplitl [H2]
  · iexists σ'.vi; isplitr; · ipureintro; exact A.vi
    iexact H2
  isplitl [H3]
  · iexists σ'.oi; isplitr; · ipureintro; exact A.oi
    iexact H3
  isplitl [H4]
  · iexists σ'.dq; isplitr; · ipureintro; exact A.dq
    iexact H4
  isplitl [H5]
  · iexists σ'.dk; isplitr; · ipureintro; exact A.dk
    iexact H5
  isplitl [H6]
  · iexists σ'.dv; isplitr; · ipureintro; exact A.dv
    iexact H6
  isplitl [H7]
  · iexists σ'.qc; isplitr; · ipureintro; exact A.qc
    iexact H7
  isplitl [H8]
  · iexists σ'.qs; isplitr; · ipureintro; exact A.qs
    iexact H8
  isplitl [H9]
  · iexists σ'.kc; isplitr; · ipureintro; exact A.kc
    iexact H9
  isplitl [H10]
  · iexists σ'.ks; isplitr; · ipureintro; exact A.ks
    iexact H10
  isplitl [H11]
  · iexists σ'.vc; isplitr; · ipureintro; exact A.vc
    iexact H11
  isplitl [H12]
  · iexists σ'.vs; isplitr; · ipureintro; exact A.vs
    iexact H12
  isplitl [H13]
  · iexists σ'.oc; isplitr; · ipureintro; exact A.oc
    iexact H13
  iexists σ'.os; isplitr; · ipureintro; exact A.os
  iexact H14

/-- The library's body obligation. -/
theorem body_obligation (hE : E.Ok) (hin : E.In m c) : (rdat m E c).BodyObligation (defs₀ (F := Ideal)) Variants.none () Set.univ := by
  intro t Y hF
  rw [bigSep_W0, bigSep_W0, Body.defs₀_row]
  exact sound_body hE hin t Y hF

end
end Cert.KernelIdeal.Loop

end
-- ==== Proof.Outs.lean ====
/- The kernel's run: what every result array holds at the end. -/
module

public import proofs.«01_k».proof.Proof.Sound
public import Idealize.ShloMosaic.Lib.Pipeline.ArrRel

@[expose] public section

noncomputable section

namespace Cert.KernelIdeal.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {m : (ℓ : Loc nD τ sig) → Buf (Elt Ideal) ℓ} (ρ : Dev nD → PrngReg) {E : Dev nD → Env}

/-- Before the first point the scratch holds anything. -/
theorem phi_first (e : Env) (c : Dev nD) : Pipeline.ΦA spec0 c ⊢ Phi e c 0 := by
  unfold Pipeline.ΦA Phi
  rw [Body.scratch_eq]
  iintro ⟨⟨⟨%X0, S0⟩, ⟨%X1, S1⟩, ⟨%X2, S2⟩, ⟨%X3, S3⟩, ⟨%X4, S4⟩, ⟨%X5, S5⟩, ⟨%X6, S6⟩, ⟨%X7, S7⟩, ⟨%X8, S8⟩, ⟨%X9, S9⟩⟩, HR⟩
  isplitl [S0 S1 S2 S3 S4 S5 S6 S7 S8 S9]
  · iexists (⟨fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal), fun _ => (0 : EReal), X0, X1, X2, X3, X4, X5, X6, X7, X8, X9⟩ : St)
    isplitr; · ipureintro; exact fun h => absurd rfl h
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8]; · iexact S8
    iexact S9
  iexact HR

/-- After the last point the scratch is there. -/
theorem phi_last (e : Env) (c : Dev nD) (n : ℕ) : Phi e c n ⊢ Pipeline.ΦA spec0 c := by
  unfold Pipeline.ΦA Phi
  rw [Body.scratch_eq]
  iintro ⟨⟨%σ, -, S0, S1, S2, S3, S4, S5, S6, S7, S8, S9⟩, HR⟩
  isplitl [S0 S1 S2 S3 S4 S5 S6 S7 S8 S9]
  · isplitl [S0]; · iexists _; iexact S0
    isplitl [S1]; · iexists _; iexact S1
    isplitl [S2]; · iexists _; iexact S2
    isplitl [S3]; · iexists _; iexact S3
    isplitl [S4]; · iexists _; iexact S4
    isplitl [S5]; · iexists _; iexact S5
    isplitl [S6]; · iexists _; iexact S6
    isplitl [S7]; · iexists _; iexact S7
    isplitl [S8]; · iexists _; iexact S8
    iexists _; iexact S9
  iexact HR

set_option backward.isDefEq.respectTransparency.types false in
set_option maxHeartbeats 800000 in
/-- The launch. -/
theorem run_main (hE : ∀ c, (E c).Ok) (hI : ∀ c, (E c).In m c) : θ_run defs (onTc (τ := τ) (main (F := Ideal))) (s₀ m ρ)
    (fun r => RDat.FramePost (cfgs 0) (fun c => rdat m (E c) c) (V m) r ∧ r.2.sem = fun _ => 0) :=
  Pipeline.RDat.θ_run_frame_track (Q' := _) cfgs (0 : Fin 1) launch0 defs₀ Variants.none (fun c => rdat m (E c) c) m ρ main
    (hbody := fun c => body_obligation (hE c) (hI c)) (hshare := fun c w => by unfold RDat.share; split <;> rfl)
    (howed := fun _ _ => rfl) (V := V m) (hmain := hmain m Variants.none) (hA := fun _ _ => rfl)
    (hin := fun c => phi_first (E c) c) (hout := fun c => phi_last (E c) c _)

end Cert.KernelIdeal.Loop

end
-- ==== Proof.Arrays.lean ====
/- What every result array holds after the kernel's run. -/
module

public import proofs.«01_k».proof.Proof.Outs
public import Idealize.ShloMosaic.Lib.Pipeline.ArrRel

@[expose] public section

noncomputable section

namespace Cert.KernelIdeal.Loop

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat)

variable {m : (ℓ : Loc nD τ sig) → Buf (Elt Ideal) ℓ} {E : Env} {c : Dev nD}

/-- An array of heads side by side, as a function of the array's index. -/
def arr {A B C : ℕ} (f : ℕ → ℕ → ℕ → ℕ → ℝ) (i : (R3 A B C).Idx) : EReal := flat f (i 0).val (i 1).val (i 2).val

/-- A query head's block of such an array. -/
theorem block_q (t : Fin cfg0.N) {f : ℕ → ℕ → ℕ → ℕ → ℝ} {X : S1x2048x128.Idx → EReal}
    (h : At3 (Z := 1) (A := 2048) (B := 128) X (fun _ r d => (f (t.val / 16) (t.val % 16) r d : ℝ))) (y : S1x2048x128.Idx) :
    X y = arr (A := 8) (B := 2048) (C := 2048) f ((win0_0.rect t).emb y) := by
  obtain ⟨z, r, d, rfl⟩ : ∃ z r d, y = ix3 (n0 := 1) (n1 := 2048) (n2 := 128) z r d := ⟨y 0, y 1, y 2, by funext a; fin_cases a <;> rfl⟩
  exact (h _ _ _).trans ((flat_at f _ _ _ _).symm.trans (congrArg (arr (A := 8) (B := 2048) (C := 2048) f) (emb_q t _ _ _)).symm)

/-- A key/value head's block. -/
theorem block_k (t : Fin cfg0.N) {f : ℕ → ℕ → ℕ → ℕ → ℝ} {X : S1x2048x128.Idx → EReal}
    (h : At3 (Z := 1) (A := 2048) (B := 128) X (fun _ r d => (f (t.val / 16) (t.val % 16 / 4) r d : ℝ))) (y : S1x2048x128.Idx) :
    X y = arr (A := 8) (B := 2048) (C := 512) f ((win0_1.rect t).emb y) := by
  obtain ⟨z, r, d, rfl⟩ : ∃ z r d, y = ix3 (n0 := 1) (n1 := 2048) (n2 := 128) z r d := ⟨y 0, y 1, y 2, by funext a; fin_cases a <;> rfl⟩
  exact (h _ _ _).trans ((flat_at f _ _ _ _).symm.trans (congrArg (arr (A := 8) (B := 2048) (C := 512) f) (emb_k t _ _ _)).symm)

/-- The query heads' blocks cover their array. -/
theorem cover_q (i : S8x2048x2048.Idx) : ∃ (t : Fin cfg0.N) (y : S1x2048x128.Idx), (win0_0.rect t).emb y = i := by
  have h0 : (i 0).val < 8 := (i 0).isLt
  have h2 : (i 2).val < 2048 := (i 2).isLt
  refine ⟨⟨16 * (i 0).val + (i 2).val / 128, lt_of_lt_of_eq (by omega) N_0.symm⟩, ix3 (n0 := 1) (n1 := 2048) (n2 := 128) 0 (i 1) ⟨(i 2).val % 128, by omega⟩, ?_⟩
  refine (emb_q _ _ _ _).trans ?_
  funext a
  fin_cases a
  · exact Fin.ext (show (16 * (i 0).val + (i 2).val / 128) / 16 = (i 0).val by omega)
  · rfl
  · exact Fin.ext (show 128 * ((16 * (i 0).val + (i 2).val / 128) % 16) + (i 2).val % 128 = (i 2).val by omega)

/-- The key/value heads' blocks cover their array, at the last query head of each. -/
theorem cover_k (i : S8x2048x512.Idx) : ∃ (t : Fin cfg0.N) (y : S1x2048x128.Idx), t.val % 4 = 3 ∧ (win0_1.rect t).emb y = i := by
  have h0 : (i 0).val < 8 := (i 0).isLt
  have h2 : (i 2).val < 512 := (i 2).isLt
  refine ⟨⟨16 * (i 0).val + 4 * ((i 2).val / 128) + 3, lt_of_lt_of_eq (by omega) N_0.symm⟩, ix3 (n0 := 1) (n1 := 2048) (n2 := 128) 0 (i 1) ⟨(i 2).val % 128, by omega⟩, by show (16 * (i 0).val + 4 * ((i 2).val / 128) + 3) % 4 = 3; omega, ?_⟩
  refine (emb_k _ _ _ _).trans ?_
  funext a
  fin_cases a
  · exact Fin.ext (show (16 * (i 0).val + 4 * ((i 2).val / 128) + 3) / 16 = (i 0).val by omega)
  · rfl
  · exact Fin.ext (show 128 * ((16 * (i 0).val + 4 * ((i 2).val / 128) + 3) % 16 / 4) + (i 2).val % 128 = (i 2).val by omega)

/-- What the results hold. -/
structure Results (m' : (ℓ : Loc nD τ sig) → Buf (Elt Ideal) ℓ) (E : Env) (c : Dev nD) : Prop where
  dq : m' ((c.tc : Thread nD τ).loc main_v0_0) = arr (A := 8) (B := 2048) (C := 2048) (fun b h => (E.sp b h).DQ)
  dk : m' ((c.tc : Thread nD τ).loc main_v0_1) = arr (A := 8) (B := 2048) (C := 512) (fun b h => E.accK b h 4)
  dv : m' ((c.tc : Thread nD τ).loc main_v0_2) = arr (A := 8) (B := 2048) (C := 512) (fun b h => E.accV b h 4)
  qc : m' ((c.tc : Thread nD τ).loc main_v0_3) = arr (A := 8) (B := 2048) (C := 2048) (fun b h => cd4 (E.x b h))
  qs : At2 (A := 8) (B := 16) (m' ((c.tc : Thread nD τ).loc main_v0_4)) (fun b h => (sc4 (E.x b h) : ℝ))
  kc : m' ((c.tc : Thread nD τ).loc main_v0_5) = arr (A := 8) (B := 2048) (C := 512) (fun b h => cd4 (E.k b h))
  ks : At2 (A := 8) (B := 4) (m' ((c.tc : Thread nD τ).loc main_v0_6)) (fun b h => (sc4 (E.k b h) : ℝ))
  vc : m' ((c.tc : Thread nD τ).loc main_v0_7) = arr (A := 8) (B := 2048) (C := 512) (fun b h => cd4 (E.v b h))
  vs : At2 (A := 8) (B := 4) (m' ((c.tc : Thread nD τ).loc main_v0_8)) (fun b h => (sc4 (E.v b h) : ℝ))
  oc : m' ((c.tc : Thread nD τ).loc main_v0_9) = arr (A := 8) (B := 2048) (C := 2048) (fun b h => cd5 (E.o b h))
  os : At2 (A := 8) (B := 16) (m' ((c.tc : Thread nD τ).loc main_v0_10)) (fun b h => (sc5 (E.o b h) : ℝ))

section
variable {after : (w : Fin 15) → Fin cfg0.N → (cfg0.win w).block.Idx → Elt Ideal (cfg0.win w).elt}
  (hL : ∀ (w : Fin 15) (u : Fin cfg0.N), (cfg0.win w).flush u = true → (rdat m E c).Leaves w u (after w u))
include hL

/-- What a grid point leaves in a window's buffer at a point where the window is written back. -/
theorem leaves_aft (w : Fin 15) (u : Fin cfg0.N) (h : (cfg0.win w).flush u = true) : ∃ Y, aft E u.val w Y (after w u) :=
  (hL w u h).elim fun Y h => ⟨Y, h.2⟩

/-- The queries' gradient, after the last grid point. -/
theorem end_4 : ((rdat m E c).withAfter after).arrAt 4 cfg0.N = arr (A := 8) (B := 2048) (C := 2048) (fun b h => (E.sp b h).DQ) := by
  refine Pipeline.Dat.arrAt_eq_of_cover _ 4 _ (fun t ht => funext fun y => ?_) (fun i => ?_)
  · exact (leaves_aft hL 4 t ht).elim fun _ h => block_q t (f := fun b h => (E.sp b h).DQ) h y
  · obtain ⟨t, y, rfl⟩ := cover_q i
    exact ⟨t, flush0_4 t, ((cfg0.win 4).blk t).view.emb_mem_set y⟩

/-- The query codes, after the last grid point. -/
theorem end_7 : ((rdat m E c).withAfter after).arrAt 7 cfg0.N = arr (A := 8) (B := 2048) (C := 2048) (fun b h => cd4 (E.x b h)) := by
  refine Pipeline.Dat.arrAt_eq_of_cover _ 7 _ (fun t ht => funext fun y => ?_) (fun i => ?_)
  · exact (leaves_aft hL 7 t ht).elim fun _ h => block_q t (f := fun b h => cd4 (E.x b h)) h y
  · obtain ⟨t, y, rfl⟩ := cover_q i
    exact ⟨t, flush0_7 t, ((cfg0.win 7).blk t).view.emb_mem_set y⟩

/-- The codes of the output's gradient, after the last grid point. -/
theorem end_13 : ((rdat m E c).withAfter after).arrAt 13 cfg0.N = arr (A := 8) (B := 2048) (C := 2048) (fun b h => cd5 (E.o b h)) := by
  refine Pipeline.Dat.arrAt_eq_of_cover _ 13 _ (fun t ht => funext fun y => ?_) (fun i => ?_)
  · exact (leaves_aft hL 13 t ht).elim fun _ h => block_q t (f := fun b h => cd5 (E.o b h)) h y
  · obtain ⟨t, y, rfl⟩ := cover_q i
    exact ⟨t, flush0_13 t, ((cfg0.win 13).blk t).view.emb_mem_set y⟩

/-- The keys' gradient, after the last grid point. -/
theorem end_5 : ((rdat m E c).withAfter after).arrAt 5 cfg0.N = arr (A := 8) (B := 2048) (C := 512) (fun b h => E.accK b h 4) := by
  refine Pipeline.Dat.arrAt_eq_of_cover _ 5 _ (fun t ht => funext fun y => ?_) (fun i => ?_)
  · exact (leaves_aft hL 5 t ht).elim fun _ h => block_k t (f := fun b h => E.accK b h 4) (h ((flush0_5 t).mp ht)) y
  · obtain ⟨t, y, h3, rfl⟩ := cover_k i
    exact ⟨t, (flush0_5 t).mpr h3, ((cfg0.win 5).blk t).view.emb_mem_set y⟩

/-- The values' gradient, after the last grid point. -/
theorem end_6 : ((rdat m E c).withAfter after).arrAt 6 cfg0.N = arr (A := 8) (B := 2048) (C := 512) (fun b h => E.accV b h 4) := by
  refine Pipeline.Dat.arrAt_eq_of_cover _ 6 _ (fun t ht => funext fun y => ?_) (fun i => ?_)
  · exact (leaves_aft hL 6 t ht).elim fun _ h => block_k t (f := fun b h => E.accV b h 4) (h ((flush0_6 t).mp ht)) y
  · obtain ⟨t, y, h3, rfl⟩ := cover_k i
    exact ⟨t, (flush0_6 t).mpr h3, ((cfg0.win 6).blk t).view.emb_mem_set y⟩

/-- The key codes, after the last grid point. -/
theorem end_9 : ((rdat m E c).withAfter after).arrAt 9 cfg0.N = arr (A := 8) (B := 2048) (C := 512) (fun b h => cd4 (E.k b h)) := by
  refine Pipeline.Dat.arrAt_eq_of_cover _ 9 _ (fun t ht => funext fun y => ?_) (fun i => ?_)
  · exact (leaves_aft hL 9 t ht).elim fun _ h => block_k t (f := fun b h => cd4 (E.k b h)) h y
  · obtain ⟨t, y, h3, rfl⟩ := cover_k i
    exact ⟨t, (flush0_9 t).mpr h3, ((cfg0.win 9).blk t).view.emb_mem_set y⟩

/-- The value codes, after the last grid point. -/
theorem end_11 : ((rdat m E c).withAfter after).arrAt 11 cfg0.N = arr (A := 8) (B := 2048) (C := 512) (fun b h => cd4 (E.v b h)) := by
  refine Pipeline.Dat.arrAt_eq_of_cover _ 11 _ (fun t ht => funext fun y => ?_) (fun i => ?_)
  · exact (leaves_aft hL 11 t ht).elim fun _ h => block_k t (f := fun b h => cd4 (E.v b h)) h y
  · obtain ⟨t, y, h3, rfl⟩ := cover_k i
    exact ⟨t, (flush0_11 t).mpr h3, ((cfg0.win 11).blk t).view.emb_mem_set y⟩

/-- The query scales, after the last grid point. -/
theorem end_8 : At2 (A := 8) (B := 16) (((rdat m E c).withAfter after).arrAt 8 cfg0.N) (fun b h => (sc4 (E.x b h) : ℝ)) := by
  intro a b
  have hw : (cfg0.win 8).WholeAt ⟨127, by decide⟩ := by decide +kernel
  refine (Pipeline.Dat.arrAt_emb_eq_after_last _ 8 ⟨127, by decide⟩ hw (ix2 a b)).trans ?_
  exact (leaves_aft hL 8 ⟨127, by decide⟩ hw.1).elim fun _ h => h a b (by show _ ≤ 127; omega)

/-- The key scales, after the last grid point. -/
theorem end_10 : At2 (A := 8) (B := 4) (((rdat m E c).withAfter after).arrAt 10 cfg0.N) (fun b h => (sc4 (E.k b h) : ℝ)) := by
  intro a b
  have hw : (cfg0.win 10).WholeAt ⟨127, by decide⟩ := by decide +kernel
  refine (Pipeline.Dat.arrAt_emb_eq_after_last _ 10 ⟨127, by decide⟩ hw (ix2 a b)).trans ?_
  exact (leaves_aft hL 10 ⟨127, by decide⟩ hw.1).elim fun _ h => h a b (by show _ ≤ 127; omega)

/-- The value scales, after the last grid point. -/
theorem end_12 : At2 (A := 8) (B := 4) (((rdat m E c).withAfter after).arrAt 12 cfg0.N) (fun b h => (sc4 (E.v b h) : ℝ)) := by
  intro a b
  have hw : (cfg0.win 12).WholeAt ⟨127, by decide⟩ := by decide +kernel
  refine (Pipeline.Dat.arrAt_emb_eq_after_last _ 12 ⟨127, by decide⟩ hw (ix2 a b)).trans ?_
  exact (leaves_aft hL 12 ⟨127, by decide⟩ hw.1).elim fun _ h => h a b (by show _ ≤ 127; omega)

/-- The scales of the output's gradient, after the last grid point. -/
theorem end_14 : At2 (A := 8) (B := 16) (((rdat m E c).withAfter after).arrAt 14 cfg0.N) (fun b h => (sc5 (E.o b h) : ℝ)) := by
  intro a b
  have hw : (cfg0.win 14).WholeAt ⟨127, by decide⟩ := by decide +kernel
  refine (Pipeline.Dat.arrAt_emb_eq_after_last _ 14 ⟨127, by decide⟩ hw (ix2 a b)).trans ?_
  exact (leaves_aft hL 14 ⟨127, by decide⟩ hw.1).elim fun _ h => h a b (by show _ ≤ 127; omega)

end

/-- The eleven result arrays when the kernel has ended. -/
theorem done {r : PUnit × MemSt nD τ sig (Elt Ideal)} {E : Dev nD → Env} (h : RDat.FramePost (cfgs 0) (fun c => rdat m (E c) c) (V m) r) (c : Dev nD) : Results r.2.mem (E c) c := by
  obtain ⟨after, hL, hA⟩ := h.exists_exact c
  exact ⟨(hA 4).trans (end_4 hL), (hA 5).trans (end_5 hL), (hA 6).trans (end_6 hL), (hA 7).trans (end_7 hL), fun a b => (congrFun (hA 8) (ix2 a b)).trans (end_8 hL a b),
    (hA 9).trans (end_9 hL), fun a b => (congrFun (hA 10) (ix2 a b)).trans (end_10 hL a b), (hA 11).trans (end_11 hL), fun a b => (congrFun (hA 12) (ix2 a b)).trans (end_12 hL a b),
    (hA 13).trans (end_13 hL), fun a b => (congrFun (hA 14) (ix2 a b)).trans (end_14 hL a b)⟩

end Cert.KernelIdeal.Loop

end
-- ==== Proof.RefQuant.lean ====
module

public import proofs.«01_k».proof.Proof.Quant
public import Idealize.ShloMosaic.Lib.Pipeline.Value
public import Idealize.ShloMosaic.PureOps.Ideal.Laws

@[expose] public section

set_option backward.proofsInPublic true

noncomputable section

/-! The reference's quantiser, for `H` heads of 2048 rows and 128 columns in each of 8 batches. -/

namespace Cert.RefQuant

open Idealize.ShloMosaic Cert.KernelIdeal.Loop

/-- The shape of a single word. -/
abbrev S0 : Shape := ⟨0, ![]⟩
/-- The shape of the heads of an input. -/
abbrev T4 (H : ℕ) : Shape := ⟨4, ![8, 2048, H, 128]⟩
/-- The shape of a table of heads. -/
abbrev T2 (H : ℕ) : Shape := ⟨2, ![8, H]⟩
/-- The shape of a table of heads spread over rows and columns. -/
abbrev TB (H : ℕ) : Shape := ⟨4, ![8, 1, H, 1]⟩

variable {H : ℕ}

/-- A constant at every index. -/
theorem splat_at {t : Shape} (h : S0.BroadcastsInDim t (![] : Fin 0 → Fin t.rank)) (x : FVec Ideal S0 .f32) {a : EReal} (hx : ∀ i, x i = a) (i : t.Idx) :
    (broadcastInDim t (![] : Fin 0 → Fin t.rank) h x : FVec Ideal t .f32) i = a :=
  (broadcastInDim_apply _ h x i (fun a => a.elim0) (fun a => a.elim0)).trans (hx _)

/-- A maximum of a list is at most `c` when each of its elements is. -/
theorem foldl_max_le {α : Type*} (l : List α) (f : α → EReal) (b c : EReal) :
    l.foldl (fun r i => max r (f i)) b ≤ c ↔ b ≤ c ∧ ∀ i ∈ l, f i ≤ c := by
  induction l generalizing b with
  | nil => simp
  | cons a l ih => simp [ih, and_assoc]

/-- The host's maximum is at most `c` exactly when the initial value and every element it runs over are. -/
theorem hostMax_le {s t u : Shape} {axes : List (Fin s.rank)} (x : s.Idx → EReal) (init : u.Idx → EReal) (h : s.ReducesTo axes t) (hu : 0 < u.numel) (j : t.Idx) (c : EReal) :
    Host.reduce (FloatOps.maximumf (F := Ideal) (φ := .f32)) x init h hu j ≤ c ↔ init (Shape.Idx.first hu) ≤ c ∧ ∀ i, h.drop i = j → x i ≤ c := by
  rw [Host.reduce_eq_foldl]
  refine (foldl_max_le _ x _ c).trans (and_congr_right fun _ => ⟨fun H i hi => H i ?_, fun H i hi => H i ?_⟩)
  · refine List.mem_filter.2 ⟨List.mem_map.2 ⟨s.rowMajor i, List.mem_finRange _, Equiv.symm_apply_apply _ _⟩, by simpa using hi⟩
  · simpa using (List.mem_filter.1 hi).2

/-- The maximum of two reals. -/
theorem coe_max (x y : ℝ) : ((max x y : ℝ) : EReal) = max (x : EReal) y := EReal.coe_strictMono.monotone.map_max
/-- The minimum of two reals. -/
theorem coe_min (x y : ℝ) : ((min x y : ℝ) : EReal) = min (x : EReal) y := EReal.coe_strictMono.monotone.map_min

/-- The word of minus infinity. -/
theorem ninf : Ideal.ofBits .f32 0xFF800000#32 = ⊥ := by
  simp [Ideal.ofBits, Ideal.ieee]

/-- The word of two. -/
theorem two : Ideal.ofBits .f32 0x40000000#32 = ((2 : ℝ) : EReal) := by
  simp [Ideal.ofBits, Ideal.ieee, ← EReal.coe_mul]; norm_num

/-- The word of one. -/
theorem one : Ideal.ofBits .f32 0x3F800000#32 = ((1 : ℝ) : EReal) := by
  simp [Ideal.ofBits, Ideal.ieee, ← EReal.coe_mul]; norm_num

/-- The word of zero. -/
theorem zero : Ideal.ofBits .f32 0x00000000#32 = ((0 : ℝ) : EReal) := by
  simp [Ideal.ofBits, Ideal.ieee]

/-- A tensor of heads holds the reals `f`: batch, head, row, column. -/
def Heads (t : (T4 H).Idx → EReal) (f : ℕ → ℕ → ℕ → ℕ → ℝ) : Prop :=
  ∀ i, t i = ((f (i 0).val (i 2).val (i 1).val (i 3).val : ℝ) : EReal)

/-- The largest magnitude of each head. -/
theorem amax_heads {t : FVec Ideal (T4 H) .f32} {f : ℕ → ℕ → ℕ → ℕ → ℝ} (ht : Heads t f) (h : (T4 H).ReducesTo [1, 3] (T2 H)) (hu : 0 < S0.numel) (j : (T2 H).Idx) :
    Host.reduce FloatOps.maximumf (Host.absf t) (constant S0 .f32 0xFF800000#32) h hu j = ((big (f (j 0).val (j 1).val) : ℝ) : EReal) := by
  have ha : ∀ i, Host.absf t i = ((|f (i 0).val (i 2).val (i 1).val (i 3).val| : ℝ) : EReal) := fun i => by
    show max (t i) (-(t i)) = _
    rw [ht i, ← EReal.coe_neg, ← coe_max]; rfl
  have hd : ∀ i : (T4 H).Idx, h.drop i = j → i 0 = j 0 ∧ i 2 = j 1 := fun i e => by
    subst e
    exact ⟨Fin.ext (Shape.ReducesTo.drop_apply_val_of_eq h i 0 0 (show 0 < 2 by decide) rfl).symm, Fin.ext (Shape.ReducesTo.drop_apply_val_of_eq h i 1 2 (show 1 < 2 by decide) rfl).symm⟩
  apply le_antisymm
  · refine (hostMax_le _ _ h hu j _).2 ⟨by show Ideal.ofBits .f32 0xFF800000#32 ≤ _; rw [ninf]; exact bot_le, fun i e => ?_⟩
    rw [ha, (hd i e).1, (hd i e).2]
    exact EReal.coe_le_coe_iff.2 (le_big _ (i 1).isLt (i 3).isLt)
  · refine big_le _ fun r hr d hd' => ?_
    refine le_trans (le_of_eq ?_) (((hostMax_le _ _ h hu j _).1 le_rfl).2 (fun a => match a with | ⟨0, _⟩ => j 0 | ⟨1, _⟩ => ⟨r, hr⟩ | ⟨2, _⟩ => j 1 | ⟨3, _⟩ => ⟨d, hd'⟩) ?_)
    · exact (ha (fun a => match a with | ⟨0, _⟩ => j 0 | ⟨1, _⟩ => ⟨r, hr⟩ | ⟨2, _⟩ => j 1 | ⟨3, _⟩ => ⟨d, hd'⟩)).symm
    · funext b
      match b with
      | ⟨0, _⟩ => exact Fin.ext (Shape.ReducesTo.drop_apply_val_of_eq h _ 0 0 (show 0 < 2 by decide) rfl)
      | ⟨1, _⟩ => exact Fin.ext (Shape.ReducesTo.drop_apply_val_of_eq h _ 1 2 (show 1 < 2 by decide) rfl)

/-- The exponent as the reference computes it. -/
def expoH (r : BitVec 32) (a : FVec Ideal (T2 H) .f32) (hb : S0.BroadcastsInDim (T2 H) (![] : Fin 0 → Fin (T2 H).rank)) : FVec Ideal (T2 H) .f32 :=
  select (cmpf .oeq a (broadcastInDim (T2 H) ![] hb (constant S0 .f32 0x00000000#32)))
    (broadcastInDim (T2 H) ![] hb (id (constant S0 .f32 0x00000000#32)))
    (addf (Host.floor (Host.divf (Host.log (mulf a (broadcastInDim (T2 H) ![] hb (constant S0 .f32 r)))) (broadcastInDim (T2 H) ![] hb (Host.log (constant S0 .f32 0x40000000#32)))))
      (broadcastInDim (T2 H) ![] hb (constant S0 .f32 0x3F800000#32)))

/-- Two to the exponent. -/
def powH (e : FVec Ideal (T2 H) .f32) (hb : S0.BroadcastsInDim (T2 H) (![] : Fin 0 → Fin (T2 H).rank)) : FVec Ideal (T2 H) .f32 :=
  Host.powf (broadcastInDim (T2 H) ![] hb (constant S0 .f32 0x40000000#32)) e

/-- The codes. -/
def codesH (lo hi : BitVec 32) (t : FVec Ideal (T4 H) .f32) (e : FVec Ideal (T2 H) .f32) (hb : S0.BroadcastsInDim (T2 H) (![] : Fin 0 → Fin (T2 H).rank))
    (h4 : S0.BroadcastsInDim (T4 H) (![] : Fin 0 → Fin (T4 H).rank)) (h2B : (T2 H).BroadcastsInDim (TB H) ![0, 2]) (hB4 : (TB H).BroadcastsInDim (T4 H) ![0, 1, 2, 3]) : FVec Ideal (T4 H) .f32 :=
  minimumf (broadcastInDim (T4 H) ![] h4 (id (constant S0 .f32 hi))) (maximumf (broadcastInDim (T4 H) ![] h4 (id (constant S0 .f32 lo)))
    (mulf t (broadcastInDim (T4 H) ![0, 1, 2, 3] hB4 (broadcastInDim (TB H) ![0, 2] h2B (powH (Host.negf e) hb)))))

/-- The exponent is the one the kernel finds. -/
theorem expoH_at {r : BitVec 32} {rc a : ℝ} (hr : Ideal.ofBits .f32 r = (rc : EReal)) (h0 : 0 < rc) (ha : 0 ≤ a) {A : FVec Ideal (T2 H) .f32} (hb) (j : (T2 H).Idx) (hA : A j = (a : EReal)) :
    expoH r A hb j = (((expOf (a * rc) : ℤ) : ℝ) : EReal) := by
  have e : expoH r A hb j = Scalar.select (FloatOps.cmpf (F := Ideal) (φ := .f32) .oeq (a : EReal) ((0 : ℝ) : EReal)) ((0 : ℝ) : EReal)
      (Ideal.liftRound Int.floor (Ideal.div (Ideal.log ((a : EReal) * (rc : EReal))) (Ideal.log ((2 : ℝ) : EReal))) + ((1 : ℝ) : EReal)) := by
    have c0 := splat_at hb (constant S0 .f32 0x00000000#32) (fun _ => zero) j
    have c0' := splat_at hb (id (constant S0 .f32 0x00000000#32)) (fun _ => zero) j
    have c1 := splat_at hb (constant S0 .f32 0x3F800000#32) (fun _ => one) j
    have cr := splat_at hb (constant S0 .f32 r) (fun _ => hr) j
    have cl := splat_at hb (Host.log (constant (F := Ideal) S0 .f32 0x40000000#32)) (fun _ => congrArg Ideal.log two) j
    refine Eq.trans (b := (Scalar.select (FloatOps.cmpf (F := Ideal) (φ := .f32) .oeq (A j) _) _
      (Ideal.liftRound Int.floor (Ideal.div (Ideal.log (A j * _)) _) + _) : EReal)) rfl ?_
    rw [c0, c0', c1, cr, cl, hA]
  rw [e]
  rcases eq_or_lt_of_le ha with rfl | hp
  · rw [zero_mul, expOf, if_pos rfl]
    simp [Scalar.select, FloatOps.cmpf, Ideal.cmp]
  · have hy : 0 < a * rc := mul_pos hp h0
    rw [expOf, if_neg hy.ne', ← EReal.coe_mul]
    have hl : Ideal.log ((a * rc : ℝ) : EReal) = ((Real.log (a * rc) : ℝ) : EReal) := by rw [Ideal.log_coe, if_neg (not_le.2 hy)]
    have hl2 : Ideal.log ((2 : ℝ) : EReal) = ((Real.log 2 : ℝ) : EReal) := by rw [Ideal.log_coe, if_neg (by norm_num)]
    have hn : Real.log 2 ≠ 0 := (Real.log_pos (by norm_num)).ne'
    rw [hl, hl2]
    have hdv : Ideal.div ((Real.log (a * rc) : ℝ) : EReal) ((Real.log 2 : ℝ) : EReal) = ((Real.log (a * rc) / Real.log 2 : ℝ) : EReal) := by rw [Ideal.div_coe hn, ← EReal.coe_mul]; congr 1; ring
    rw [hdv]
    rw [Ideal.liftRound_coe]
    simp [Scalar.select, FloatOps.cmpf, Ideal.cmp, lg, hp.ne']

/-- Two to an integer exponent. -/
theorem powH_at {e : FVec Ideal (T2 H) .f32} (hb) (j : (T2 H).Idx) {n : ℤ} (he : e j = ((n : ℝ) : EReal)) : powH e hb j = (((2 : ℝ) ^ n : ℝ) : EReal) := by
  unfold powH
  refine (congrArg₂ Ideal.pow (splat_at hb (constant S0 .f32 0x40000000#32) (fun _ => two) j) he).trans ?_
  show ((Real.rpow 2 (n : ℝ) : ℝ) : EReal) = _
  rw [← Real.rpow_intCast]; rfl

/-- The codes are the clipped multiples. -/
theorem codesH_at {lo hi : BitVec 32} {l u : ℝ} (hl : Ideal.ofBits .f32 lo = (l : EReal)) (hh : Ideal.ofBits .f32 hi = (u : EReal))
    {t : FVec Ideal (T4 H) .f32} {f : ℕ → ℕ → ℕ → ℕ → ℝ} (ht : Heads t f) {e : FVec Ideal (T2 H) .f32} {n : ℕ → ℕ → ℤ} (he : ∀ j, e j = ((n (j 0).val (j 1).val : ℝ) : EReal)) (hb h4 h2B hB4) :
    Heads (codesH lo hi t e hb h4 h2B hB4) (fun b h r d => clipTo l u ((2 : ℝ) ^ (-n b h)) (f b h r d)) := by
  intro i
  have hs : broadcastInDim (T4 H) ![0, 1, 2, 3] hB4 (broadcastInDim (TB H) ![0, 2] h2B (powH (Host.negf e) hb)) i = (((2 : ℝ) ^ (-n (i 0).val (i 2).val) : ℝ) : EReal) := by
    refine (broadcastInDim_apply _ hB4 _ i (fun a => match a with | ⟨0, _⟩ => i 0 | ⟨1, _⟩ => (0 : Fin 1) | ⟨2, _⟩ => i 2 | ⟨3, _⟩ => (0 : Fin 1)) (fun a => ?_)).trans ?_
    · match a with
      | ⟨0, _⟩ => rfl
      | ⟨1, _⟩ => rfl
      | ⟨2, _⟩ => show (i 2).val = if H = 1 then 0 else (i 2).val; have : (i 2).val < H := (i 2).isLt; split_ifs <;> omega
      | ⟨3, _⟩ => rfl
    · refine (broadcastInDim_apply _ h2B _ _ (fun a => match a with | ⟨0, _⟩ => i 0 | ⟨1, _⟩ => i 2) (fun a => ?_)).trans ?_
      · match a with
        | ⟨0, _⟩ => rfl
        | ⟨1, _⟩ => show (i 2).val = if H = 1 then 0 else (i 2).val; have : (i 2).val < H := (i 2).isLt; split_ifs <;> omega
      · refine powH_at hb _ ?_
        show -(e _) = _
        rw [he, ← EReal.coe_neg]; push_cast; rfl
  unfold codesH
  refine (congrArg₂ min (splat_at h4 (id (constant S0 .f32 hi)) (fun _ => hh) i) (congrArg₂ max (splat_at h4 (id (constant S0 .f32 lo)) (fun _ => hl) i) (congrArg₂ (· * ·) (ht i) hs))).trans ?_
  show min _ (max _ (_ * _)) = _
  rw [← EReal.coe_mul, ← coe_max, ← coe_min]
  rfl

end Cert.RefQuant

end
-- ==== Proof.RefHeads.lean ====
module

public import proofs.«01_k».proof.Proof.Gen.ReferenceIdeal.Read
public import proofs.«01_k».proof.Proof.RefQuant
public import proofs.«01_k».proof.Proof.Arrays

@[expose] public section

set_option backward.proofsInPublic true

noncomputable section

/-! The reference's scales and codes of the four inputs. -/

namespace Cert.ReferenceIdeal.Heads

open Cert.ReferenceIdeal Cert.ReferenceIdeal.Gen Cert.ReferenceIdeal.Read Idealize.ShloMosaic Cert.RefQuant
open Cert.KernelIdeal.Loop (arr flat exp4 exp5 sc4 sc5 cd4 cd5 rc4 rc5 big_nonneg ofBits_rc4 ofBits_rc5 ofBits_lo4 ofBits_hi4 ofBits_lo5 ofBits_hi5 expOf big clipTo)

/-- The e4m3 reciprocal is positive. -/
theorem rc4_pos : 0 < rc4 := by unfold rc4; positivity
/-- The e5m2 reciprocal is positive. -/
theorem rc5_pos : 0 < rc5 := by unfold rc5; positivity

/-- Splitting the columns of an array into 16 heads. -/
theorem split16 (f : ℕ → ℕ → ℕ → ℕ → ℝ) : Heads (H := 16) (val_main_v28 (F := Ideal) (arr f)) f := by
  intro i
  have h0 : (i 0).val < 8 := (i 0).isLt
  have h1 : (i 1).val < 2048 := (i 1).isLt
  have h2 : (i 2).val < 16 := (i 2).isLt
  have h3 : (i 3).val < 128 := (i 3).isLt
  refine (val_main_v27_apply (F := Ideal) (arr f) i).trans ?_
  show ((f _ _ _ _ : ℝ) : EReal) = _
  congr 2 <;> simp only [idx_main_v27] <;> omega

/-- Splitting the columns of an array into 4 heads. -/
theorem split4 (f : ℕ → ℕ → ℕ → ℕ → ℝ) : Heads (H := 4) (val_main_v53 (F := Ideal) (arr f)) f := by
  intro i
  have h0 : (i 0).val < 8 := (i 0).isLt
  have h1 : (i 1).val < 2048 := (i 1).isLt
  have h2 : (i 2).val < 4 := (i 2).isLt
  have h3 : (i 3).val < 128 := (i 3).isLt
  refine (val_main_v52_apply (F := Ideal) (arr f) i).trans ?_
  show ((f _ _ _ _ : ℝ) : EReal) = _
  congr 2 <;> simp only [idx_main_v52] <;> omega

variable (f : ℕ → ℕ → ℕ → ℕ → ℝ)

/-- The exponents of the query scales. -/
theorem q_exp (j : S8x16.Idx) : val_main_v42 (F := Ideal) (arr f) j = ((exp4 (f (j 0).val (j 1).val) : ℝ) : EReal) :=
  expoH_at (H := 16) ofBits_rc4 rc4_pos (big_nonneg _) _ j (amax_heads (split16 f) _ _ j)
/-- The query scales. -/
theorem q_scale (j : S8x16.Idx) : val_main_v44 (F := Ideal) (arr f) j = ((sc4 (f (j 0).val (j 1).val) : ℝ) : EReal) :=
  powH_at (H := 16) _ j (q_exp f j)
/-- The query codes. -/
theorem q_codes : Heads (H := 16) (val_main_v51 (F := Ideal) (arr f)) (fun b h => cd4 (f b h)) :=
  codesH_at (H := 16) ofBits_lo4 ofBits_hi4 (split16 f) (n := fun b h => exp4 (f b h)) (q_exp f) _ _ _ _

/-- The exponents of the key scales. -/
theorem k_exp (j : S8x4.Idx) : val_main_v67 (F := Ideal) (arr f) j = ((exp4 (f (j 0).val (j 1).val) : ℝ) : EReal) :=
  expoH_at (H := 4) ofBits_rc4 rc4_pos (big_nonneg _) _ j (amax_heads (split4 f) _ _ j)
/-- The key scales. -/
theorem k_scale (j : S8x4.Idx) : val_main_v69 (F := Ideal) (arr f) j = ((sc4 (f (j 0).val (j 1).val) : ℝ) : EReal) :=
  powH_at (H := 4) _ j (k_exp f j)
/-- The key codes. -/
theorem k_codes : Heads (H := 4) (val_main_v76 (F := Ideal) (arr f)) (fun b h => cd4 (f b h)) :=
  codesH_at (H := 4) ofBits_lo4 ofBits_hi4 (split4 f) (n := fun b h => exp4 (f b h)) (k_exp f) _ _ _ _

/-- The value scales, by the same operations as the keys'. -/
theorem v_scale (j : S8x4.Idx) : val_main_v94 (F := Ideal) (arr f) j = ((sc4 (f (j 0).val (j 1).val) : ℝ) : EReal) := k_scale f j
/-- The value codes, by the same operations as the keys'. -/
theorem v_codes : Heads (H := 4) (val_main_v101 (F := Ideal) (arr f)) (fun b h => cd4 (f b h)) := k_codes f

/-- Joining 16 heads' columns. -/
theorem join16 {t : FVec Ideal S8x2048x16x128 .f32} {g : ℕ → ℕ → ℕ → ℕ → ℝ} (h : Heads (H := 16) t g) : shapeCast S8x2048x2048 t shapeCasts_S8x2048x16x128_S8x2048x2048 = arr g := by
  funext i
  have h0 : (i 0).val < 8 := (i 0).isLt
  have h1 : (i 1).val < 2048 := (i 1).isLt
  have h2 : (i 2).val < 2048 := (i 2).isLt
  refine (shapeCast_apply t shapeCasts_S8x2048x16x128_S8x2048x2048 i (idx_main_v193 i) ?_).trans ((h _).trans ?_)
  · rewrite [Shape.rowMajor_val_four, Shape.rowMajor_val_three]
    show (((((i 0).val * 2048 + (i 1).val) * 2048 + (i 2).val) / 4194304 * 2048 + (((i 0).val * 2048 + (i 1).val) * 2048 + (i 2).val) / 2048 % 2048) * 16 + (((i 0).val * 2048 + (i 1).val) * 2048 + (i 2).val) / 128 % 16) * 128 + (((i 0).val * 2048 + (i 1).val) * 2048 + (i 2).val) % 128 = ((i 0).val * 2048 + (i 1).val) * 2048 + (i 2).val
    omega
  · show ((g _ _ _ _ : ℝ) : EReal) = ((g _ _ _ _ : ℝ) : EReal)
    congr 2 <;> simp only [idx_main_v193] <;> omega

/-- Joining 4 heads' columns. -/
theorem join4 {t : FVec Ideal S8x2048x4x128 .f32} {g : ℕ → ℕ → ℕ → ℕ → ℝ} (h : Heads (H := 4) t g) : shapeCast S8x2048x512 t shapeCasts_S8x2048x4x128_S8x2048x512 = arr g := by
  funext i
  have h0 : (i 0).val < 8 := (i 0).isLt
  have h1 : (i 1).val < 2048 := (i 1).isLt
  have h2 : (i 2).val < 512 := (i 2).isLt
  refine (shapeCast_apply t shapeCasts_S8x2048x4x128_S8x2048x512 i (idx_main_v195 i) ?_).trans ((h _).trans ?_)
  · rewrite [Shape.rowMajor_val_four, Shape.rowMajor_val_three]
    show (((((i 0).val * 2048 + (i 1).val) * 512 + (i 2).val) / 1048576 * 2048 + (((i 0).val * 2048 + (i 1).val) * 512 + (i 2).val) / 512 % 2048) * 4 + (((i 0).val * 2048 + (i 1).val) * 512 + (i 2).val) / 128 % 4) * 128 + (((i 0).val * 2048 + (i 1).val) * 512 + (i 2).val) % 128 = ((i 0).val * 2048 + (i 1).val) * 512 + (i 2).val
    omega
  · show ((g _ _ _ _ : ℝ) : EReal) = ((g _ _ _ _ : ℝ) : EReal)
    congr 2 <;> simp only [idx_main_v195] <;> omega

/-- The query codes as a result. -/
theorem q_out : val_main_v194 (F := Ideal) (arr (A := 8) (B := 2048) (C := 2048) f) = arr (A := 8) (B := 2048) (C := 2048) (fun b h => cd4 (f b h)) := by
  funext i
  refine (val_main_v194_apply (F := Ideal) _ i).trans ?_
  exact congrFun (join16 (q_codes f)) i
/-- The key codes as a result. -/
theorem k_out : val_main_v196 (F := Ideal) (arr (A := 8) (B := 2048) (C := 512) f) = arr (A := 8) (B := 2048) (C := 512) (fun b h => cd4 (f b h)) := by
  funext i
  refine (val_main_v196_apply (F := Ideal) _ i).trans ?_
  exact congrFun (join4 (k_codes f)) i
/-- The value codes as a result. -/
theorem v_out : val_main_v198 (F := Ideal) (arr (A := 8) (B := 2048) (C := 512) f) = arr (A := 8) (B := 2048) (C := 512) (fun b h => cd4 (f b h)) := by
  funext i
  refine (val_main_v198_apply (F := Ideal) _ i).trans ?_
  exact congrFun (join4 (v_codes f)) i

end Cert.ReferenceIdeal.Heads

end
-- ==== Proof.RefDout.lean ====
module

public import proofs.«01_k».proof.Proof.RefHeads

@[expose] public section

set_option backward.proofsInPublic true

noncomputable section

/-! The reference's scales and codes of `dout`, which it computes first. -/

namespace Cert.ReferenceIdeal.Heads

open Cert.ReferenceIdeal Cert.ReferenceIdeal.Gen Cert.ReferenceIdeal.Read Cert.ReferenceIdeal.Value Idealize.ShloMosaic Idealize.ShloMosaic.TcCoe Cert.RefQuant Idealize.SL.Sem Idealize.ShloMosaic.StableHlo
open Cert.KernelIdeal.Loop (arr flat exp4 exp5 sc4 sc5 cd4 cd5 rc4 rc5 big_nonneg ofBits_rc4 ofBits_rc5 ofBits_lo4 ofBits_hi4 ofBits_lo5 ofBits_hi5 expOf big clipTo)

variable {m : (ℓ : Loc nD τ sig) → Buf (Elt Ideal) ℓ} {c : Dev nD} {f : ℕ → ℕ → ℕ → ℕ → ℝ}

/-- Splitting the columns of `dout` into heads. -/
theorem split_o (h : m ((c.tc : Thread nD τ).loc main_arg3) = arr (A := 8) (B := 2048) (C := 2048) f) :
    Heads (H := 16) (extf .f32 (shapeCast S8x2048x16x128 (m ((c.tc : Thread nD τ).loc main_arg3)) shapeCasts_S8x2048x2048_S8x2048x16x128) bitsLt_bf16_f32 : FVec Ideal S8x2048x16x128 .f32) f := by
  rw [h]; exact split16 f

/-- The scales of the output's gradient. -/
theorem o_scale (h : m ((c.tc : Thread nD τ).loc main_arg3) = arr (A := 8) (B := 2048) (C := 2048) f) (j : S8x16.Idx) :
    exitV m c (Proc.devRef .tc main_v17) j = ((sc5 (f (j 0).val (j 1).val) : ℝ) : EReal) := by
  rw [exit_main_v17]
  exact powH_at (H := 16) _ j (expoH_at (H := 16) ofBits_rc5 rc5_pos (big_nonneg _) _ j (amax_heads (split_o h) _ _ j))

/-- The codes of the output's gradient. -/
theorem o_codes (h : m ((c.tc : Thread nD τ).loc main_arg3) = arr (A := 8) (B := 2048) (C := 2048) f) :
    Heads (H := 16) (exitV m c (Proc.devRef .tc main_v24)) (fun b h => cd5 (f b h)) := by
  rw [exit_main_v24]
  exact codesH_at (H := 16) ofBits_lo5 ofBits_hi5 (split_o h) (n := fun b h => exp5 (f b h))
    (fun j => expoH_at (H := 16) ofBits_rc5 rc5_pos (big_nonneg _) _ j (amax_heads (split_o h) _ _ j)) _ _ _ _

set_option maxRecDepth 8192 in
set_option maxHeartbeats 2000000 in
/-- What the region finds in its operand: the codes with the heads' columns joined. -/
theorem entry_v25 : Gen.V0 m c (Proc.devRef .tc main_v25) = shapeCast S8x2048x2048 (exitV m c (Proc.devRef .tc main_v24)) shapeCasts_S8x2048x16x128_S8x2048x2048 := by
  rw [exit_main_v24]
  simp only [Gen.V0, Gen.hostOps0, Gen.hostOps0_1, Gen.hostOps0_2, Gen.hostOps0_3, Gen.hostOps0_4, TRef.binary, TRef.ternary, TRef.unary, TRef.toBuf, TRef.ofBuf, cast_eq, List.flatten_cons, List.flatten_nil, List.append_nil, List.cons_append, List.nil_append]
  after_results_simp <;> rfl

/-- The region's rectangle is the whole array. -/
theorem whole_emb (y : S8x2048x2048.Idx) : r0_0.emb y = y := by
  funext a
  apply Fin.ext
  match a with
  | ⟨0, _⟩ => exact (Nat.zero_add _).trans (Nat.one_mul _)
  | ⟨1, _⟩ => exact (Nat.zero_add _).trans (Nat.one_mul _)
  | ⟨2, _⟩ => exact (Nat.zero_add _).trans (Nat.one_mul _)

/-- Rounding keeps the value. -/
theorem pay_eq (v : FVec Ideal S8x2048x2048 .f32) : k0_pay1 (F := Ideal) v = v := by
  unfold k0_pay1
  simp only [shapeCast_self]
  rfl

/-- An element a view reaches is in the view's set. -/
theorem mem_of_emb {κ sp s e} {v : View sig κ sp s e} (y : s.Idx) {x : v.ty.shape.Idx} (h : v.emb y = x) : x ∈ v.set := h ▸ v.emb_mem_set y

/-- What the region leaves is what it found. -/
theorem region_eq : reg_main_v26 m c = (Gen.V0 m c (Proc.devRef .tc main_v25) : S8x2048x2048.Idx → EReal) := by
  refine Pipeline.Dat.arrAt_eq_of_cover (Gen.dats m 0 c) 1 _ (fun t _ => funext fun y => ?_) (fun i => ⟨⟨0, by decide⟩, flush0_1 _, ?_⟩)
  · have e : (Gen.dats m 0 c).after 1 t = out0_1 (Gen.iblk m c 0 t) := after0_1 m c t
    have hy : out0_1 (Gen.iblk m c 0 t) y = Gen.iblk m c 0 t y := by
      refine (congrArg (out0_1 (Gen.iblk m c 0 t)) (whole_emb y)).symm.trans ((View.canon_cons_emb r0_0 _ [] y).trans ?_)
      exact (congrFun (pay_eq _) y).trans (congrArg (Gen.iblk m c 0 t) (whole_emb y))
    exact (congrFun e y).trans hy
  · refine mem_of_emb i ?_
    funext a
    apply Fin.ext
    match a with
    | ⟨0, _⟩ => exact (Nat.zero_add _).trans (Nat.one_mul _)
    | ⟨1, _⟩ => exact (Nat.zero_add _).trans (Nat.one_mul _)
    | ⟨2, _⟩ => exact (Nat.zero_add _).trans (Nat.one_mul _)

/-- The codes the reference returns for `dout`. -/
theorem o_out (h : m ((c.tc : Thread nD τ).loc main_arg3) = arr (A := 8) (B := 2048) (C := 2048) f) :
    reg_main_v26 m c = (arr (A := 8) (B := 2048) (C := 2048) (fun b h => cd5 (f b h)) : S8x2048x2048.Idx → EReal) :=
  region_eq.trans (entry_v25.trans (join16 (o_codes h)))

end Cert.ReferenceIdeal.Heads

end
-- ==== Proof.RefScores.lean ====
module

public import proofs.«01_k».proof.Proof.RefDout

@[expose] public section

set_option backward.proofsInPublic true

noncomputable section

/-! The reference's scores and probabilities, head by head. -/

namespace Cert.ReferenceIdeal.Heads

open Cert.ReferenceIdeal Cert.ReferenceIdeal.Gen Cert.ReferenceIdeal.Read Idealize.ShloMosaic Cert.RefQuant
open Cert.KernelIdeal.Loop (arr flat sc4 sc5 cd4 cd5 Env Sp spec coe_sum_fin smR sm_ofBits exp_SE ofBits_256 ofBits_448 ofBits_inv256 dot)

variable (E : Env)

/-- The arrays the inputs' heads make up. -/
abbrev xA : FVec Ideal S8x2048x2048 .bf16 := arr (A := 8) (B := 2048) (C := 2048) E.x
/-- The same for the keys. -/
abbrev kA : FVec Ideal S8x2048x512 .bf16 := arr (A := 8) (B := 2048) (C := 512) E.k
/-- The same for the values. -/
abbrev vA : FVec Ideal S8x2048x512 .bf16 := arr (A := 8) (B := 2048) (C := 512) E.v

/-- Query head `g` of key/value head `kv`. -/
abbrev hd (b kv g : ℕ) : Sp := E.sp b (4 * kv + g)

/-- The keys of a group's query heads are the group's. -/
theorem hd_k (b kv : ℕ) {g : ℕ} (h : g < 4) : (hd E b kv g).k = cd4 (E.k b kv) := by
  show cd4 (E.k b ((4 * kv + g) / 4)) = _
  rw [show (4 * kv + g) / 4 = kv by omega]
/-- The values of a group's query heads are the group's. -/
theorem hd_v (b kv : ℕ) {g : ℕ} (h : g < 4) : (hd E b kv g).v = cd4 (E.v b kv) := by
  show cd4 (E.v b ((4 * kv + g) / 4)) = _
  rw [show (4 * kv + g) / 4 = kv by omega]
/-- So is the scale of the keys. -/
theorem hd_sk (b kv : ℕ) {g : ℕ} (h : g < 4) : (hd E b kv g).sk = sc4 (E.k b kv) := by
  show sc4 (E.k b ((4 * kv + g) / 4)) = _
  rw [show (4 * kv + g) / 4 = kv by omega]
/-- So is the scale of the values. -/
theorem hd_sv (b kv : ℕ) {g : ℕ} (h : g < 4) : (hd E b kv g).sv = sc4 (E.v b kv) := by
  show sc4 (E.v b ((4 * kv + g) / 4)) = _
  rw [show (4 * kv + g) / 4 = kv by omega]

/-- The query codes by group. -/
theorem q_group (i : S8x2048x4x4x128.Idx) : val_main_v102 (F := Ideal) (xA E) i = (((hd E (i 0).val (i 2).val (i 3).val).q (i 1).val (i 4).val : ℝ) : EReal) := by
  have h0 : (i 0).val < 8 := (i 0).isLt
  have h1 : (i 1).val < 2048 := (i 1).isLt
  have h2 : (i 2).val < 4 := (i 2).isLt
  have h3 : (i 3).val < 4 := (i 3).isLt
  have h4 : (i 4).val < 128 := (i 4).isLt
  refine (val_main_v102_apply (F := Ideal) (xA E) i).trans ((q_codes E.x _).trans ?_)
  show ((cd4 (E.x _ _) _ _ : ℝ) : EReal) = ((cd4 (E.x _ _) _ _ : ℝ) : EReal)
  congr 3 <;> simp only [idx_main_v102] <;> first | omega | (congr 1 <;> omega)

/-- The scale of the query codes by group. -/
theorem qs_group (i : S8x4x4.Idx) : val_main_v104 (F := Ideal) (xA E) i = (((hd E (i 0).val (i 1).val (i 2).val).sq : ℝ) : EReal) := by
  have h0 : (i 0).val < 8 := (i 0).isLt
  have h1 : (i 1).val < 4 := (i 1).isLt
  have h2 : (i 2).val < 4 := (i 2).isLt
  refine (val_main_v104_apply (F := Ideal) (xA E) i).trans ((q_scale E.x _).trans ?_)
  show ((sc4 (E.x _ _) : ℝ) : EReal) = ((sc4 (E.x _ _) : ℝ) : EReal)
  congr 3 <;> simp only [idx_main_v104] <;> omega

/-- A sum of products of reals over an axis. -/
theorem sum_mul {n : ℕ} {u v : Fin n → EReal} {a b : ℕ → ℝ} (hu : ∀ k : Fin n, u k = ((a k.val : ℝ) : EReal)) (hv : ∀ k : Fin n, v k = ((b k.val : ℝ) : EReal)) :
    ∑ k : Fin n, u k * v k = ((∑ k ∈ Finset.range n, a k * b k : ℝ) : EReal) := by
  rw [← coe_sum_fin n (fun k => a k * b k)]
  exact Finset.sum_congr rfl fun k _ => by rw [hu, hv, ← EReal.coe_mul]

/-- The product of the key and query codes. -/
theorem raw (i : S8x4x4x2048x2048.Idx) : val_main_v108 (F := Ideal) (xA E) (kA E) i = ((dot (hd E (i 0).val (i 1).val (i 2).val).k (hd E (i 0).val (i 1).val (i 2).val).q (i 4).val (i 3).val : ℝ) : EReal) := by
  have hg : (i 2).val < 4 := (i 2).isLt
  refine (val_main_v108_apply (F := Ideal) (xA E) (kA E) i).trans ((val_main_v107_apply (xA E) (kA E) _).trans ?_)
  rw [hd_k E _ _ hg]
  exact sum_mul (a := fun d => cd4 (E.k (i 0).val (i 1).val) (i 4).val d) (b := fun d => (hd E (i 0).val (i 1).val (i 2).val).q (i 3).val d)
    (fun d => k_codes E.k _) (fun d => q_group E _)

/-- The key scale times the softmax scale. -/
theorem kscale (i : S8x4x4x2048x2048.Idx) (b kv g : ℕ) (hg : g < 4) (hb : (i 0).val = b) (hk : (i 1).val = kv) : val_main_v113 (F := Ideal) (kA E) (idx_main_v115 i) = (((hd E b kv g).sk * smR : ℝ) : EReal) := by
  subst hb hk
  rw [hd_sk E _ _ hg, EReal.coe_mul]
  refine (val_main_v113_apply (F := Ideal) (kA E) _).trans ((val_main_v112_apply (F := Ideal) (kA E) _).trans ?_)
  refine (val_main_v111_apply (F := Ideal) (kA E) _).trans ?_
  exact congrArg₂ (· * ·) (k_scale E.k _) ((val_main_v110_apply (F := Ideal) _).trans sm_ofBits)

/-- The scale of the scores. -/
theorem sscale (i : S8x4x4x2048x2048.Idx) : val_main_v115 (F := Ideal) (xA E) (kA E) i = (((hd E (i 0).val (i 1).val (i 2).val).sq * ((hd E (i 0).val (i 1).val (i 2).val).sk * smR) : ℝ) : EReal) := by
  have hk := kscale E i (i 0).val (i 1).val (i 2).val (i 2).isLt rfl rfl
  refine (val_main_v115_apply (F := Ideal) (xA E) (kA E) i).trans ((val_main_v114_apply (F := Ideal) (xA E) (kA E) _).trans ?_)
  rw [EReal.coe_mul, ← hk]
  exact congrArg₂ (· * ·) ((val_main_v109_apply (F := Ideal) (xA E) _).trans (qs_group E _)) rfl

/-- The scores. -/
theorem score (i : S8x4x4x2048x2048.Idx) : val_main_v116 (F := Ideal) (xA E) (kA E) i = (((hd E (i 0).val (i 1).val (i 2).val).S (i 4).val (i 3).val : ℝ) : EReal) := by
  refine (val_main_v116_apply (F := Ideal) (xA E) (kA E) i).trans ?_
  rw [raw E i, sscale E i, Sp.S, EReal.coe_mul]
  rfl

/-- Comparing two positions as words compares them. -/
theorem le_bits {a b : ℕ} (ha : a < 2048) (hb : b < 2048) : IntOp.cmpi .sle (BitVec.ofNat 32 a) (BitVec.ofNat 32 b) = if a ≤ b then 1#1 else 0#1 := by
  have h1 : (BitVec.ofNat 32 a).toInt = a := by rw [BitVec.toInt_eq_toNat_of_lt] <;> simp <;> omega
  have h2 : (BitVec.ofNat 32 b).toInt = b := by rw [BitVec.toInt_eq_toNat_of_lt] <;> simp <;> omega
  have h : (BitVec.ofNat 32 a).sle (BitVec.ofNat 32 b) = decide (a ≤ b) := by
    rw [BitVec.sle, h1, h2]; simp
  show BitVec.ofBool ((BitVec.ofNat 32 a).sle (BitVec.ofNat 32 b)) = _
  rw [h]
  by_cases e : a ≤ b <;> simp [e]

/-- The scores with the keys after the query masked. -/
theorem masked (i : S8x4x4x2048x2048.Idx) : val_main_v122 (F := Ideal) (xA E) (kA E) i = (hd E (i 0).val (i 1).val (i 2).val).SE (i 4).val (i 3).val := by
  have h3 : (i 3).val < 2048 := (i 3).isLt
  have h4 : (i 4).val < 2048 := (i 4).isLt
  have hm : val_main_call8_v1 (F := Ideal) i = if (i 4).val ≤ (i 3).val then 1#1 else 0#1 := by
    refine (val_main_call8_v1_apply (F := Ideal) i).trans ((val_main_v121_apply (F := Ideal) _).trans ((congrArg₂ (IntOp.cmpi .sle) ?_ ?_).trans (le_bits h4 h3)))
    · exact (val_main_v119_apply (F := Ideal) _).trans (val_main_v117_apply (F := Ideal) _)
    · exact (val_main_v120_apply (F := Ideal) _).trans (val_main_v118_apply (F := Ideal) _)
  have hn : val_main_call8_v2 (F := Ideal) i = (⊥ : EReal) := (val_main_call8_v2_apply (F := Ideal) i).trans ninf
  refine (val_main_v122_apply (F := Ideal) (xA E) (kA E) i).trans ?_
  rw [hm, hn, score E i, Sp.SE]
  by_cases e : (i 4).val ≤ (i 3).val
  · rw [if_pos e, if_pos e]; rfl
  · rw [if_neg e, if_neg e]; rfl

/-- The index of key `k` in row `j` of the scores. -/
abbrev rowIdx (j : S8x4x4x2048.Idx) (k : Fin 2048) : S8x4x4x2048x2048.Idx := fun a => match a with
  | ⟨0, _⟩ => j 0 | ⟨1, _⟩ => j 1 | ⟨2, _⟩ => j 2 | ⟨3, _⟩ => j 3 | ⟨4, _⟩ => k

/-- The largest score of a row is real. -/
theorem rowMax (j : S8x4x4x2048.Idx) : ∃ r : ℝ, val_main_v123 (F := Ideal) (xA E) (kA E) j = ((r : ℝ) : EReal) := by
  have key := hostMax_le (val_main_v122 (F := Ideal) (xA E) (kA E)) (val_main_cst_41 (F := Ideal)) reducesTo_S8x4x4x2048x2048_S8x4x4x2048_d4 h_S_ j
  have hd' : ∀ k, reducesTo_S8x4x4x2048x2048_S8x4x4x2048_d4.drop (rowIdx j k) = j := fun k => by
    funext b
    fin_cases b
    · exact Fin.ext (Shape.ReducesTo.drop_apply_val_of_eq _ (rowIdx j k) 0 0 (show 0 < 4 by decide) rfl)
    · exact Fin.ext (Shape.ReducesTo.drop_apply_val_of_eq _ (rowIdx j k) 1 1 (show 1 < 4 by decide) rfl)
    · exact Fin.ext (Shape.ReducesTo.drop_apply_val_of_eq _ (rowIdx j k) 2 2 (show 2 < 4 by decide) rfl)
    · exact Fin.ext (Shape.ReducesTo.drop_apply_val_of_eq _ (rowIdx j k) 3 3 (show 3 < 4 by decide) rfl)
  have hlo := ((key _).1 le_rfl).2 (rowIdx j 0) (hd' 0)
  rw [masked, Sp.SE, if_pos (show (rowIdx j 0 4).val ≤ (rowIdx j 0 3).val from Nat.zero_le _)] at hlo
  have hhi := (key ((∑ k ∈ Finset.range 2048, |(hd E (j 0).val (j 1).val (j 2).val).S k (j 3).val| : ℝ) : EReal)).2 ⟨by
    show Ideal.ofBits .f32 0xFF800000#32 ≤ _; rw [ninf]; exact bot_le, fun i e => by
    have e0 : (i 0).val = (j 0).val := by rw [← e]; exact (Shape.ReducesTo.drop_apply_val_of_eq _ _ 0 0 (show 0 < 4 by decide) rfl).symm
    have e1 : (i 1).val = (j 1).val := by rw [← e]; exact (Shape.ReducesTo.drop_apply_val_of_eq _ _ 1 1 (show 1 < 4 by decide) rfl).symm
    have e2 : (i 2).val = (j 2).val := by rw [← e]; exact (Shape.ReducesTo.drop_apply_val_of_eq _ _ 2 2 (show 2 < 4 by decide) rfl).symm
    have e3 : (i 3).val = (j 3).val := by rw [← e]; exact (Shape.ReducesTo.drop_apply_val_of_eq _ _ 3 3 (show 3 < 4 by decide) rfl).symm
    rw [masked, e0, e1, e2, e3, Sp.SE]
    split_ifs
    · refine EReal.coe_le_coe_iff.2 ((le_abs_self _).trans (Finset.single_le_sum (f := fun k => |(hd E (j 0).val (j 1).val (j 2).val).S k (j 3).val|) (fun _ _ => abs_nonneg _) (Finset.mem_range.2 (i 4).isLt)))
    · exact bot_le⟩
  refine ⟨(val_main_v123 (F := Ideal) (xA E) (kA E) j).toReal, (EReal.coe_toReal ?_ ?_).symm⟩
  · exact ne_top_of_le_ne_top (EReal.coe_ne_top _) hhi
  · exact ne_bot_of_le_ne_bot (EReal.coe_ne_bot _) hlo

end Cert.ReferenceIdeal.Heads

end
-- ==== Proof.RefGrads.lean ====
module

public import proofs.«01_k».proof.Proof.RefScores

@[expose] public section

set_option backward.proofsInPublic true

noncomputable section

/-! The reference's probabilities and gradients, head by head. -/

namespace Cert.ReferenceIdeal.Heads

open Cert.ReferenceIdeal Cert.ReferenceIdeal.Gen Cert.ReferenceIdeal.Read Idealize.ShloMosaic Cert.RefQuant
open Cert.KernelIdeal.Loop (arr flat sc4 sc5 cd4 cd5 Env Sp spec coe_sum_fin smR sm_ofBits exp_SE ofBits_256 ofBits_448 ofBits_inv256 dot)

/-- A product of two values known to be real. -/
theorem mulE {x y : EReal} {a b c : ℝ} (hx : x = (a : EReal)) (hy : y = (b : EReal)) (h : a * b = c) : x * y = (c : EReal) := by
  rw [hx, hy, ← EReal.coe_mul, h]
/-- A difference of two values known to be real. -/
theorem subE {x y : EReal} {a b c : ℝ} (hx : x = (a : EReal)) (hy : y = (b : EReal)) (h : a - b = c) : x - y = (c : EReal) := by
  rw [hx, hy, ← EReal.coe_sub, h]
/-- A sum of reals that starts at zero. -/
theorem sumE {n : ℕ} {z : EReal} {u : Fin n → EReal} {a : ℕ → ℝ} {c : ℝ} (hz : z = ((0 : ℝ) : EReal)) (hu : ∀ k : Fin n, u k = ((a k.val : ℝ) : EReal)) (h : ∑ k ∈ Finset.range n, a k = c) :
    z + ∑ k : Fin n, u k = (c : EReal) := by
  rw [hz, EReal.coe_zero, zero_add, ← h, ← coe_sum_fin n a]
  exact Finset.sum_congr rfl fun k _ => hu k

variable (E : Env)

/-- The probability of key `k` for query `q`. -/
def Pr (w : Sp) (k q : ℕ) : ℝ := if k ≤ q then Real.exp (w.S k q - Real.log (w.Z q)) else 0

/-- The probability times 256. -/
theorem Pr_P (w : Sp) (k q : ℕ) : Pr w k q * 256 = w.P k q := by
  rw [Pr, Sp.P]; split_ifs
  · rfl
  · exact zero_mul _

/-- The logarithm of the normaliser of a row. -/
theorem lse (i : S8x4x4x2048x1.Idx) : val_main_v131 (F := Ideal) (xA E) (kA E) i = ((Real.log ((hd E (i 0).val (i 1).val (i 2).val).Z (i 3).val) : ℝ) : EReal) := by
  have h3 : (i 3).val < 2048 := (i 3).isLt
  obtain ⟨m, hm⟩ := rowMax E (idx_main_v124 i)
  have hx (k : Fin 2048) : val_main_v127 (F := Ideal) (xA E) (kA E) (idx_main_v128 (idx_main_v129 i) k)
      = (((if k.val ≤ (i 3).val then Real.exp ((hd E (i 0).val (i 1).val (i 2).val).S k.val (i 3).val - m) else 0) : ℝ) : EReal) := by
    refine (val_main_v127_apply (F := Ideal) (xA E) (kA E) _).trans (Eq.trans (congrArg Ideal.exp ?_) (exp_SE (hd E (i 0).val (i 1).val (i 2).val) k.val (i 3).val m))
    refine (val_main_v126_apply (F := Ideal) (xA E) (kA E) _).trans (congrArg₂ (fun a b : EReal => a - b) (masked E _) ?_)
    exact (val_main_v125_apply (F := Ideal) (xA E) (kA E) _).trans ((val_main_v124_apply (F := Ideal) (xA E) (kA E) _).trans hm)
  have e : ∑ k ∈ Finset.range 2048, (if k ≤ (i 3).val then Real.exp ((hd E (i 0).val (i 1).val (i 2).val).S k (i 3).val - m) else 0)
      = Real.exp (-m) * (hd E (i 0).val (i 1).val (i 2).val).Z (i 3).val := by
    unfold Sp.Z
    rw [Finset.mul_sum]
    symm
    apply Finset.sum_subset_zero_on_sdiff
    · intro x hx; simp only [Finset.mem_range] at hx ⊢; omega
    · intro x hx; simp only [Finset.mem_sdiff, Finset.mem_range] at hx; exact if_neg (by omega)
    · intro x hx
      simp only [Finset.mem_range] at hx
      rw [if_pos (by omega), ← Real.exp_add]; exact congrArg Real.exp (by ring)
  have hs : val_main_v129 (F := Ideal) (xA E) (kA E) i = ((Real.exp (-m) * (hd E (i 0).val (i 1).val (i 2).val).Z (i 3).val : ℝ) : EReal) :=
    (val_main_v129_apply (F := Ideal) (xA E) (kA E) i).trans ((val_main_v128_apply (xA E) (kA E) _).trans (sumE zero hx e))
  have hl : val_main_v130 (F := Ideal) (xA E) (kA E) i = ((-m + Real.log ((hd E (i 0).val (i 1).val (i 2).val).Z (i 3).val) : ℝ) : EReal) := by
    refine (val_main_v130_apply (F := Ideal) (xA E) (kA E) i).trans ((congrArg Ideal.log hs).trans ?_)
    have hp : 0 < Real.exp (-m) * (hd E (i 0).val (i 1).val (i 2).val).Z (i 3).val := mul_pos (Real.exp_pos _) (Sp.Z_pos _ _)
    rw [Ideal.log_coe, if_neg (not_le.mpr hp), Real.log_mul (Real.exp_pos _).ne' (Sp.Z_pos _ _).ne', Real.log_exp]
  refine (val_main_v131_apply (F := Ideal) (xA E) (kA E) i).trans ?_
  refine (congrArg₂ (fun a b : EReal => a + b) ((val_main_v124_apply (F := Ideal) (xA E) (kA E) i).trans hm) hl).trans ?_
  show (m : EReal) + _ = _
  rw [← EReal.coe_add]
  exact congrArg _ (by ring)

/-- The probabilities. -/
theorem prob (i : S8x4x4x2048x2048.Idx) : val_main_v134 (F := Ideal) (xA E) (kA E) i = ((Pr (hd E (i 0).val (i 1).val (i 2).val) (i 4).val (i 3).val : ℝ) : EReal) := by
  refine (val_main_v134_apply (F := Ideal) (xA E) (kA E) i).trans (Eq.trans (congrArg Ideal.exp ?_) (exp_SE (hd E (i 0).val (i 1).val (i 2).val) (i 4).val (i 3).val _))
  refine (val_main_v133_apply (F := Ideal) (xA E) (kA E) i).trans (congrArg₂ (fun a b : EReal => a - b) (masked E i) ?_)
  exact (val_main_v132_apply (F := Ideal) (xA E) (kA E) i).trans (lse E _)

/-- The scaled and clipped probabilities. -/
theorem clipped (i : S8x4x4x2048x2048.Idx) : val_main_v137 (F := Ideal) (xA E) (kA E) i = (((hd E (i 0).val (i 1).val (i 2).val).PC (i 4).val (i 3).val : ℝ) : EReal) := by
  have h1 : val_main_v136 (F := Ideal) (xA E) (kA E) i = (((hd E (i 0).val (i 1).val (i 2).val).P (i 4).val (i 3).val : ℝ) : EReal) :=
    (val_main_v136_apply (F := Ideal) (xA E) (kA E) i).trans (mulE (prob E i) ((val_main_v135_apply (F := Ideal) i).trans ofBits_256) (Pr_P _ _ _))
  have h2 : val_main_call9_v1 (F := Ideal) i = ((0 : ℝ) : EReal) := (val_main_call9_v1_apply (F := Ideal) i).trans zero
  have h3 : val_main_call9_v4 (F := Ideal) i = ((448 : ℝ) : EReal) := (val_main_call9_v4_apply (F := Ideal) i).trans ofBits_448
  refine (val_main_v137_apply (F := Ideal) (xA E) (kA E) i).trans ?_
  rw [val_main_call9_v2_apply, h1, h2, h3, Sp.PC, coe_min, coe_max]
  rfl

/-- The output before its scale. -/
theorem out (i : S8x4x4x2048x128.Idx) : val_main_v138 (F := Ideal) (xA E) (kA E) (vA E) i = (((hd E (i 0).val (i 1).val (i 2).val).OT (i 4).val (i 3).val : ℝ) : EReal) := by
  have hg : (i 2).val < 4 := (i 2).isLt
  refine (val_main_v138_apply (xA E) (kA E) (vA E) i).trans ?_
  refine (sum_mul (a := fun k => (hd E (i 0).val (i 1).val (i 2).val).PC k (i 3).val) (b := fun k => (hd E (i 0).val (i 1).val (i 2).val).v k (i 4).val)
    (fun k => clipped E (lidx_main_v138 i k)) (fun k => ?_)).trans ?_
  · rw [hd_v E _ _ hg]; exact v_codes E.v _
  · rw [Sp.OT]; exact congrArg _ (Finset.sum_congr rfl fun k _ => mul_comm _ _)

/-- The scale of the values. -/
theorem vscale (j : S8x4.Idx) (g : ℕ) (hg : g < 4) : val_main_v94 (F := Ideal) (vA E) j = (((hd E (j 0).val (j 1).val g).sv : ℝ) : EReal) := by
  rw [hd_sv E _ _ hg]; exact v_scale E.v j

/-- The scale of the keys. -/
theorem kscale' (j : S8x4.Idx) (g : ℕ) (hg : g < 4) : val_main_v69 (F := Ideal) (kA E) j = (((hd E (j 0).val (j 1).val g).sk : ℝ) : EReal) := by
  rw [hd_sk E _ _ hg]; exact k_scale E.k j

/-- The output. -/
theorem outS (i : S8x4x4x2048x128.Idx) : val_main_v143 (F := Ideal) (xA E) (kA E) (vA E) i
    = (((hd E (i 0).val (i 1).val (i 2).val).OT (i 4).val (i 3).val * (1 / 256 * (hd E (i 0).val (i 1).val (i 2).val).sv) : ℝ) : EReal) := by
  have hs : val_main_v142 (F := Ideal) (vA E) i = ((1 / 256 * (hd E (i 0).val (i 1).val (i 2).val).sv : ℝ) : EReal) := by
    refine (val_main_v142_apply (F := Ideal) (vA E) i).trans ((val_main_v141_apply (F := Ideal) (vA E) _).trans ((val_main_v140_apply (F := Ideal) (vA E) _).trans ?_))
    exact mulE ((val_main_v139_apply (F := Ideal) _).trans ofBits_inv256) (vscale E _ _ (i 2).isLt) rfl
  exact (val_main_v143_apply (F := Ideal) (xA E) (kA E) (vA E) i).trans (mulE (out E i) hs rfl)

variable {e0 : FVec Ideal S8x2048x16x128 .f32} {e1 : FVec Ideal S8x16 .f32}

/-- The codes of the output's gradient by group. -/
theorem o_group (h0 : Heads (H := 16) e0 (fun b h => cd5 (E.o b h))) (i : S8x2048x4x4x128.Idx) :
    val_main_v103 (F := Ideal) e0 i = (((hd E (i 0).val (i 2).val (i 3).val).o (i 1).val (i 4).val : ℝ) : EReal) := by
  have b0 : (i 0).val < 8 := (i 0).isLt
  have b1 : (i 1).val < 2048 := (i 1).isLt
  have b2 : (i 2).val < 4 := (i 2).isLt
  have b3 : (i 3).val < 4 := (i 3).isLt
  have b4 : (i 4).val < 128 := (i 4).isLt
  refine (val_main_v103_apply (F := Ideal) e0 i).trans ((h0 _).trans ?_)
  show ((cd5 (E.o _ _) _ _ : ℝ) : EReal) = ((cd5 (E.o _ _) _ _ : ℝ) : EReal)
  congr 3 <;> simp only [idx_main_v103] <;> first | omega | (congr 1 <;> omega)

/-- Their scale by group. -/
theorem os_group (h1 : ∀ j : S8x16.Idx, e1 j = ((sc5 (E.o (j 0).val (j 1).val) : ℝ) : EReal)) (i : S8x4x4.Idx) :
    val_main_v105 (F := Ideal) e1 i = (((hd E (i 0).val (i 1).val (i 2).val).so : ℝ) : EReal) := by
  have b0 : (i 0).val < 8 := (i 0).isLt
  have b1 : (i 1).val < 4 := (i 1).isLt
  have b2 : (i 2).val < 4 := (i 2).isLt
  refine (val_main_v105_apply (F := Ideal) e1 i).trans ((h1 _).trans ?_)
  show ((sc5 (E.o _ _) : ℝ) : EReal) = ((sc5 (E.o _ _) : ℝ) : EReal)
  congr 3 <;> simp only [idx_main_v105] <;> omega

/-- The row sums of gradient times output. -/
theorem delta (h0 : Heads (H := 16) e0 (fun b h => cd5 (E.o b h))) (h1 : ∀ j : S8x16.Idx, e1 j = ((sc5 (E.o (j 0).val (j 1).val) : ℝ) : EReal)) (i : S8x4x4x2048.Idx) :
    val_main_v149 (F := Ideal) (xA E) (kA E) (vA E) e0 e1 i
      = (((hd E (i 0).val (i 1).val (i 2).val).so * (hd E (i 0).val (i 1).val (i 2).val).sv * (hd E (i 0).val (i 1).val (i 2).val).DE (i 3).val : ℝ) : EReal) := by
  refine (val_main_v149_apply (xA E) (kA E) (vA E) e0 e1 i).trans (sumE (a := fun d => (hd E (i 0).val (i 1).val (i 2).val).o (i 3).val d * (hd E (i 0).val (i 1).val (i 2).val).so *
      ((hd E (i 0).val (i 1).val (i 2).val).OT d (i 3).val * (1 / 256 * (hd E (i 0).val (i 1).val (i 2).val).sv))) zero (fun d => ?_) ?_)
  · refine (val_main_v148_apply (F := Ideal) (xA E) (kA E) (vA E) e0 e1 _).trans (mulE ?_ (outS E _) rfl)
    refine (val_main_v147_apply (F := Ideal) e0 e1 _).trans ((val_main_v146_apply (F := Ideal) e0 e1 _).trans (mulE (o_group E h0 _) ?_ rfl))
    exact (val_main_v145_apply (F := Ideal) e1 _).trans ((val_main_v144_apply (F := Ideal) e1 _).trans (os_group E h1 _))
  · rw [Sp.DE, Finset.sum_mul, Finset.mul_sum]
    exact Finset.sum_congr rfl fun d _ => by ring

/-- The gradient of the probabilities. -/
theorem dprob (h0 : Heads (H := 16) e0 (fun b h => cd5 (E.o b h))) (h1 : ∀ j : S8x16.Idx, e1 j = ((sc5 (E.o (j 0).val (j 1).val) : ℝ) : EReal)) (i : S8x4x4x2048x2048.Idx) :
    val_main_v158 (F := Ideal) (vA E) e0 e1 i
      = ((dot (hd E (i 0).val (i 1).val (i 2).val).v (hd E (i 0).val (i 1).val (i 2).val).o (i 4).val (i 3).val *
          ((hd E (i 0).val (i 1).val (i 2).val).so * (hd E (i 0).val (i 1).val (i 2).val).sv) : ℝ) : EReal) := by
  have hg : (i 2).val < 4 := (i 2).isLt
  refine (val_main_v158_apply (F := Ideal) (vA E) e0 e1 i).trans (mulE ?_ ?_ rfl)
  · refine (val_main_v152_apply (F := Ideal) (vA E) e0 i).trans ((val_main_v151_apply (vA E) e0 _).trans ?_)
    rw [hd_v E _ _ hg]
    exact sum_mul (a := fun d => cd4 (E.v (i 0).val (i 1).val) (i 4).val d) (b := fun d => (hd E (i 0).val (i 1).val (i 2).val).o (i 3).val d)
      (fun d => v_codes E.v _) (fun d => o_group E h0 _)
  · refine (val_main_v157_apply (F := Ideal) (vA E) e1 i).trans ((val_main_v156_apply (F := Ideal) (vA E) e1 _).trans (mulE ?_ ?_ rfl))
    · exact (val_main_v153_apply (F := Ideal) e1 _).trans (os_group E h1 _)
    · exact (val_main_v155_apply (F := Ideal) (vA E) _).trans ((val_main_v154_apply (F := Ideal) (vA E) _).trans (vscale E _ _ (i 2).isLt))

/-- The gradient of the scores. -/
theorem dscore (h0 : Heads (H := 16) e0 (fun b h => cd5 (E.o b h))) (h1 : ∀ j : S8x16.Idx, e1 j = ((sc5 (E.o (j 0).val (j 1).val) : ℝ) : EReal)) (i : S8x4x4x2048x2048.Idx) :
    val_main_v163 (F := Ideal) (xA E) (kA E) (vA E) e0 e1 i
      = (((hd E (i 0).val (i 1).val (i 2).val).DS (i 4).val (i 3).val * (1 / 256) *
          ((hd E (i 0).val (i 1).val (i 2).val).so * (hd E (i 0).val (i 1).val (i 2).val).sv) : ℝ) : EReal) := by
  refine (val_main_v163_apply (F := Ideal) (xA E) (kA E) (vA E) e0 e1 i).trans ((val_main_v162_apply (F := Ideal) (xA E) (kA E) (vA E) e0 e1 i).trans ?_)
  refine (val_main_v161_apply (F := Ideal) (xA E) (kA E) (vA E) e0 e1 i).trans (mulE (b := (dot (hd E (i 0).val (i 1).val (i 2).val).v (hd E (i 0).val (i 1).val (i 2).val).o (i 4).val (i 3).val - (hd E (i 0).val (i 1).val (i 2).val).DE (i 3).val) * ((hd E (i 0).val (i 1).val (i 2).val).so * (hd E (i 0).val (i 1).val (i 2).val).sv)) (prob E i) ?_ ?_)
  · refine (val_main_v160_apply (F := Ideal) (xA E) (kA E) (vA E) e0 e1 i).trans (subE (b := (hd E (i 0).val (i 1).val (i 2).val).so * (hd E (i 0).val (i 1).val (i 2).val).sv * (hd E (i 0).val (i 1).val (i 2).val).DE (i 3).val) (dprob E h0 h1 i) ?_ (by ring))
    refine (val_main_v159_apply (F := Ideal) (xA E) (kA E) (vA E) e0 e1 i).trans ((val_main_v150_apply (F := Ideal) (xA E) (kA E) (vA E) e0 e1 _).trans (delta E h0 h1 _))
  · rw [Sp.DS, ← Pr_P]; ring

/-- The gradient of the queries. -/
theorem dquery (h0 : Heads (H := 16) e0 (fun b h => cd5 (E.o b h))) (h1 : ∀ j : S8x16.Idx, e1 j = ((sc5 (E.o (j 0).val (j 1).val) : ℝ) : EReal)) (i : S8x4x4x2048x128.Idx) :
    val_main_v169 (F := Ideal) (xA E) (kA E) (vA E) e0 e1 i = (((hd E (i 0).val (i 1).val (i 2).val).DQ (i 3).val (i 4).val : ℝ) : EReal) := by
  have hg : (i 2).val < 4 := (i 2).isLt
  refine (val_main_v169_apply (F := Ideal) (xA E) (kA E) (vA E) e0 e1 i).trans (mulE (b := (hd E (i 0).val (i 1).val (i 2).val).sk * smR) ((val_main_v164_apply (xA E) (kA E) (vA E) e0 e1 i).trans
    (sum_mul (a := fun k => (hd E (i 0).val (i 1).val (i 2).val).DS k (i 3).val * (1 / 256) * ((hd E (i 0).val (i 1).val (i 2).val).so * (hd E (i 0).val (i 1).val (i 2).val).sv))
      (b := fun k => (hd E (i 0).val (i 1).val (i 2).val).k k (i 4).val) (fun k => dscore E h0 h1 _) (fun k => ?_))) ?_ ?_)
  · rw [hd_k E _ _ hg]; exact k_codes E.k _
  · refine (val_main_v168_apply (F := Ideal) (kA E) i).trans ((val_main_v167_apply (F := Ideal) (kA E) _).trans ((val_main_v166_apply (F := Ideal) (kA E) _).trans ?_))
    exact mulE (kscale' E _ _ (i 2).isLt) ((val_main_v165_apply (F := Ideal) _).trans sm_ofBits) rfl
  · rw [Sp.DQ, Finset.sum_mul, Finset.sum_mul]
    exact Finset.sum_congr rfl fun d _ => by ring

/-- The gradient of the values, one query head's part. -/
theorem dvalue (h0 : Heads (H := 16) e0 (fun b h => cd5 (E.o b h))) (h1 : ∀ j : S8x16.Idx, e1 j = ((sc5 (E.o (j 0).val (j 1).val) : ℝ) : EReal)) (i : S8x4x4x2048x128.Idx) :
    val_main_v175 (F := Ideal) (xA E) (kA E) e0 e1 i = (((hd E (i 0).val (i 1).val (i 2).val).DV (i 3).val (i 4).val : ℝ) : EReal) := by
  refine (val_main_v175_apply (F := Ideal) (xA E) (kA E) e0 e1 i).trans (mulE (b := 1 / 256 * (hd E (i 0).val (i 1).val (i 2).val).so) ((val_main_v170_apply (xA E) (kA E) e0 i).trans
    (sum_mul (a := fun q => (hd E (i 0).val (i 1).val (i 2).val).PC (i 3).val q)
      (b := fun q => (hd E (i 0).val (i 1).val (i 2).val).o q (i 4).val) (fun k => clipped E _) (fun k => o_group E h0 _))) ?_ ?_)
  · refine (val_main_v174_apply (F := Ideal) e1 i).trans ((val_main_v173_apply (F := Ideal) e1 _).trans ((val_main_v172_apply (F := Ideal) e1 _).trans ?_))
    exact mulE ((val_main_v171_apply (F := Ideal) _).trans ofBits_inv256) (os_group E h1 _) rfl
  · rw [Sp.DV, Finset.sum_mul, Finset.mul_sum]
    exact Finset.sum_congr rfl fun d _ => by ring

/-- The gradient of the keys, one query head's part. -/
theorem dkey (h0 : Heads (H := 16) e0 (fun b h => cd5 (E.o b h))) (h1 : ∀ j : S8x16.Idx, e1 j = ((sc5 (E.o (j 0).val (j 1).val) : ℝ) : EReal)) (i : S8x4x4x2048x128.Idx) :
    val_main_v181 (F := Ideal) (xA E) (kA E) (vA E) e0 e1 i = (((hd E (i 0).val (i 1).val (i 2).val).DK (i 3).val (i 4).val : ℝ) : EReal) := by
  refine (val_main_v181_apply (F := Ideal) (xA E) (kA E) (vA E) e0 e1 i).trans (mulE (b := (hd E (i 0).val (i 1).val (i 2).val).sq * smR) ((val_main_v176_apply (xA E) (kA E) (vA E) e0 e1 i).trans
    (sum_mul (a := fun q => (hd E (i 0).val (i 1).val (i 2).val).DS (i 3).val q * (1 / 256) * ((hd E (i 0).val (i 1).val (i 2).val).so * (hd E (i 0).val (i 1).val (i 2).val).sv))
      (b := fun q => (hd E (i 0).val (i 1).val (i 2).val).q q (i 4).val) (fun k => dscore E h0 h1 _) (fun k => q_group E _))) ?_ ?_)
  · refine (val_main_v180_apply (F := Ideal) (xA E) i).trans ((val_main_v179_apply (F := Ideal) (xA E) _).trans ((val_main_v178_apply (F := Ideal) (xA E) _).trans ?_))
    exact mulE (qs_group E _) ((val_main_v177_apply (F := Ideal) _).trans sm_ofBits) rfl
  · rw [Sp.DK, Finset.sum_mul, Finset.mul_sum]
    exact Finset.sum_congr rfl fun d _ => by ring

/-- The result array of the queries' gradient. -/
theorem dq_out (h0 : Heads (H := 16) e0 (fun b h => cd5 (E.o b h))) (h1 : ∀ j : S8x16.Idx, e1 j = ((sc5 (E.o (j 0).val (j 1).val) : ℝ) : EReal)) :
    val_main_v184 (F := Ideal) (xA E) (kA E) (vA E) e0 e1 = arr (A := 8) (B := 2048) (C := 2048) (fun b h => (E.sp b h).DQ) := by
  funext i
  have b0 : (i 0).val < 8 := (i 0).isLt
  have b1 : (i 1).val < 2048 := (i 1).isLt
  have b2 : (i 2).val < 2048 := (i 2).isLt
  refine (val_main_v184_apply (F := Ideal) (xA E) (kA E) (vA E) e0 e1 i).trans ((val_main_v183_apply (F := Ideal) (xA E) (kA E) (vA E) e0 e1 i).trans ?_)
  refine (val_main_v182_apply (F := Ideal) (xA E) (kA E) (vA E) e0 e1 _).trans ((dquery E h0 h1 _).trans ?_)
  show (((E.sp _ _).DQ _ _ : ℝ) : EReal) = (((E.sp (i 0).val ((i 2).val / 128)).DQ (i 1).val ((i 2).val % 128) : ℝ) : EReal)
  congr 3 <;> simp only [idx_main_v183, idx_main_v182] <;> first | omega | (congr 1 <;> omega)

/-- The result array of the keys' gradient. -/
theorem dk_out (h0 : Heads (H := 16) e0 (fun b h => cd5 (E.o b h))) (h1 : ∀ j : S8x16.Idx, e1 j = ((sc5 (E.o (j 0).val (j 1).val) : ℝ) : EReal)) :
    val_main_v188 (F := Ideal) (xA E) (kA E) (vA E) e0 e1 = arr (A := 8) (B := 2048) (C := 512) (fun b h => E.accK b h 4) := by
  funext i
  have b0 : (i 0).val < 8 := (i 0).isLt
  have b1 : (i 1).val < 2048 := (i 1).isLt
  have b2 : (i 2).val < 512 := (i 2).isLt
  refine (val_main_v188_apply (F := Ideal) (xA E) (kA E) (vA E) e0 e1 i).trans ((val_main_v187_apply (F := Ideal) (xA E) (kA E) (vA E) e0 e1 i).trans ?_)
  refine (val_main_v186_apply (F := Ideal) (xA E) (kA E) (vA E) e0 e1 _).trans ((val_main_v185_apply (xA E) (kA E) (vA E) e0 e1 _).trans ?_)
  refine sumE (a := fun j => (E.sp (i 0).val (4 * ((i 2).val / 128) + j)).DK (i 1).val ((i 2).val % 128)) zero (fun j => (dkey E h0 h1 _).trans ?_) rfl
  show (((E.sp _ _).DK _ _ : ℝ) : EReal) = (((E.sp _ _).DK _ _ : ℝ) : EReal)
  congr 3 <;> simp only [idx_main_v187, idx_main_v186, idx_main_v185] <;> first | omega | (congr 1 <;> omega)

/-- The result array of the values' gradient. -/
theorem dv_out (h0 : Heads (H := 16) e0 (fun b h => cd5 (E.o b h))) (h1 : ∀ j : S8x16.Idx, e1 j = ((sc5 (E.o (j 0).val (j 1).val) : ℝ) : EReal)) :
    val_main_v192 (F := Ideal) (xA E) (kA E) e0 e1 = arr (A := 8) (B := 2048) (C := 512) (fun b h => E.accV b h 4) := by
  funext i
  have b0 : (i 0).val < 8 := (i 0).isLt
  have b1 : (i 1).val < 2048 := (i 1).isLt
  have b2 : (i 2).val < 512 := (i 2).isLt
  refine (val_main_v192_apply (F := Ideal) (xA E) (kA E) e0 e1 i).trans ((val_main_v191_apply (F := Ideal) (xA E) (kA E) e0 e1 i).trans ?_)
  refine (val_main_v190_apply (F := Ideal) (xA E) (kA E) e0 e1 _).trans ((val_main_v189_apply (xA E) (kA E) e0 e1 _).trans ?_)
  refine sumE (a := fun j => (E.sp (i 0).val (4 * ((i 2).val / 128) + j)).DV (i 1).val ((i 2).val % 128)) zero (fun j => (dvalue E h0 h1 _).trans ?_) rfl
  show (((E.sp _ _).DV _ _ : ℝ) : EReal) = (((E.sp _ _).DV _ _ : ℝ) : EReal)
  congr 3 <;> simp only [idx_main_v191, idx_main_v190, idx_main_v189] <;> first | omega | (congr 1 <;> omega)

end Cert.ReferenceIdeal.Heads

end
-- ==== Proof.RefResults.lean ====
module

public import proofs.«01_k».proof.Proof.RefGrads

@[expose] public section

set_option backward.proofsInPublic true

noncomputable section

/-! The reference's run: its eleven results. -/

namespace Cert.ReferenceIdeal.Heads

open Cert.ReferenceIdeal Cert.ReferenceIdeal.Gen Cert.ReferenceIdeal.Read Cert.ReferenceIdeal.Value Idealize.ShloMosaic Idealize.ShloMosaic.TcCoe Cert.RefQuant Idealize.SL.Sem
open Cert.KernelIdeal.Loop (arr flat sc4 sc5 cd4 cd5 Env)

/-- An array of one real for each batch and head. -/
def tab {A B : ℕ} (f : ℕ → ℕ → ℝ) (j : (⟨2, ![A, B]⟩ : Shape).Idx) : EReal := ((f (j 0).val (j 1).val : ℝ) : EReal)

variable {m : (ℓ : Loc nD τ sig) → Buf (Elt Ideal) ℓ} {E : Env} {c : Dev nD}

/-- The inputs are the arrays of the heads `E`. -/
structure Inputs (m : (ℓ : Loc nD τ sig) → Buf (Elt Ideal) ℓ) (E : Env) (c : Dev nD) : Prop where
  x : m ((c.tc : Thread nD τ).loc main_arg0) = arr (A := 8) (B := 2048) (C := 2048) E.x
  k : m ((c.tc : Thread nD τ).loc main_arg1) = arr (A := 8) (B := 2048) (C := 512) E.k
  v : m ((c.tc : Thread nD τ).loc main_arg2) = arr (A := 8) (B := 2048) (C := 512) E.v
  o : m ((c.tc : Thread nD τ).loc main_arg3) = arr (A := 8) (B := 2048) (C := 2048) E.o

/-- The eleven results, and the arguments as they were. -/
structure Ends (m m' : (ℓ : Loc nD τ sig) → Buf (Elt Ideal) ℓ) (E : Env) (c : Dev nD) : Prop where
  dq : m' ((c.tc : Thread nD τ).loc main_v184) = arr (A := 8) (B := 2048) (C := 2048) (fun b h => (E.sp b h).DQ)
  dk : m' ((c.tc : Thread nD τ).loc main_v188) = arr (A := 8) (B := 2048) (C := 512) (fun b h => E.accK b h 4)
  dv : m' ((c.tc : Thread nD τ).loc main_v192) = arr (A := 8) (B := 2048) (C := 512) (fun b h => E.accV b h 4)
  qc : m' ((c.tc : Thread nD τ).loc main_v194) = arr (A := 8) (B := 2048) (C := 2048) (fun b h => cd4 (E.x b h))
  qs : m' ((c.tc : Thread nD τ).loc main_v44) = tab (A := 8) (B := 16) (fun b h => sc4 (E.x b h))
  kc : m' ((c.tc : Thread nD τ).loc main_v196) = arr (A := 8) (B := 2048) (C := 512) (fun b h => cd4 (E.k b h))
  ks : m' ((c.tc : Thread nD τ).loc main_v69) = tab (A := 8) (B := 4) (fun b h => sc4 (E.k b h))
  vc : m' ((c.tc : Thread nD τ).loc main_v198) = arr (A := 8) (B := 2048) (C := 512) (fun b h => cd4 (E.v b h))
  vs : m' ((c.tc : Thread nD τ).loc main_v94) = tab (A := 8) (B := 4) (fun b h => sc4 (E.v b h))
  oc : m' ((c.tc : Thread nD τ).loc main_v26) = arr (A := 8) (B := 2048) (C := 2048) (fun b h => cd5 (E.o b h))
  os : m' ((c.tc : Thread nD τ).loc main_v17) = tab (A := 8) (B := 16) (fun b h => sc5 (E.o b h))
  args : m' ((c.tc : Thread nD τ).loc main_arg0) = m ((c.tc : Thread nD τ).loc main_arg0)
    ∧ m' ((c.tc : Thread nD τ).loc main_arg1) = m ((c.tc : Thread nD τ).loc main_arg1)
    ∧ m' ((c.tc : Thread nD τ).loc main_arg2) = m ((c.tc : Thread nD τ).loc main_arg2)
    ∧ m' ((c.tc : Thread nD τ).loc main_arg3) = m ((c.tc : Thread nD τ).loc main_arg3)

/-- The inputs where the operations after the kernel region read them. -/
theorem Inputs.x' (h : Inputs m E c) : exitV m c (Proc.devRef .tc main_arg0) = arr (A := 8) (B := 2048) (C := 2048) E.x := (exit_main_arg0 m c).trans h.x
/-- The same of the keys. -/
theorem Inputs.k' (h : Inputs m E c) : exitV m c (Proc.devRef .tc main_arg1) = arr (A := 8) (B := 2048) (C := 512) E.k := (exit_main_arg1 m c).trans h.k
/-- The same of the values. -/
theorem Inputs.v' (h : Inputs m E c) : exitV m c (Proc.devRef .tc main_arg2) = arr (A := 8) (B := 2048) (C := 512) E.v := (exit_main_arg2 m c).trans h.v

/-- The gradients at the region's exit contents. -/
theorem end_dq (h : Inputs m E c) : val_main_v184 (F := Ideal) (exitV m c (Proc.devRef .tc main_arg0)) (exitV m c (Proc.devRef .tc main_arg1)) (exitV m c (Proc.devRef .tc main_arg2)) (exitV m c (Proc.devRef .tc main_v24)) (exitV m c (Proc.devRef .tc main_v17))
    = arr (A := 8) (B := 2048) (C := 2048) (fun b h => (E.sp b h).DQ) := by
  rw [h.x', h.k', h.v']
  exact dq_out E (o_codes h.o) (o_scale h.o)
/-- The keys' gradient. -/
theorem end_dk (h : Inputs m E c) : val_main_v188 (F := Ideal) (exitV m c (Proc.devRef .tc main_arg0)) (exitV m c (Proc.devRef .tc main_arg1)) (exitV m c (Proc.devRef .tc main_arg2)) (exitV m c (Proc.devRef .tc main_v24)) (exitV m c (Proc.devRef .tc main_v17))
    = arr (A := 8) (B := 2048) (C := 512) (fun b h => E.accK b h 4) := by
  rw [h.x', h.k', h.v']
  exact dk_out E (o_codes h.o) (o_scale h.o)
/-- The values' gradient. -/
theorem end_dv (h : Inputs m E c) : val_main_v192 (F := Ideal) (exitV m c (Proc.devRef .tc main_arg0)) (exitV m c (Proc.devRef .tc main_arg1)) (exitV m c (Proc.devRef .tc main_v24)) (exitV m c (Proc.devRef .tc main_v17))
    = arr (A := 8) (B := 2048) (C := 512) (fun b h => E.accV b h 4) := by
  rw [h.x', h.k']
  exact dv_out E (o_codes h.o) (o_scale h.o)

/-- The codes and scales there. -/
theorem end_qc (h : Inputs m E c) : val_main_v194 (F := Ideal) (exitV m c (Proc.devRef .tc main_arg0)) = arr (A := 8) (B := 2048) (C := 2048) (fun b h => cd4 (E.x b h)) := by
  rw [h.x']; exact q_out E.x
/-- The query scales. -/
theorem end_qs (h : Inputs m E c) : val_main_v44 (F := Ideal) (exitV m c (Proc.devRef .tc main_arg0)) = tab (A := 8) (B := 16) (fun b h => sc4 (E.x b h)) := by
  rw [h.x']; exact funext fun j => q_scale E.x j
/-- The key codes. -/
theorem end_kc (h : Inputs m E c) : val_main_v196 (F := Ideal) (exitV m c (Proc.devRef .tc main_arg1)) = arr (A := 8) (B := 2048) (C := 512) (fun b h => cd4 (E.k b h)) := by
  rw [h.k']; exact k_out E.k
/-- The key scales. -/
theorem end_ks (h : Inputs m E c) : val_main_v69 (F := Ideal) (exitV m c (Proc.devRef .tc main_arg1)) = tab (A := 8) (B := 4) (fun b h => sc4 (E.k b h)) := by
  rw [h.k']; exact funext fun j => k_scale E.k j
/-- The value codes. -/
theorem end_vc (h : Inputs m E c) : val_main_v198 (F := Ideal) (exitV m c (Proc.devRef .tc main_arg2)) = arr (A := 8) (B := 2048) (C := 512) (fun b h => cd4 (E.v b h)) := by
  rw [h.v']; exact v_out E.v
/-- The value scales. -/
theorem end_vs (h : Inputs m E c) : val_main_v94 (F := Ideal) (exitV m c (Proc.devRef .tc main_arg2)) = tab (A := 8) (B := 4) (fun b h => sc4 (E.v b h)) := by
  rw [h.v']; exact funext fun j => v_scale E.v j
/-- The scales of the output's gradient. -/
theorem end_os (h : Inputs m E c) : exitV m c (Proc.devRef .tc main_v17) = tab (A := 8) (B := 16) (fun b h => sc5 (E.o b h)) :=
  funext fun j => o_scale h.o j

/-- The reference's run. -/
theorem run_ends {E : Dev nD → Env} (h : ∀ c, Inputs m (E c) c) (ρ : Dev nD → PrngReg) :
    θ_run defs (onTc (τ := τ) (main (F := Ideal))) ⟨m, fun _ => 0, ρ⟩ fun r => ∀ c : Dev nD, Ends m r.2.mem (E c) c :=
  (θ_run defs _ _).mono (fun r H c => by
    obtain ⟨h0, h1, h2, h3, h4, h5, h6, h7, h8, h9, h10, ha⟩ := H c
    exact ⟨(h0.trans (val_main_v184_eq (exitV m c))).trans (end_dq (h c)), (h1.trans (val_main_v188_eq (exitV m c))).trans (end_dk (h c)), (h2.trans (val_main_v192_eq (exitV m c))).trans (end_dv (h c)),
      (h3.trans (val_main_v194_eq (exitV m c))).trans (end_qc (h c)), (h4.trans (val_main_v44_eq (exitV m c))).trans (end_qs (h c)),
      (h5.trans (val_main_v196_eq (exitV m c))).trans (end_kc (h c)), (h6.trans (val_main_v69_eq (exitV m c))).trans (end_ks (h c)),
      (h7.trans (val_main_v198_eq (exitV m c))).trans (end_vc (h c)), (h8.trans (val_main_v94_eq (exitV m c))).trans (end_vs (h c)),
      h9.trans (o_out (h c).o), (h10.trans (exit_main_v17 m c).symm).trans (end_os (h c)), ha⟩) (run m ρ)

end Cert.ReferenceIdeal.Heads

end
-- ==== Proof.PreRead.lean ====
module

public import proofs.«01_k».proof.Proof.RefHeads
public import proofs.«01_k».proof.Pre_inputs_in_range

@[expose] public section

set_option backward.proofsInPublic true

noncomputable section

/-! What the precondition says of the four inputs. -/

namespace Cert.RefQuant

open Idealize.ShloMosaic Cert.KernelIdeal.Loop

variable {H : ℕ}

/-- A conjunction of two bits. -/
theorem and_one (x y : BitVec 1) : IntOp.andi x y = 1#1 ↔ x = 1#1 ∧ y = 1#1 := by
  revert x y; decide
/-- A disjunction of two bits. -/
theorem or_one (x y : BitVec 1) : IntOp.ori x y = 1#1 ↔ x = 1#1 ∨ y = 1#1 := by
  revert x y; decide

/-- A conjunction of a list of bits. -/
theorem foldl_and {α : Type*} (l : List α) (f : α → BitVec 1) (b : BitVec 1) :
    l.foldl (fun r i => IntOp.andi r (f i)) b = 1#1 ↔ b = 1#1 ∧ ∀ i ∈ l, f i = 1#1 := by
  induction l generalizing b with
  | nil => simp
  | cons a l ih => simp [ih, and_one, and_assoc]

/-- A conjunction over axes holds only where every element does. -/
theorem hostAnd {s t u : Shape} {axes : List (Fin s.rank)} (x : s.Idx → BitVec 1) (init : u.Idx → BitVec 1) (h : s.ReducesTo axes t) (hu : 0 < u.numel) (j : t.Idx)
    (H : Host.reduce IntOp.andi x init h hu j = 1#1) (i : s.Idx) (hi : h.drop i = j) : x i = 1#1 := by
  rw [Host.reduce_eq_foldl] at H
  refine ((foldl_and _ x _).1 H).2 i (List.mem_filter.2 ⟨List.mem_map.2 ⟨s.rowMajor i, List.mem_finRange _, Equiv.symm_apply_apply _ _⟩, by simpa using hi⟩)

/-- The largest magnitudes, as the precondition takes them. -/
def amaxH (t : FVec Ideal (T4 H) .f32) (h : (T4 H).ReducesTo [1, 3] (T2 H)) (hu : 0 < S0.numel) : FVec Ideal (T2 H) .f32 :=
  Host.reduce FloatOps.maximumf (Host.absf t) (constant S0 .f32 0xFF800000#32) h hu

/-- The precondition's words for one input. -/
def okH (lo : BitVec 32) (t : FVec Ideal (T4 H) .f32) (h : (T4 H).ReducesTo [1, 3] (T2 H)) (hu : 0 < S0.numel) (hb : S0.BroadcastsInDim (T2 H) (![] : Fin 0 → Fin (T2 H).rank)) : IVec (T2 H) 1 :=
  ori (cmpf .oeq (amaxH t h hu) (broadcastInDim (T2 H) ![] hb (constant S0 .f32 0x00000000#32)))
    (andi (cmpf .oge (amaxH t h hu) (broadcastInDim (T2 H) ![] hb (constant S0 .f32 lo))) (cmpf .ole (amaxH t h hu) (broadcastInDim (T2 H) ![] hb (constant S0 .f32 0x7F7F0000#32))))

/-- The upper end of the range: 255 times two to the 120. -/
def hiR : ℝ := 338953138925153547590470800371487866880

/-- The upper end's word. -/
theorem ofBits_hi : Ideal.ofBits .f32 0x7F7F0000#32 = ((hiR : ℝ) : EReal) := by
  unfold hiR
  simp [Ideal.ofBits, Ideal.ieee, -EReal.coe_mul]; norm_num
/-- The e4m3 lower end's word. -/
theorem ofBits_lo117 : Ideal.ofBits .f32 0x05000000#32 = (((2 : ℝ) ^ (-117 : ℤ) : ℝ) : EReal) := by
  simp [Ideal.ofBits, Ideal.ieee, -EReal.coe_mul]; norm_num
/-- The e5m2 lower end's word. -/
theorem ofBits_lo110 : Ideal.ofBits .f32 0x08800000#32 = (((2 : ℝ) ^ (-110 : ℤ) : ℝ) : EReal) := by
  simp [Ideal.ofBits, Ideal.ieee, -EReal.coe_mul]; norm_num

/-- What it says of a head's largest magnitude. -/
theorem okH_at {lo : BitVec 32} {l : ℝ} (hl : Ideal.ofBits .f32 lo = ((l : ℝ) : EReal)) {t : FVec Ideal (T4 H) .f32} (h : (T4 H).ReducesTo [1, 3] (T2 H)) (hu : 0 < S0.numel)
    (hb : S0.BroadcastsInDim (T2 H) (![] : Fin 0 → Fin (T2 H).rank)) (j : (T2 H).Idx) (ho : okH lo t h hu hb j = 1#1) :
    amaxH t h hu j = ((0 : ℝ) : EReal) ∨ (((l : ℝ) : EReal) ≤ amaxH t h hu j ∧ amaxH t h hu j ≤ ((hiR : ℝ) : EReal)) := by
  have e0 := splat_at (t := T2 H) hb (constant S0 .f32 0x00000000#32) (a := ((0 : ℝ) : EReal)) (fun _ => zero) j
  have e1 := splat_at (t := T2 H) hb (constant S0 .f32 lo) (a := ((l : ℝ) : EReal)) (fun _ => hl) j
  have e2 := splat_at (t := T2 H) hb (constant S0 .f32 0x7F7F0000#32) (a := ((hiR : ℝ) : EReal)) (fun _ => ofBits_hi) j
  have hd (b : Bool) : BitVec.ofBool b = 1#1 ↔ b = true := by cases b <;> simp
  rcases (or_one _ _).1 ho with h1 | h1
  · left
    have h2 : Ideal.cmp .oeq (amaxH t h hu j) ((0 : ℝ) : EReal) = 1#1 := by rw [← e0]; exact h1
    exact of_decide_eq_true ((hd _).1 h2)
  · right
    obtain ⟨ha, hc⟩ := (and_one _ _).1 h1
    have h2 : Ideal.cmp .oge (amaxH t h hu j) ((l : ℝ) : EReal) = 1#1 := by rw [← e1]; exact ha
    have h3 : Ideal.cmp .ole (amaxH t h hu j) ((hiR : ℝ) : EReal) = 1#1 := by rw [← e2]; exact hc
    exact ⟨of_decide_eq_true ((hd _).1 h2), of_decide_eq_true ((hd _).1 h3)⟩

/-- An input that meets it is real. -/
theorem real_of {lo : BitVec 32} {l : ℝ} (hl : Ideal.ofBits .f32 lo = ((l : ℝ) : EReal)) {t : FVec Ideal (T4 H) .f32} (h : (T4 H).ReducesTo [1, 3] (T2 H)) (hu : 0 < S0.numel)
    (hb : S0.BroadcastsInDim (T2 H) (![] : Fin 0 → Fin (T2 H).rank)) (ho : ∀ j, okH lo t h hu hb j = 1#1) (i : (T4 H).Idx) : (((t i : EReal).toReal : ℝ) : EReal) = t i := by
  obtain ⟨r, hr⟩ : ∃ r : ℝ, amaxH t h hu (h.drop i) ≤ ((r : ℝ) : EReal) := by
    rcases okH_at hl h hu hb (h.drop i) (ho _) with h1 | h1
    · exact ⟨0, h1.le⟩
    · exact ⟨_, h1.2⟩
  have hm : max (t i : EReal) (-(t i : EReal)) ≤ ((r : ℝ) : EReal) := ((hostMax_le _ _ h hu _ _).1 hr).2 i rfl
  refine EReal.coe_toReal (ne_top_of_le_ne_top (EReal.coe_ne_top r) ((le_max_left _ _).trans hm)) fun e => ?_
  have h2 := (le_max_right _ _).trans hm
  rw [e, EReal.neg_bot] at h2
  exact EReal.coe_ne_top r (top_le_iff.1 h2)

/-- A head that meets it is in range. -/
theorem range_of {lo : BitVec 32} {l : ℝ} (hl : Ideal.ofBits .f32 lo = ((l : ℝ) : EReal)) {t : FVec Ideal (T4 H) .f32} {f : ℕ → ℕ → ℕ → ℕ → ℝ} (ht : Heads t f) (h : (T4 H).ReducesTo [1, 3] (T2 H)) (hu : 0 < S0.numel)
    (hb : S0.BroadcastsInDim (T2 H) (![] : Fin 0 → Fin (T2 H).rank)) (ho : ∀ j, okH lo t h hu hb j = 1#1) (b k : ℕ) (hb8 : b < 8) (hk : k < H) : InRange l (f b k) := by
  have e : amaxH t h hu (ix2 (n0 := 8) (n1 := H) ⟨b, hb8⟩ ⟨k, hk⟩) = ((big (f b k) : ℝ) : EReal) := amax_heads ht h hu _
  have h1 := okH_at hl h hu hb _ (ho (ix2 (n0 := 8) (n1 := H) ⟨b, hb8⟩ ⟨k, hk⟩))
  rw [e] at h1
  rcases h1 with h1 | ⟨h1, h2⟩
  · exact .inl (EReal.coe_eq_coe_iff.1 h1)
  · refine .inr ⟨EReal.coe_le_coe_iff.1 h1, (EReal.coe_le_coe_iff.1 h2).trans_lt ?_⟩
    unfold hiR; norm_num

end Cert.RefQuant

namespace Cert.ReferenceIdeal.Heads

open Cert.ReferenceIdeal Cert.ReferenceIdeal.Gen Cert.ReferenceIdeal.Read Idealize.ShloMosaic Cert.RefQuant
open Cert.KernelIdeal.Loop (arr flat big InRange)

/-- An array's heads, as reals. -/
def heads {C : ℕ} (x : (⟨3, ![8, 2048, C]⟩ : Shape).Idx → EReal) (b h r d : ℕ) : ℝ :=
  if H : b < 8 ∧ r < 2048 ∧ 128 * h + d < C then (x (ix3 (n0 := 8) (n1 := 2048) (n2 := C) ⟨b, H.1⟩ ⟨r, H.2.1⟩ ⟨128 * h + d, H.2.2⟩)).toReal else 0

/-- A real array is the array of its heads. -/
theorem arr_heads {C : ℕ} (x : (⟨3, ![8, 2048, C]⟩ : Shape).Idx → EReal) (hx : ∀ i, (((x i).toReal : ℝ) : EReal) = x i) : x = arr (A := 8) (B := 2048) (C := C) (heads x) := by
  funext i
  have h0 : (i 0).val < 8 := (i 0).isLt
  have h1 : (i 1).val < 2048 := (i 1).isLt
  have h2 : (i 2).val < C := (i 2).isLt
  have e : 128 * ((i 2).val / 128) + (i 2).val % 128 = (i 2).val := Nat.div_add_mod _ _
  show x i = ((heads x (i 0).val ((i 2).val / 128) (i 1).val ((i 2).val % 128) : ℝ) : EReal)
  rw [heads, dif_pos ⟨h0, h1, by omega⟩]
  refine (hx i).symm.trans (congrArg (fun z => (((x z).toReal : ℝ) : EReal)) ?_)
  refine (eq_ix3 (n0 := 8) (n1 := 2048) (n2 := C) i).trans ?_
  congr 1
  exact Fin.ext e.symm

/-- Every element of an array of 16 heads is an element of a head. -/
theorem elem16 (x : FVec Ideal S8x2048x2048 .bf16) (i : S8x2048x2048.Idx) : ∃ j, val_main_v28 (F := Ideal) x j = x i := by
  have h0 : (i 0).val < 8 := (i 0).isLt
  have h1 : (i 1).val < 2048 := (i 1).isLt
  have h2 : (i 2).val < 2048 := (i 2).isLt
  refine ⟨ix4 (n0 := 8) (n1 := 2048) (n2 := 16) (n3 := 128) (i 0) (i 1) ⟨(i 2).val / 128, by omega⟩ ⟨(i 2).val % 128, by omega⟩, ?_⟩
  refine (val_main_v27_apply (F := Ideal) x _).trans (congrArg x ?_)
  funext a
  fin_cases a <;> apply Fin.ext <;> simp [idx_main_v27, ix4] <;> omega

/-- The same of 4 heads. -/
theorem elem4 (x : FVec Ideal S8x2048x512 .bf16) (i : S8x2048x512.Idx) : ∃ j, val_main_v53 (F := Ideal) x j = x i := by
  have h0 : (i 0).val < 8 := (i 0).isLt
  have h1 : (i 1).val < 2048 := (i 1).isLt
  have h2 : (i 2).val < 512 := (i 2).isLt
  refine ⟨ix4 (n0 := 8) (n1 := 2048) (n2 := 4) (n3 := 128) (i 0) (i 1) ⟨(i 2).val / 128, by omega⟩ ⟨(i 2).val % 128, by omega⟩, ?_⟩
  refine (val_main_v52_apply (F := Ideal) x _).trans (congrArg x ?_)
  funext a
  fin_cases a <;> apply Fin.ext <;> simp [idx_main_v52, ix4] <;> omega

end Cert.ReferenceIdeal.Heads

namespace Cert.Pre_inputs_in_range

open Idealize.ShloMosaic Cert.RefQuant Cert.ReferenceIdeal.Read Cert.ReferenceIdeal.Heads
open Cert.KernelIdeal.Loop (arr InRange)
open Facts

instance facts : Facts := by constructor <;> first | decide | exact Cert.ReferenceIdeal.Gen.facts.bitsLt_bf16_f32

variable {x : FVec Ideal S8x2048x2048 .bf16} {k v : FVec Ideal S8x2048x512 .bf16} {o : FVec Ideal S8x2048x2048 .bf16}

/-- The precondition, input by input. -/
theorem parts (h : fn (F := Ideal) x k v o = fun _ => 1#1) :
    (∀ j, okH (H := 16) 0x05000000#32 (val_main_v28 (F := Ideal) x) reducesTo_S8x2048x16x128_S8x16_d1_3 h_S_ bcast_S_S8x16 j = 1#1)
    ∧ (∀ j, okH (H := 4) 0x05000000#32 (val_main_v53 (F := Ideal) k) reducesTo_S8x2048x4x128_S8x4_d1_3 h_S_ bcast_S_S8x4 j = 1#1)
    ∧ (∀ j, okH (H := 4) 0x05000000#32 (val_main_v53 (F := Ideal) v) reducesTo_S8x2048x4x128_S8x4_d1_3 h_S_ bcast_S_S8x4 j = 1#1)
    ∧ (∀ j, okH (H := 16) 0x08800000#32 (val_main_v28 (F := Ideal) o) reducesTo_S8x2048x16x128_S8x16_d1_3 h_S_ bcast_S_S8x16 j = 1#1) := by
  have h0 := congrFun h (Shape.Idx.first h_S_)
  have one (j : S_.Idx) : j = Shape.Idx.first h_S_ := funext fun a => a.elim0
  obtain ⟨h1, ho⟩ := (and_one _ _).1 h0
  obtain ⟨h2, hv⟩ := (and_one _ _).1 h1
  obtain ⟨hx, hk⟩ := (and_one _ _).1 h2
  exact ⟨fun j => hostAnd _ _ _ _ _ hx j (one _), fun j => hostAnd _ _ _ _ _ hk j (one _), fun j => hostAnd _ _ _ _ _ hv j (one _), fun j => hostAnd _ _ _ _ _ ho j (one _)⟩

/-- 16 heads' array meeting the precondition: it is real, and each head is in range. -/
theorem read16 {lo : BitVec 32} {l : ℝ} (hl : Ideal.ofBits .f32 lo = ((l : ℝ) : EReal)) (x : FVec Ideal S8x2048x2048 .bf16)
    (h : ∀ j, okH (H := 16) lo (val_main_v28 (F := Ideal) x) reducesTo_S8x2048x16x128_S8x16_d1_3 h_S_ bcast_S_S8x16 j = 1#1) :
    x = arr (A := 8) (B := 2048) (C := 2048) (heads (C := 2048) x) ∧ ∀ b < 8, ∀ k < 16, InRange l (heads (C := 2048) x b k) := by
  have e : x = arr (A := 8) (B := 2048) (C := 2048) (heads (C := 2048) x) := arr_heads (C := 2048) x fun i => by
    obtain ⟨j, hj⟩ := elem16 x i
    have := real_of (H := 16) hl _ _ _ h j
    rw [hj] at this
    exact this
  refine ⟨e, fun b hb k hk => range_of (H := 16) hl (t := val_main_v28 (F := Ideal) x) ?_ _ _ _ h b k hb hk⟩
  have s := split16 (heads (C := 2048) x)
  rw [← e] at s
  exact s

/-- 4 heads' array meeting the precondition. -/
theorem read4 {lo : BitVec 32} {l : ℝ} (hl : Ideal.ofBits .f32 lo = ((l : ℝ) : EReal)) (x : FVec Ideal S8x2048x512 .bf16)
    (h : ∀ j, okH (H := 4) lo (val_main_v53 (F := Ideal) x) reducesTo_S8x2048x4x128_S8x4_d1_3 h_S_ bcast_S_S8x4 j = 1#1) :
    x = arr (A := 8) (B := 2048) (C := 512) (heads (C := 512) x) ∧ ∀ b < 8, ∀ k < 4, InRange l (heads (C := 512) x b k) := by
  have e : x = arr (A := 8) (B := 2048) (C := 512) (heads (C := 512) x) := arr_heads (C := 512) x fun i => by
    obtain ⟨j, hj⟩ := elem4 x i
    have := real_of (H := 4) hl _ _ _ h j
    rw [hj] at this
    exact this
  refine ⟨e, fun b hb k hk => range_of (H := 4) hl (t := val_main_v53 (F := Ideal) x) ?_ _ _ _ h b k hb hk⟩
  have s := split4 (heads (C := 512) x)
  rw [← e] at s
  exact s

end Cert.Pre_inputs_in_range

end
-- ==== Proof.lean ====
module

public import proofs.«01_k».proof.Proof.Gen.ReferenceIdeal.Run
public import proofs.«01_k».proof.Proof.Gen.ReferenceIdeal.Read
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.KernelFrame
public import proofs.«01_k».proof.Proof.KernelIdealFrame
public import proofs.«01_k».proof.Proof.Arrays
public import proofs.«01_k».proof.Proof.RefResults
public import proofs.«01_k».proof.Proof.PreRead
public import Idealize.ShloMosaic.Lib.Claim
public import Idealize.ShloMosaic.Adequacy
public import Idealize.ShloMosaic.Init

@[expose] public section

noncomputable section

namespace Cert.Proof

open Idealize.ShloMosaic Idealize.SL.Sem Idealize.ShloMosaic.TcCoe
open Cert.RefQuant Cert.ReferenceIdeal.Heads
open Cert.KernelIdeal.Loop (arr flat Env sc4 sc5 cd4 cd5 InRange At3 At2)

/-- The heads of the four inputs of the idealized kernel, as real numbers. -/
def env (m : (ℓ : Loc Cert.KernelIdeal.nD Cert.KernelIdeal.τ Cert.KernelIdeal.sig) → Buf (Elt Ideal) ℓ) (c : Dev Cert.KernelIdeal.nD) : Env where
  x := heads (C := 2048) (m ((c.tc : Thread Cert.KernelIdeal.nD Cert.KernelIdeal.τ).loc Cert.KernelIdeal.main_arg0))
  k := heads (C := 512) (m ((c.tc : Thread Cert.KernelIdeal.nD Cert.KernelIdeal.τ).loc Cert.KernelIdeal.main_arg1))
  v := heads (C := 512) (m ((c.tc : Thread Cert.KernelIdeal.nD Cert.KernelIdeal.τ).loc Cert.KernelIdeal.main_arg2))
  o := heads (C := 2048) (m ((c.tc : Thread Cert.KernelIdeal.nD Cert.KernelIdeal.τ).loc Cert.KernelIdeal.main_arg3))

/-- What the precondition gives on a core: the inputs are the arrays of their heads, and every head is in range. -/
structure Given (m : (ℓ : Loc Cert.KernelIdeal.nD Cert.KernelIdeal.τ Cert.KernelIdeal.sig) → Buf (Elt Ideal) ℓ) (c : Dev Cert.KernelIdeal.nD) : Prop where
  x : m ((c.tc : Thread Cert.KernelIdeal.nD Cert.KernelIdeal.τ).loc Cert.KernelIdeal.main_arg0) = arr (A := 8) (B := 2048) (C := 2048) (env m c).x
  k : m ((c.tc : Thread Cert.KernelIdeal.nD Cert.KernelIdeal.τ).loc Cert.KernelIdeal.main_arg1) = arr (A := 8) (B := 2048) (C := 512) (env m c).k
  v : m ((c.tc : Thread Cert.KernelIdeal.nD Cert.KernelIdeal.τ).loc Cert.KernelIdeal.main_arg2) = arr (A := 8) (B := 2048) (C := 512) (env m c).v
  o : m ((c.tc : Thread Cert.KernelIdeal.nD Cert.KernelIdeal.τ).loc Cert.KernelIdeal.main_arg3) = arr (A := 8) (B := 2048) (C := 2048) (env m c).o
  ok : (env m c).Ok

/-- The precondition, read. -/
theorem given {m : (ℓ : Loc Cert.KernelIdeal.nD Cert.KernelIdeal.τ Cert.KernelIdeal.sig) → Buf (Elt Ideal) ℓ} (h : Cert.Pre_KernelIdeal_inputs_in_range m) (c : Dev Cert.KernelIdeal.nD) : Given m c := by
  obtain ⟨hx, hk, hv, ho⟩ := Cert.Pre_inputs_in_range.parts (h c)
  obtain ⟨ex, rx⟩ := Cert.Pre_inputs_in_range.read16 ofBits_lo117 _ hx
  obtain ⟨ek, rk⟩ := Cert.Pre_inputs_in_range.read4 ofBits_lo117 _ hk
  obtain ⟨ev, rv⟩ := Cert.Pre_inputs_in_range.read4 ofBits_lo117 _ hv
  obtain ⟨eo, ro⟩ := Cert.Pre_inputs_in_range.read16 ofBits_lo110 _ ho
  exact ⟨ex, ek, ev, eo, fun b hb h hh => ⟨rx b hb h hh, rk b hb (h / 4) (by omega), rv b hb (h / 4) (by omega), ro b hb h hh⟩⟩

/-- The kernel's inputs as its proof reads them. -/
theorem Given.inp {m : (ℓ : Loc Cert.KernelIdeal.nD Cert.KernelIdeal.τ Cert.KernelIdeal.sig) → Buf (Elt Ideal) ℓ} {c : Dev Cert.KernelIdeal.nD} (h : Given m c) : (env m c).In m c :=
  ⟨fun z r d => congrFun h.x (ix3 z r d), fun z r d => congrFun h.k (ix3 z r d), fun z r d => congrFun h.v (ix3 z r d), fun z r d => congrFun h.o (ix3 z r d)⟩

/-- A table known entry by entry. -/
theorem tab_of {A B : ℕ} {X : (⟨2, ![A, B]⟩ : Shape).Idx → EReal} {f : ℕ → ℕ → ℝ} (h : At2 X (fun r c => ((f r c : ℝ) : EReal))) : X = tab f := by
  funext j
  refine (congrArg X ?_).trans (h (j 0) (j 1))
  funext a; fin_cases a <;> rfl

/-- The kernel's run ends with the gradients, codes and scales that the reference's run ends with. -/
theorem algebraic : Cert.algebraic_KernelIdeal_ReferenceIdeal_pre_inputs_in_range (hKernelIdeal := Cert.KernelIdeal.Gen.facts) (hReferenceIdeal := Cert.ReferenceIdeal.Gen.facts) (hPre_inputs_in_range := Cert.Pre_inputs_in_range.facts) := by
  intro m g m' g' hpre hagree
  have G := given hpre
  have I : ∀ c, Inputs m' (env m c) c := fun c =>
    ⟨(hagree c).1.trans (G c).x, (hagree c).2.1.trans (G c).k, (hagree c).2.2.1.trans (G c).v, (hagree c).2.2.2.trans (G c).o⟩
  refine ⟨fun c => arr (A := 8) (B := 2048) (C := 2048) (fun b h => ((env m c).sp b h).DQ), fun c => arr (A := 8) (B := 2048) (C := 512) (fun b h => (env m c).accK b h 4),
    fun c => arr (A := 8) (B := 2048) (C := 512) (fun b h => (env m c).accV b h 4), fun c => arr (A := 8) (B := 2048) (C := 2048) (fun b h => cd4 ((env m c).x b h)),
    fun c => tab (A := 8) (B := 16) (fun b h => sc4 ((env m c).x b h)), fun c => arr (A := 8) (B := 2048) (C := 512) (fun b h => cd4 ((env m c).k b h)),
    fun c => tab (A := 8) (B := 4) (fun b h => sc4 ((env m c).k b h)), fun c => arr (A := 8) (B := 2048) (C := 512) (fun b h => cd4 ((env m c).v b h)),
    fun c => tab (A := 8) (B := 4) (fun b h => sc4 ((env m c).v b h)), fun c => arr (A := 8) (B := 2048) (C := 2048) (fun b h => cd5 ((env m c).o b h)),
    fun c => tab (A := 8) (B := 16) (fun b h => sc5 ((env m c).o b h)), ?_, ?_⟩
  · refine θ_run_mono (Cert.KernelIdeal.Loop.run_main (m := m) g (E := env m) (fun c => (G c).ok) (fun c => (G c).inp)) fun r hr c => ?_
    have D := Cert.KernelIdeal.Loop.done hr.1 c
    exact ⟨D.dq, D.dk, D.dv, D.qc, tab_of D.qs, D.kc, tab_of D.ks, D.vc, tab_of D.vs, D.oc, tab_of D.os,
      hr.1.arr_in c 0 rfl, hr.1.arr_in c 1 rfl, hr.1.arr_in c 2 rfl, hr.1.arr_in c 3 rfl⟩
  · refine θ_run_mono (run_ends I g') fun r hr c => ?_
    have D := hr c
    exact ⟨D.dq, D.dk, D.dv, D.qc, D.qs, D.kc, D.ks, D.vc, D.vs, D.oc, D.os, D.args⟩

/-- All the claims: the three frames, that the idealized kernel is the kernel's own text, and that it computes what the reference computes. -/
theorem claim : Cert.Claim :=
  ⟨Cert.Kernel.Gen.facts, Cert.KernelIdeal.Gen.facts, Cert.ReferenceIdeal.Gen.facts, Cert.Pre_inputs_in_range.facts,
    fun m ρ _ => Cert.Kernel.Body.frame m ρ, fun m ρ _ => Cert.KernelIdeal.Body.frame m ρ, fun m ρ _ => Cert.KernelIdeal.Body.frame m ρ,
    fun m ρ _ => Cert.ReferenceIdeal.Gen.frame m ρ, fun m ρ _ => Cert.ReferenceIdeal.Gen.frame m ρ, trivial, algebraic⟩

end Cert.Proof

end
